-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x1024 : Shape := ⟨3, ![4, 4096, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x1024 : Shape := ⟨2, ![1, 1024]⟩
abbrev S1024x5632 : Shape := ⟨2, ![1024, 5632]⟩
abbrev S5632 : Shape := ⟨1, ![5632]⟩
abbrev S2816x1024 : Shape := ⟨2, ![2816, 1024]⟩
abbrev S1024 : Shape := ⟨1, ![1024]⟩
abbrev S544x1024 : Shape := ⟨2, ![544, 1024]⟩
abbrev S2x2x1088x128 : Shape := ⟨4, ![2, 2, 1088, 128]⟩
abbrev S2x512x256 : Shape := ⟨3, ![2, 512, 256]⟩
abbrev S512x1024 : Shape := ⟨2, ![512, 1024]⟩
abbrev S2x1x16x1024 : Shape := ⟨4, ![2, 1, 16, 1024]⟩
abbrev S2 : Shape := ⟨1, ![2]⟩
abbrev S2x1x512x1024 : Shape := ⟨4, ![2, 1, 512, 1024]⟩
abbrev S1 : Shape := ⟨1, ![1]⟩
abbrev S_ : Shape := ⟨0, ![]⟩
abbrev S1x1x16x1024 : Shape := ⟨4, ![1, 1, 16, 1024]⟩
abbrev S1x16x1024 : Shape := ⟨3, ![1, 16, 1024]⟩
abbrev S1x1x512x1024 : Shape := ⟨4, ![1, 1, 512, 1024]⟩
abbrev S1x512x1024 : Shape := ⟨3, ![1, 512, 1024]⟩
abbrev S16x1024 : Shape := ⟨2, ![16, 1024]⟩
abbrev S288x1024 : Shape := ⟨2, ![288, 1024]⟩
abbrev S1024x256 : Shape := ⟨2, ![1024, 256]⟩
abbrev S288x256 : Shape := ⟨2, ![288, 256]⟩
abbrev S288x128 : Shape := ⟨2, ![288, 128]⟩
abbrev S1x1x288x128 : Shape := ⟨4, ![1, 1, 288, 128]⟩
abbrev S1x3x128 : Shape := ⟨3, ![1, 3, 128]⟩
abbrev S3x128 : Shape := ⟨2, ![3, 128]⟩
abbrev S1x128 : Shape := ⟨2, ![1, 128]⟩
abbrev S32x128 : Shape := ⟨2, ![32, 128]⟩
abbrev S256x1024 : Shape := ⟨2, ![256, 1024]⟩
abbrev S256x256 : Shape := ⟨2, ![256, 256]⟩
abbrev S256x128 : Shape := ⟨2, ![256, 128]⟩
abbrev S1x1x256x128 : Shape := ⟨4, ![1, 1, 256, 128]⟩
abbrev S1x1x32x128 : Shape := ⟨4, ![1, 1, 32, 128]⟩
abbrev S32x256 : Shape := ⟨2, ![32, 256]⟩
abbrev S1x32x256 : Shape := ⟨3, ![1, 32, 256]⟩
abbrev S1x256x256 : Shape := ⟨3, ![1, 256, 256]⟩
abbrev S1x256x1024 : Shape := ⟨3, ![1, 256, 1024]⟩
abbrev S256 : Shape := ⟨1, ![256]⟩
abbrev S256x1 : Shape := ⟨2, ![256, 1]⟩

abbrev nBuf : Space → Nat
  | .hbm => 18
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S1x1024x5632, .f32⟩
  | .hbm, ⟨2, _⟩ => ⟨S1x3x5632, .f32⟩
  | .hbm, ⟨3, _⟩ => ⟨S1x5632, .f32⟩
  | .hbm, ⟨4, _⟩ => ⟨S1x2816x1024, .f32⟩
  | .hbm, ⟨5, _⟩ => ⟨S1x1024, .f32⟩
  | .hbm, ⟨6, _⟩ => ⟨S1x1024, .f32⟩
  | .hbm, ⟨7, _⟩ => ⟨S1024x5632, .f32⟩
  | .hbm, ⟨8, _⟩ => ⟨S1024x5632, .bf16⟩
  | .hbm, ⟨9, _⟩ => ⟨S5632, .f32⟩
  | .hbm, ⟨10, _⟩ => ⟨S1x5632, .f32⟩
  | .hbm, ⟨11, _⟩ => ⟨S2816x1024, .f32⟩
  | .hbm, ⟨12, _⟩ => ⟨S2816x1024, .bf16⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S4x4096x1024, .f32⟩
  | .local _ .vmem, ⟨0, _⟩ => ⟨S1024x5632, .bf16⟩
  | .local _ .vmem, ⟨1, _⟩ => ⟨S1x3x5632, .f32⟩
  | .local _ .vmem, ⟨2, _⟩ => ⟨S1x5632, .f32⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S544x1024, .bf16⟩
  | .local _ .vmem, ⟨7, _⟩ => ⟨S2x2x1088x128, .f32⟩
  | .local _ .vmem, ⟨8, _⟩ => ⟨S2x2x1088x128, .f32⟩
  | .local _ .vmem, ⟨9, _⟩ => ⟨S2x512x256, .bf16⟩
  | .local _ .vmem, ⟨10, _⟩ => ⟨S512x1024, .f32⟩
  | .local _ .vmem, ⟨11, _⟩ => ⟨S2x1x16x1024, .f32⟩
  | .local _ .vmem, ⟨12, _⟩ => ⟨S2x1x512x1024, .f32⟩
  | .local _ .vmem, ⟨13, _⟩ => ⟨S2x1x16x1024, .f32⟩
  | .local _ .vmem, ⟨14, _⟩ => ⟨S2x1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scoped0 : Ref sig .tc := ⟨.vmem, 11, rfl⟩
abbrev cc0_scoped2 : Ref sig .tc := ⟨.vmem, 12, rfl⟩
abbrev cc0_scoped4 : Ref sig .tc := ⟨.vmem, 13, rfl⟩
abbrev cc0_scoped6 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

def k0_off1 : Fin 1 → Nat :=
  let c0_i32_26_r0 : BitVec 32 := 0#32
  let c2_i32_r0 : BitVec 32 := 2#32
  let v30_r0 : BitVec 32 := Scalar.remui c0_i32_26_r0 c2_i32_r0
  ![v30_r0.toNat]
def k0_off2 : Fin 4 → Nat :=
  let c0_i32_26_r0 : BitVec 32 := 0#32
  let c2_i32_r0 : BitVec 32 := 2#32
  let v30_r0 : BitVec 32 := Scalar.remui c0_i32_26_r0 c2_i32_r0
  let c0_i32_29_r0 : BitVec 32 := 0#32
  let c0_i32_30_r0 : BitVec 32 := 0#32
  let c0_i32_31_r0 : BitVec 32 := 0#32
  ![v30_r0.toNat, 0, 0, 0]
def k0_off3 : Fin 3 → Nat :=
  let c0_i32_32_r0 : BitVec 32 := 0#32
  let c16_i32_r0 : BitVec 32 := 16#32
  let c_m1_i32_27_r0 : BitVec 32 := 4294967295#32
  let c0_i32_28_r0 : BitVec 32 := 0#32
  let v31_r0 : BitVec 32 := Scalar.maxsi c_m1_i32_27_r0 c0_i32_28_r0
  let v32_r0 : BitVec 32 := Scalar.muli c16_i32_r0 v31_r0
  let c0_i32_33_r0 : BitVec 32 := 0#32
  ![0, v32_r0.toNat, 0]
def k0_off4 : Fin 4 → Nat :=
  let c0_i32_36_r0 : BitVec 32 := 0#32
  let c2_i32_37_r0 : BitVec 32 := 2#32
  let v39_r0 : BitVec 32 := Scalar.remui c0_i32_36_r0 c2_i32_37_r0
  let c0_i32_38_r0 : BitVec 32 := 0#32
  let c0_i32_39_r0 : BitVec 32 := 0#32
  let c0_i32_40_r0 : BitVec 32 := 0#32
  ![v39_r0.toNat, 0, 0, 0]
def k0_off5 : Fin 3 → Nat :=
  let c0_i32_52_r0 : BitVec 32 := 0#32
  let c16_i32_48_r0 : BitVec 32 := 16#32
  let c32_i32_r0 : BitVec 32 := 32#32
  let c255_i32_r0 : BitVec 32 := 255#32
  let v47_r0 : BitVec 32 := Scalar.minsi c32_i32_r0 c255_i32_r0
  let v48_r0 : BitVec 32 := Scalar.muli c16_i32_48_r0 v47_r0
  let c0_i32_53_r0 : BitVec 32 := 0#32
  ![0, v48_r0.toNat, 0]
@[reducible] def k0_t1_loop : Scf.Loop 32 :=
  let c0_i32_63_r0 : BitVec 32 := 0#32
  let c32_i32_64_r0 : BitVec 32 := 32#32
  let v55_r0 : BitVec 32 := Scalar.addi c0_i32_63_r0 c32_i32_64_r0
  let c1_i32_65_r0 : BitVec 32 := 1#32
  ⟨c0_i32_63_r0, v55_r0, c1_i32_65_r0⟩
def k0_off6 (arg14_r0 : BitVec 32) : Fin 1 → Nat :=
  let c2_i32_11235_r0 : BitVec 32 := 2#32
  let v14329_r0 : BitVec 32 := Scalar.remui arg14_r0 c2_i32_11235_r0
  ![v14329_r0.toNat]
def k0_cond1 (k0_t1 : Fin k0_t1_loop.trips) (arg22_r0 : BitVec 32) (arg23_r0 : BitVec 32) : BitVec 1 :=
  let c0_i32_110_r0 : BitVec 32 := 0#32
  let v107_r0 : BitVec 32 := Scalar.addi arg22_r0 c0_i32_110_r0
  let true_122_r0 : BitVec 1 := 1#1
  let c1_i32_121_r0 : BitVec 32 := 1#32
  let v119_r0 : BitVec 32 := Scalar.addi arg23_r0 c1_i32_121_r0
  let v120_r0 : BitVec 32 := Scalar.select true_122_r0 v119_r0 arg23_r0
  let c8_i32_123_r0 : BitVec 32 := 8#32
  let v121_r0 : BitVec 1 := Scalar.cmpi .eq v120_r0 c8_i32_123_r0
  let c1_i32_125_r0 : BitVec 32 := 1#32
  let v123_r0 : BitVec 32 := Scalar.addi arg22_r0 c1_i32_125_r0
  let v124_r0 : BitVec 32 := Scalar.select v121_r0 v123_r0 arg22_r0
  let c4_i32_126_r0 : BitVec 32 := 4#32
  let v125_r0 : BitVec 1 := Scalar.cmpi .eq v124_r0 c4_i32_126_r0
  let c0_i32_127_r0 : BitVec 32 := 0#32
  let v126_r0 : BitVec 32 := Scalar.select v125_r0 c0_i32_127_r0 v124_r0
  let c0_i32_128_r0 : BitVec 32 := 0#32
  let v127_r0 : BitVec 32 := Scalar.addi v126_r0 c0_i32_128_r0
  let v145_r0 : BitVec 1 := Scalar.cmpi .ne v107_r0 v127_r0
  let c0_i32_111_r0 : BitVec 32 := 0#32
  let v108_r0 : BitVec 32 := Scalar.addi arg23_r0 c0_i32_111_r0
  let c32_i32_139_r0 : BitVec 32 := 32#32
  let v139_r0 : BitVec 32 := Scalar.muli v108_r0 c32_i32_139_r0
  let c1_i32_140_r0 : BitVec 32 := 1#32
  let v140_r0 : BitVec 32 := Scalar.subi v139_r0 c1_i32_140_r0
  let c0_i32_141_r0 : BitVec 32 := 0#32
  let v141_r0 : BitVec 32 := Scalar.maxsi v140_r0 c0_i32_141_r0
  let c0_i32_124_r0 : BitVec 32 := 0#32
  let v122_r0 : BitVec 32 := Scalar.select v121_r0 c0_i32_124_r0 v120_r0
  let c0_i32_129_r0 : BitVec 32 := 0#32
  let v128_r0 : BitVec 32 := Scalar.addi v122_r0 c0_i32_129_r0
  let c32_i32_142_r0 : BitVec 32 := 32#32
  let v142_r0 : BitVec 32 := Scalar.muli v128_r0 c32_i32_142_r0
  let c1_i32_143_r0 : BitVec 32 := 1#32
  let v143_r0 : BitVec 32 := Scalar.subi v142_r0 c1_i32_143_r0
  let c0_i32_144_r0 : BitVec 32 := 0#32
  let v144_r0 : BitVec 32 := Scalar.maxsi v143_r0 c0_i32_144_r0
  let v146_r0 : BitVec 1 := Scalar.cmpi .ne v141_r0 v144_r0
  let v147_r0 : BitVec 1 := Scalar.ori v145_r0 v146_r0
  let c0_i32_63_r0 : BitVec 32 := 0#32
  let c1_i32_65_r0 : BitVec 32 := 1#32
  let arg13_r0 : BitVec 32 := Scf.iv c0_i32_63_r0 c1_i32_65_r0 k0_t1
  let c31_i32_145_r0 : BitVec 32 := 31#32
  let v148_r0 : BitVec 1 := Scalar.cmpi .sge arg13_r0 c31_i32_145_r0
  let true_146_r0 : BitVec 1 := 1#1
  let v149_r0 : BitVec 1 := Scalar.xori v148_r0 true_146_r0
  let v150_r0 : BitVec 1 := Scalar.andi v147_r0 v149_r0
  let true_147_r0 : BitVec 1 := 1#1
  let v151_r0 : BitVec 1 := Scalar.andi v150_r0 true_147_r0
  let v152_r0 : BitVec 32 := Scalar.extui v151_r0
  let c0_i32_148_r0 : BitVec 32 := 0#32
  let v153_r0 : BitVec 1 := Scalar.cmpi .ne v152_r0 c0_i32_148_r0
  v153_r0

def k0_off7 (arg14_r0 : BitVec 32) : Fin 4 → Nat :=
  let c2_i32_11235_r0 : BitVec 32 := 2#32
  let v14329_r0 : BitVec 32 := Scalar.remui arg14_r0 c2_i32_11235_r0
  let c0_i32_11241_r0 : BitVec 32 := 0#32
  let c0_i32_11242_r0 : BitVec 32 := 0#32
  let c0_i32_11243_r0 : BitVec 32 := 0#32
  ![v14329_r0.toNat, 0, 0, 0]
def k0_off8 (arg22_r0 : BitVec 32) (arg23_r0 : BitVec 32) : Fin 3 → Nat :=
  let c1_i32_11239_r0 : BitVec 32 := 1#32
  let true_122_r0 : BitVec 1 := 1#1
  let c1_i32_121_r0 : BitVec 32 := 1#32
  let v119_r0 : BitVec 32 := Scalar.addi arg23_r0 c1_i32_121_r0
  let v120_r0 : BitVec 32 := Scalar.select true_122_r0 v119_r0 arg23_r0
  let c8_i32_123_r0 : BitVec 32 := 8#32
  let v121_r0 : BitVec 1 := Scalar.cmpi .eq v120_r0 c8_i32_123_r0
  let c1_i32_125_r0 : BitVec 32 := 1#32
  let v123_r0 : BitVec 32 := Scalar.addi arg22_r0 c1_i32_125_r0
  let v124_r0 : BitVec 32 := Scalar.select v121_r0 v123_r0 arg22_r0
  let c4_i32_126_r0 : BitVec 32 := 4#32
  let v125_r0 : BitVec 1 := Scalar.cmpi .eq v124_r0 c4_i32_126_r0
  let c0_i32_127_r0 : BitVec 32 := 0#32
  let v126_r0 : BitVec 32 := Scalar.select v125_r0 c0_i32_127_r0 v124_r0
  let c0_i32_128_r0 : BitVec 32 := 0#32
  let v127_r0 : BitVec 32 := Scalar.addi v126_r0 c0_i32_128_r0
  let v14333_r0 : BitVec 32 := Scalar.muli c1_i32_11239_r0 v127_r0
  let c16_i32_11240_r0 : BitVec 32 := 16#32
  let c0_i32_124_r0 : BitVec 32 := 0#32
  let v122_r0 : BitVec 32 := Scalar.select v121_r0 c0_i32_124_r0 v120_r0
  let c0_i32_129_r0 : BitVec 32 := 0#32
  let v128_r0 : BitVec 32 := Scalar.addi v122_r0 c0_i32_129_r0
  let c32_i32_11236_r0 : BitVec 32 := 32#32
  let v14330_r0 : BitVec 32 := Scalar.muli v128_r0 c32_i32_11236_r0
  let c1_i32_11237_r0 : BitVec 32 := 1#32
  let v14331_r0 : BitVec 32 := Scalar.subi v14330_r0 c1_i32_11237_r0
  let c0_i32_11238_r0 : BitVec 32 := 0#32
  let v14332_r0 : BitVec 32 := Scalar.maxsi v14331_r0 c0_i32_11238_r0
  let v14334_r0 : BitVec 32 := Scalar.muli c16_i32_11240_r0 v14332_r0
  let c0_i32_11244_r0 : BitVec 32 := 0#32
  ![v14333_r0.toNat, v14334_r0.toNat, 0]
def k0_off9 (arg16_r0 : BitVec 32) : Fin 1 → Nat :=
  let c2_i32_11235_r0 : BitVec 32 := 2#32
  let v14329_r0 : BitVec 32 := Scalar.remui arg16_r0 c2_i32_11235_r0
  ![v14329_r0.toNat]
def k0_cond2 (k0_t1 : Fin k0_t1_loop.trips) (arg22_r0 : BitVec 32) (arg23_r0 : BitVec 32) : BitVec 1 :=
  let c0_i32_110_r0 : BitVec 32 := 0#32
  let v107_r0 : BitVec 32 := Scalar.addi arg22_r0 c0_i32_110_r0
  let true_122_r0 : BitVec 1 := 1#1
  let c1_i32_121_r0 : BitVec 32 := 1#32
  let v119_r0 : BitVec 32 := Scalar.addi arg23_r0 c1_i32_121_r0
  let v120_r0 : BitVec 32 := Scalar.select true_122_r0 v119_r0 arg23_r0
  let c8_i32_123_r0 : BitVec 32 := 8#32
  let v121_r0 : BitVec 1 := Scalar.cmpi .eq v120_r0 c8_i32_123_r0
  let c1_i32_125_r0 : BitVec 32 := 1#32
  let v123_r0 : BitVec 32 := Scalar.addi arg22_r0 c1_i32_125_r0
  let v124_r0 : BitVec 32 := Scalar.select v121_r0 v123_r0 arg22_r0
  let c4_i32_126_r0 : BitVec 32 := 4#32
  let v125_r0 : BitVec 1 := Scalar.cmpi .eq v124_r0 c4_i32_126_r0
  let c0_i32_127_r0 : BitVec 32 := 0#32
  let v126_r0 : BitVec 32 := Scalar.select v125_r0 c0_i32_127_r0 v124_r0
  let c0_i32_128_r0 : BitVec 32 := 0#32
  let v127_r0 : BitVec 32 := Scalar.addi v126_r0 c0_i32_128_r0
  let v157_r0 : BitVec 1 := Scalar.cmpi .ne v107_r0 v127_r0
  let c0_i32_111_r0 : BitVec 32 := 0#32
  let v108_r0 : BitVec 32 := Scalar.addi arg23_r0 c0_i32_111_r0
  let c0_i32_124_r0 : BitVec 32 := 0#32
  let v122_r0 : BitVec 32 := Scalar.select v121_r0 c0_i32_124_r0 v120_r0
  let c0_i32_129_r0 : BitVec 32 := 0#32
  let v128_r0 : BitVec 32 := Scalar.addi v122_r0 c0_i32_129_r0
  let v158_r0 : BitVec 1 := Scalar.cmpi .ne v108_r0 v128_r0
  let v159_r0 : BitVec 1 := Scalar.ori v157_r0 v158_r0
  let c0_i32_63_r0 : BitVec 32 := 0#32
  let c1_i32_65_r0 : BitVec 32 := 1#32
  let arg13_r0 : BitVec 32 := Scf.iv c0_i32_63_r0 c1_i32_65_r0 k0_t1
  let c31_i32_151_r0 : BitVec 32 := 31#32
  let v160_r0 : BitVec 1 := Scalar.cmpi .sge arg13_r0 c31_i32_151_r0
  let true_152_r0 : BitVec 1 := 1#1
  let v161_r0 : BitVec 1 := Scalar.xori v160_r0 true_152_r0
  let v162_r0 : BitVec 1 := Scalar.andi v159_r0 v161_r0
  let true_153_r0 : BitVec 1 := 1#1
  let v163_r0 : BitVec 1 := Scalar.andi v162_r0 true_153_r0
  let v164_r0 : BitVec 32 := Scalar.extui v163_r0
  let c0_i32_154_r0 : BitVec 32 := 0#32
  let v165_r0 : BitVec 1 := Scalar.cmpi .ne v164_r0 c0_i32_154_r0
  v165_r0

def k0_off10 (arg16_r0 : BitVec 32) : Fin 4 → Nat :=
  let c2_i32_11235_r0 : BitVec 32 := 2#32
  let v14329_r0 : BitVec 32 := Scalar.remui arg16_r0 c2_i32_11235_r0
  let c0_i32_11238_r0 : BitVec 32 := 0#32
  let c0_i32_11239_r0 : BitVec 32 := 0#32
  let c0_i32_11240_r0 : BitVec 32 := 0#32
  ![v14329_r0.toNat, 0, 0, 0]
def k0_off11 (arg22_r0 : BitVec 32) (arg23_r0 : BitVec 32) : Fin 3 → Nat :=
  let c1_i32_11236_r0 : BitVec 32 := 1#32
  let true_122_r0 : BitVec 1 := 1#1
  let c1_i32_121_r0 : BitVec 32 := 1#32
  let v119_r0 : BitVec 32 := Scalar.addi arg23_r0 c1_i32_121_r0
  let v120_r0 : BitVec 32 := Scalar.select true_122_r0 v119_r0 arg23_r0
  let c8_i32_123_r0 : BitVec 32 := 8#32
  let v121_r0 : BitVec 1 := Scalar.cmpi .eq v120_r0 c8_i32_123_r0
  let c1_i32_125_r0 : BitVec 32 := 1#32
  let v123_r0 : BitVec 32 := Scalar.addi arg22_r0 c1_i32_125_r0
  let v124_r0 : BitVec 32 := Scalar.select v121_r0 v123_r0 arg22_r0
  let c4_i32_126_r0 : BitVec 32 := 4#32
  let v125_r0 : BitVec 1 := Scalar.cmpi .eq v124_r0 c4_i32_126_r0
  let c0_i32_127_r0 : BitVec 32 := 0#32
  let v126_r0 : BitVec 32 := Scalar.select v125_r0 c0_i32_127_r0 v124_r0
  let c0_i32_128_r0 : BitVec 32 := 0#32
  let v127_r0 : BitVec 32 := Scalar.addi v126_r0 c0_i32_128_r0
  let v14330_r0 : BitVec 32 := Scalar.muli c1_i32_11236_r0 v127_r0
  let c512_i32_11237_r0 : BitVec 32 := 512#32
  let c0_i32_124_r0 : BitVec 32 := 0#32
  let v122_r0 : BitVec 32 := Scalar.select v121_r0 c0_i32_124_r0 v120_r0
  let c0_i32_129_r0 : BitVec 32 := 0#32
  let v128_r0 : BitVec 32 := Scalar.addi v122_r0 c0_i32_129_r0
  let v14331_r0 : BitVec 32 := Scalar.muli c512_i32_11237_r0 v128_r0
  let c0_i32_11241_r0 : BitVec 32 := 0#32
  ![v14330_r0.toNat, v14331_r0.toNat, 0]
def k0_off12 (arg18_r0 : BitVec 32) : Fin 1 → Nat :=
  let c2_i32_11235_r0 : BitVec 32 := 2#32
  let v14329_r0 : BitVec 32 := Scalar.remui arg18_r0 c2_i32_11235_r0
  ![v14329_r0.toNat]
def k0_cond3 (k0_t1 : Fin k0_t1_loop.trips) (arg22_r0 : BitVec 32) (arg23_r0 : BitVec 32) : BitVec 1 :=
  let c0_i32_110_r0 : BitVec 32 := 0#32
  let v107_r0 : BitVec 32 := Scalar.addi arg22_r0 c0_i32_110_r0
  let true_122_r0 : BitVec 1 := 1#1
  let c1_i32_121_r0 : BitVec 32 := 1#32
  let v119_r0 : BitVec 32 := Scalar.addi arg23_r0 c1_i32_121_r0
  let v120_r0 : BitVec 32 := Scalar.select true_122_r0 v119_r0 arg23_r0
  let c8_i32_123_r0 : BitVec 32 := 8#32
  let v121_r0 : BitVec 1 := Scalar.cmpi .eq v120_r0 c8_i32_123_r0
  let c1_i32_125_r0 : BitVec 32 := 1#32
  let v123_r0 : BitVec 32 := Scalar.addi arg22_r0 c1_i32_125_r0
  let v124_r0 : BitVec 32 := Scalar.select v121_r0 v123_r0 arg22_r0
  let c4_i32_126_r0 : BitVec 32 := 4#32
  let v125_r0 : BitVec 1 := Scalar.cmpi .eq v124_r0 c4_i32_126_r0
  let c0_i32_127_r0 : BitVec 32 := 0#32
  let v126_r0 : BitVec 32 := Scalar.select v125_r0 c0_i32_127_r0 v124_r0
  let c0_i32_128_r0 : BitVec 32 := 0#32
  let v127_r0 : BitVec 32 := Scalar.addi v126_r0 c0_i32_128_r0
  let v175_r0 : BitVec 1 := Scalar.cmpi .ne v107_r0 v127_r0
  let c0_i32_111_r0 : BitVec 32 := 0#32
  let v108_r0 : BitVec 32 := Scalar.addi arg23_r0 c0_i32_111_r0
  let c1_i32_157_r0 : BitVec 32 := 1#32
  let v169_r0 : BitVec 32 := Scalar.addi v108_r0 c1_i32_157_r0
  let c32_i32_158_r0 : BitVec 32 := 32#32
  let v170_r0 : BitVec 32 := Scalar.muli v169_r0 c32_i32_158_r0
  let c255_i32_159_r0 : BitVec 32 := 255#32
  let v171_r0 : BitVec 32 := Scalar.minsi v170_r0 c255_i32_159_r0
  let c0_i32_124_r0 : BitVec 32 := 0#32
  let v122_r0 : BitVec 32 := Scalar.select v121_r0 c0_i32_124_r0 v120_r0
  let c0_i32_129_r0 : BitVec 32 := 0#32
  let v128_r0 : BitVec 32 := Scalar.addi v122_r0 c0_i32_129_r0
  let c1_i32_160_r0 : BitVec 32 := 1#32
  let v172_r0 : BitVec 32 := Scalar.addi v128_r0 c1_i32_160_r0
  let c32_i32_161_r0 : BitVec 32 := 32#32
  let v173_r0 : BitVec 32 := Scalar.muli v172_r0 c32_i32_161_r0
  let c255_i32_162_r0 : BitVec 32 := 255#32
  let v174_r0 : BitVec 32 := Scalar.minsi v173_r0 c255_i32_162_r0
  let v176_r0 : BitVec 1 := Scalar.cmpi .ne v171_r0 v174_r0
  let v177_r0 : BitVec 1 := Scalar.ori v175_r0 v176_r0
  let c0_i32_63_r0 : BitVec 32 := 0#32
  let c1_i32_65_r0 : BitVec 32 := 1#32
  let arg13_r0 : BitVec 32 := Scf.iv c0_i32_63_r0 c1_i32_65_r0 k0_t1
  let c31_i32_163_r0 : BitVec 32 := 31#32
  let v178_r0 : BitVec 1 := Scalar.cmpi .sge arg13_r0 c31_i32_163_r0
  let true_164_r0 : BitVec 1 := 1#1
  let v179_r0 : BitVec 1 := Scalar.xori v178_r0 true_164_r0
  let v180_r0 : BitVec 1 := Scalar.andi v177_r0 v179_r0
  let true_165_r0 : BitVec 1 := 1#1
  let v181_r0 : BitVec 1 := Scalar.andi v180_r0 true_165_r0
  let v182_r0 : BitVec 32 := Scalar.extui v181_r0
  let c0_i32_166_r0 : BitVec 32 := 0#32
  let v183_r0 : BitVec 1 := Scalar.cmpi .ne v182_r0 c0_i32_166_r0
  v183_r0

def k0_off13 (arg18_r0 : BitVec 32) : Fin 4 → Nat :=
  let c2_i32_11235_r0 : BitVec 32 := 2#32
  let v14329_r0 : BitVec 32 := Scalar.remui arg18_r0 c2_i32_11235_r0
  let c0_i32_11241_r0 : BitVec 32 := 0#32
  let c0_i32_11242_r0 : BitVec 32 := 0#32
  let c0_i32_11243_r0 : BitVec 32 := 0#32
  ![v14329_r0.toNat, 0, 0, 0]
def k0_off14 (arg22_r0 : BitVec 32) (arg23_r0 : BitVec 32) : Fin 3 → Nat :=
  let c1_i32_11239_r0 : BitVec 32 := 1#32
  let true_122_r0 : BitVec 1 := 1#1
  let c1_i32_121_r0 : BitVec 32 := 1#32
  let v119_r0 : BitVec 32 := Scalar.addi arg23_r0 c1_i32_121_r0
  let v120_r0 : BitVec 32 := Scalar.select true_122_r0 v119_r0 arg23_r0
  let c8_i32_123_r0 : BitVec 32 := 8#32
  let v121_r0 : BitVec 1 := Scalar.cmpi .eq v120_r0 c8_i32_123_r0
  let c1_i32_125_r0 : BitVec 32 := 1#32
  let v123_r0 : BitVec 32 := Scalar.addi arg22_r0 c1_i32_125_r0
  let v124_r0 : BitVec 32 := Scalar.select v121_r0 v123_r0 arg22_r0
  let c4_i32_126_r0 : BitVec 32 := 4#32
  let v125_r0 : BitVec 1 := Scalar.cmpi .eq v124_r0 c4_i32_126_r0
  let c0_i32_127_r0 : BitVec 32 := 0#32
  let v126_r0 : BitVec 32 := Scalar.select v125_r0 c0_i32_127_r0 v124_r0
  let c0_i32_128_r0 : BitVec 32 := 0#32
  let v127_r0 : BitVec 32 := Scalar.addi v126_r0 c0_i32_128_r0
  let v14333_r0 : BitVec 32 := Scalar.muli c1_i32_11239_r0 v127_r0
  let c16_i32_11240_r0 : BitVec 32 := 16#32
  let c0_i32_124_r0 : BitVec 32 := 0#32
  let v122_r0 : BitVec 32 := Scalar.select v121_r0 c0_i32_124_r0 v120_r0
  let c0_i32_129_r0 : BitVec 32 := 0#32
  let v128_r0 : BitVec 32 := Scalar.addi v122_r0 c0_i32_129_r0
  let c1_i32_11236_r0 : BitVec 32 := 1#32
  let v14330_r0 : BitVec 32 := Scalar.addi v128_r0 c1_i32_11236_r0
  let c32_i32_11237_r0 : BitVec 32 := 32#32
  let v14331_r0 : BitVec 32 := Scalar.muli v14330_r0 c32_i32_11237_r0
  let c255_i32_11238_r0 : BitVec 32 := 255#32
  let v14332_r0 : BitVec 32 := Scalar.minsi v14331_r0 c255_i32_11238_r0
  let v14334_r0 : BitVec 32 := Scalar.muli c16_i32_11240_r0 v14332_r0
  let c0_i32_11244_r0 : BitVec 32 := 0#32
  ![v14333_r0.toNat, v14334_r0.toNat, 0]
def k0_off15 (arg15_r0 : BitVec 32) : Fin 1 → Nat :=
  let c2_i32_11240_r0 : BitVec 32 := 2#32
  let v14334_r0 : BitVec 32 := Scalar.remui arg15_r0 c2_i32_11240_r0
  ![v14334_r0.toNat]
def k0_cond4 (k0_t1 : Fin k0_t1_loop.trips) (arg22_r0 : BitVec 32) (arg23_r0 : BitVec 32) : BitVec 1 :=
  let c0_i32_110_r0 : BitVec 32 := 0#32
  let v107_r0 : BitVec 32 := Scalar.addi arg22_r0 c0_i32_110_r0
  let true_113_r0 : BitVec 1 := 1#1
  let c1_i32_112_r0 : BitVec 32 := 1#32
  let v109_r0 : BitVec 32 := Scalar.subi arg23_r0 c1_i32_112_r0
  let v110_r0 : BitVec 32 := Scalar.select true_113_r0 v109_r0 arg23_r0
  let c_m1_i32_114_r0 : BitVec 32 := 4294967295#32
  let v111_r0 : BitVec 1 := Scalar.cmpi .eq v110_r0 c_m1_i32_114_r0
  let c1_i32_116_r0 : BitVec 32 := 1#32
  let v113_r0 : BitVec 32 := Scalar.subi arg22_r0 c1_i32_116_r0
  let v114_r0 : BitVec 32 := Scalar.select v111_r0 v113_r0 arg22_r0
  let c_m1_i32_117_r0 : BitVec 32 := 4294967295#32
  let v115_r0 : BitVec 1 := Scalar.cmpi .eq v114_r0 c_m1_i32_117_r0
  let c3_i32_118_r0 : BitVec 32 := 3#32
  let v116_r0 : BitVec 32 := Scalar.select v115_r0 c3_i32_118_r0 v114_r0
  let c0_i32_119_r0 : BitVec 32 := 0#32
  let v117_r0 : BitVec 32 := Scalar.addi v116_r0 c0_i32_119_r0
  let v196_r0 : BitVec 1 := Scalar.cmpi .ne v107_r0 v117_r0
  let c0_i32_111_r0 : BitVec 32 := 0#32
  let v108_r0 : BitVec 32 := Scalar.addi arg23_r0 c0_i32_111_r0
  let c32_i32_139_r0 : BitVec 32 := 32#32
  let v139_r0 : BitVec 32 := Scalar.muli v108_r0 c32_i32_139_r0
  let c1_i32_140_r0 : BitVec 32 := 1#32
  let v140_r0 : BitVec 32 := Scalar.subi v139_r0 c1_i32_140_r0
  let c0_i32_141_r0 : BitVec 32 := 0#32
  let v141_r0 : BitVec 32 := Scalar.maxsi v140_r0 c0_i32_141_r0
  let c7_i32_115_r0 : BitVec 32 := 7#32
  let v112_r0 : BitVec 32 := Scalar.select v111_r0 c7_i32_115_r0 v110_r0
  let c0_i32_120_r0 : BitVec 32 := 0#32
  let v118_r0 : BitVec 32 := Scalar.addi v112_r0 c0_i32_120_r0
  let c32_i32_171_r0 : BitVec 32 := 32#32
  let v193_r0 : BitVec 32 := Scalar.muli v118_r0 c32_i32_171_r0
  let c1_i32_172_r0 : BitVec 32 := 1#32
  let v194_r0 : BitVec 32 := Scalar.subi v193_r0 c1_i32_172_r0
  let c0_i32_173_r0 : BitVec 32 := 0#32
  let v195_r0 : BitVec 32 := Scalar.maxsi v194_r0 c0_i32_173_r0
  let v197_r0 : BitVec 1 := Scalar.cmpi .ne v141_r0 v195_r0
  let v198_r0 : BitVec 1 := Scalar.ori v196_r0 v197_r0
  let c0_i32_63_r0 : BitVec 32 := 0#32
  let c1_i32_65_r0 : BitVec 32 := 1#32
  let arg13_r0 : BitVec 32 := Scf.iv c0_i32_63_r0 c1_i32_65_r0 k0_t1
  let c0_i32_109_r0 : BitVec 32 := 0#32
  let v105_r0 : BitVec 1 := Scalar.cmpi .eq arg13_r0 c0_i32_109_r0
  let v199_r0 : BitVec 1 := Scalar.ori v198_r0 v105_r0
  let c0_i32_174_r0 : BitVec 32 := 0#32
  let v200_r0 : BitVec 1 := Scalar.cmpi .sge arg13_r0 c0_i32_174_r0
  let v201_r0 : BitVec 1 := Scalar.andi v199_r0 v200_r0
  let v202_r0 : BitVec 32 := Scalar.extui v201_r0
  let c0_i32_175_r0 : BitVec 32 := 0#32
  let v203_r0 : BitVec 1 := Scalar.cmpi .ne v202_r0 c0_i32_175_r0
  v203_r0

def k0_off16 (arg15_r0 : BitVec 32) : Fin 4 → Nat :=
  let c2_i32_11240_r0 : BitVec 32 := 2#32
  let v14334_r0 : BitVec 32 := Scalar.remui arg15_r0 c2_i32_11240_r0
  let c0_i32_11241_r0 : BitVec 32 := 0#32
  let c0_i32_11242_r0 : BitVec 32 := 0#32
  let c0_i32_11243_r0 : BitVec 32 := 0#32
  ![v14334_r0.toNat, 0, 0, 0]
def k0_off17 (arg22_r0 : BitVec 32) (arg23_r0 : BitVec 32) : Fin 3 → Nat :=
  let c1_i32_11238_r0 : BitVec 32 := 1#32
  let c0_i32_110_r0 : BitVec 32 := 0#32
  let v107_r0 : BitVec 32 := Scalar.addi arg22_r0 c0_i32_110_r0
  let v14332_r0 : BitVec 32 := Scalar.muli c1_i32_11238_r0 v107_r0
  let c16_i32_11239_r0 : BitVec 32 := 16#32
  let c0_i32_111_r0 : BitVec 32 := 0#32
  let v108_r0 : BitVec 32 := Scalar.addi arg23_r0 c0_i32_111_r0
  let c32_i32_11235_r0 : BitVec 32 := 32#32
  let v14329_r0 : BitVec 32 := Scalar.muli v108_r0 c32_i32_11235_r0
  let c1_i32_11236_r0 : BitVec 32 := 1#32
  let v14330_r0 : BitVec 32 := Scalar.subi v14329_r0 c1_i32_11236_r0
  let c0_i32_11237_r0 : BitVec 32 := 0#32
  let v14331_r0 : BitVec 32 := Scalar.maxsi v14330_r0 c0_i32_11237_r0
  let v14333_r0 : BitVec 32 := Scalar.muli c16_i32_11239_r0 v14331_r0
  let c0_i32_11244_r0 : BitVec 32 := 0#32
  ![v14332_r0.toNat, v14333_r0.toNat, 0]
def k0_off18 (arg17_r0 : BitVec 32) : Fin 1 → Nat :=
  let c2_i32_11237_r0 : BitVec 32 := 2#32
  let v14331_r0 : BitVec 32 := Scalar.remui arg17_r0 c2_i32_11237_r0
  ![v14331_r0.toNat]
def k0_cond5 (k0_t1 : Fin k0_t1_loop.trips) (arg22_r0 : BitVec 32) (arg23_r0 : BitVec 32) : BitVec 1 :=
  let c0_i32_110_r0 : BitVec 32 := 0#32
  let v107_r0 : BitVec 32 := Scalar.addi arg22_r0 c0_i32_110_r0
  let true_113_r0 : BitVec 1 := 1#1
  let c1_i32_112_r0 : BitVec 32 := 1#32
  let v109_r0 : BitVec 32 := Scalar.subi arg23_r0 c1_i32_112_r0
  let v110_r0 : BitVec 32 := Scalar.select true_113_r0 v109_r0 arg23_r0
  let c_m1_i32_114_r0 : BitVec 32 := 4294967295#32
  let v111_r0 : BitVec 1 := Scalar.cmpi .eq v110_r0 c_m1_i32_114_r0
  let c1_i32_116_r0 : BitVec 32 := 1#32
  let v113_r0 : BitVec 32 := Scalar.subi arg22_r0 c1_i32_116_r0
  let v114_r0 : BitVec 32 := Scalar.select v111_r0 v113_r0 arg22_r0
  let c_m1_i32_117_r0 : BitVec 32 := 4294967295#32
  let v115_r0 : BitVec 1 := Scalar.cmpi .eq v114_r0 c_m1_i32_117_r0
  let c3_i32_118_r0 : BitVec 32 := 3#32
  let v116_r0 : BitVec 32 := Scalar.select v115_r0 c3_i32_118_r0 v114_r0
  let c0_i32_119_r0 : BitVec 32 := 0#32
  let v117_r0 : BitVec 32 := Scalar.addi v116_r0 c0_i32_119_r0
  let v204_r0 : BitVec 1 := Scalar.cmpi .ne v107_r0 v117_r0
  let c0_i32_111_r0 : BitVec 32 := 0#32
  let v108_r0 : BitVec 32 := Scalar.addi arg23_r0 c0_i32_111_r0
  let c7_i32_115_r0 : BitVec 32 := 7#32
  let v112_r0 : BitVec 32 := Scalar.select v111_r0 c7_i32_115_r0 v110_r0
  let c0_i32_120_r0 : BitVec 32 := 0#32
  let v118_r0 : BitVec 32 := Scalar.addi v112_r0 c0_i32_120_r0
  let v205_r0 : BitVec 1 := Scalar.cmpi .ne v108_r0 v118_r0
  let v206_r0 : BitVec 1 := Scalar.ori v204_r0 v205_r0
  let c0_i32_63_r0 : BitVec 32 := 0#32
  let c1_i32_65_r0 : BitVec 32 := 1#32
  let arg13_r0 : BitVec 32 := Scf.iv c0_i32_63_r0 c1_i32_65_r0 k0_t1
  let c0_i32_109_r0 : BitVec 32 := 0#32
  let v105_r0 : BitVec 1 := Scalar.cmpi .eq arg13_r0 c0_i32_109_r0
  let v207_r0 : BitVec 1 := Scalar.ori v206_r0 v105_r0
  let c0_i32_176_r0 : BitVec 32 := 0#32
  let v208_r0 : BitVec 1 := Scalar.cmpi .sge arg13_r0 c0_i32_176_r0
  let v209_r0 : BitVec 1 := Scalar.andi v207_r0 v208_r0
  let v210_r0 : BitVec 32 := Scalar.extui v209_r0
  let c0_i32_177_r0 : BitVec 32 := 0#32
  let v211_r0 : BitVec 1 := Scalar.cmpi .ne v210_r0 c0_i32_177_r0
  v211_r0

def k0_off19 (arg17_r0 : BitVec 32) : Fin 4 → Nat :=
  let c2_i32_11237_r0 : BitVec 32 := 2#32
  let v14331_r0 : BitVec 32 := Scalar.remui arg17_r0 c2_i32_11237_r0
  let c0_i32_11238_r0 : BitVec 32 := 0#32
  let c0_i32_11239_r0 : BitVec 32 := 0#32
  let c0_i32_11240_r0 : BitVec 32 := 0#32
  ![v14331_r0.toNat, 0, 0, 0]
def k0_off20 (arg22_r0 : BitVec 32) (arg23_r0 : BitVec 32) : Fin 3 → Nat :=
  let c1_i32_11235_r0 : BitVec 32 := 1#32
  let c0_i32_110_r0 : BitVec 32 := 0#32
  let v107_r0 : BitVec 32 := Scalar.addi arg22_r0 c0_i32_110_r0
  let v14329_r0 : BitVec 32 := Scalar.muli c1_i32_11235_r0 v107_r0
  let c512_i32_11236_r0 : BitVec 32 := 512#32
  let c0_i32_111_r0 : BitVec 32 := 0#32
  let v108_r0 : BitVec 32 := Scalar.addi arg23_r0 c0_i32_111_r0
  let v14330_r0 : BitVec 32 := Scalar.muli c512_i32_11236_r0 v108_r0
  let c0_i32_11241_r0 : BitVec 32 := 0#32
  ![v14329_r0.toNat, v14330_r0.toNat, 0]
def k0_off21 (arg19_r0 : BitVec 32) : Fin 1 → Nat :=
  let c2_i32_11240_r0 : BitVec 32 := 2#32
  let v14334_r0 : BitVec 32 := Scalar.remui arg19_r0 c2_i32_11240_r0
  ![v14334_r0.toNat]
def k0_cond6 (k0_t1 : Fin k0_t1_loop.trips) (arg22_r0 : BitVec 32) (arg23_r0 : BitVec 32) : BitVec 1 :=
  let c0_i32_110_r0 : BitVec 32 := 0#32
  let v107_r0 : BitVec 32 := Scalar.addi arg22_r0 c0_i32_110_r0
  let true_113_r0 : BitVec 1 := 1#1
  let c1_i32_112_r0 : BitVec 32 := 1#32
  let v109_r0 : BitVec 32 := Scalar.subi arg23_r0 c1_i32_112_r0
  let v110_r0 : BitVec 32 := Scalar.select true_113_r0 v109_r0 arg23_r0
  let c_m1_i32_114_r0 : BitVec 32 := 4294967295#32
  let v111_r0 : BitVec 1 := Scalar.cmpi .eq v110_r0 c_m1_i32_114_r0
  let c1_i32_116_r0 : BitVec 32 := 1#32
  let v113_r0 : BitVec 32 := Scalar.subi arg22_r0 c1_i32_116_r0
  let v114_r0 : BitVec 32 := Scalar.select v111_r0 v113_r0 arg22_r0
  let c_m1_i32_117_r0 : BitVec 32 := 4294967295#32
  let v115_r0 : BitVec 1 := Scalar.cmpi .eq v114_r0 c_m1_i32_117_r0
  let c3_i32_118_r0 : BitVec 32 := 3#32
  let v116_r0 : BitVec 32 := Scalar.select v115_r0 c3_i32_118_r0 v114_r0
  let c0_i32_119_r0 : BitVec 32 := 0#32
  let v117_r0 : BitVec 32 := Scalar.addi v116_r0 c0_i32_119_r0
  let v215_r0 : BitVec 1 := Scalar.cmpi .ne v107_r0 v117_r0
  let c0_i32_111_r0 : BitVec 32 := 0#32
  let v108_r0 : BitVec 32 := Scalar.addi arg23_r0 c0_i32_111_r0
  let c1_i32_157_r0 : BitVec 32 := 1#32
  let v169_r0 : BitVec 32 := Scalar.addi v108_r0 c1_i32_157_r0
  let c32_i32_158_r0 : BitVec 32 := 32#32
  let v170_r0 : BitVec 32 := Scalar.muli v169_r0 c32_i32_158_r0
  let c255_i32_159_r0 : BitVec 32 := 255#32
  let v171_r0 : BitVec 32 := Scalar.minsi v170_r0 c255_i32_159_r0
  let c7_i32_115_r0 : BitVec 32 := 7#32
  let v112_r0 : BitVec 32 := Scalar.select v111_r0 c7_i32_115_r0 v110_r0
  let c0_i32_120_r0 : BitVec 32 := 0#32
  let v118_r0 : BitVec 32 := Scalar.addi v112_r0 c0_i32_120_r0
  let c1_i32_178_r0 : BitVec 32 := 1#32
  let v212_r0 : BitVec 32 := Scalar.addi v118_r0 c1_i32_178_r0
  let c32_i32_179_r0 : BitVec 32 := 32#32
  let v213_r0 : BitVec 32 := Scalar.muli v212_r0 c32_i32_179_r0
  let c255_i32_180_r0 : BitVec 32 := 255#32
  let v214_r0 : BitVec 32 := Scalar.minsi v213_r0 c255_i32_180_r0
  let v216_r0 : BitVec 1 := Scalar.cmpi .ne v171_r0 v214_r0
  let v217_r0 : BitVec 1 := Scalar.ori v215_r0 v216_r0
  let c0_i32_63_r0 : BitVec 32 := 0#32
  let c1_i32_65_r0 : BitVec 32 := 1#32
  let arg13_r0 : BitVec 32 := Scf.iv c0_i32_63_r0 c1_i32_65_r0 k0_t1
  let c0_i32_109_r0 : BitVec 32 := 0#32
  let v105_r0 : BitVec 1 := Scalar.cmpi .eq arg13_r0 c0_i32_109_r0
  let v218_r0 : BitVec 1 := Scalar.ori v217_r0 v105_r0
  let c0_i32_181_r0 : BitVec 32 := 0#32
  let v219_r0 : BitVec 1 := Scalar.cmpi .sge arg13_r0 c0_i32_181_r0
  let v220_r0 : BitVec 1 := Scalar.andi v218_r0 v219_r0
  let v221_r0 : BitVec 32 := Scalar.extui v220_r0
  let c0_i32_182_r0 : BitVec 32 := 0#32
  let v222_r0 : BitVec 1 := Scalar.cmpi .ne v221_r0 c0_i32_182_r0
  v222_r0

def k0_off22 (arg19_r0 : BitVec 32) : Fin 4 → Nat :=
  let c2_i32_11240_r0 : BitVec 32 := 2#32
  let v14334_r0 : BitVec 32 := Scalar.remui arg19_r0 c2_i32_11240_r0
  let c0_i32_11241_r0 : BitVec 32 := 0#32
  let c0_i32_11242_r0 : BitVec 32 := 0#32
  let c0_i32_11243_r0 : BitVec 32 := 0#32
  ![v14334_r0.toNat, 0, 0, 0]
def k0_off23 (arg22_r0 : BitVec 32) (arg23_r0 : BitVec 32) : Fin 3 → Nat :=
  let c1_i32_11238_r0 : BitVec 32 := 1#32
  let c0_i32_110_r0 : BitVec 32 := 0#32
  let v107_r0 : BitVec 32 := Scalar.addi arg22_r0 c0_i32_110_r0
  let v14332_r0 : BitVec 32 := Scalar.muli c1_i32_11238_r0 v107_r0
  let c16_i32_11239_r0 : BitVec 32 := 16#32
  let c0_i32_111_r0 : BitVec 32 := 0#32
  let v108_r0 : BitVec 32 := Scalar.addi arg23_r0 c0_i32_111_r0
  let c1_i32_11235_r0 : BitVec 32 := 1#32
  let v14329_r0 : BitVec 32 := Scalar.addi v108_r0 c1_i32_11235_r0
  let c32_i32_11236_r0 : BitVec 32 := 32#32
  let v14330_r0 : BitVec 32 := Scalar.muli v14329_r0 c32_i32_11236_r0
  let c255_i32_11237_r0 : BitVec 32 := 255#32
  let v14331_r0 : BitVec 32 := Scalar.minsi v14330_r0 c255_i32_11237_r0
  let v14333_r0 : BitVec 32 := Scalar.muli c16_i32_11239_r0 v14331_r0
  let c0_i32_11244_r0 : BitVec 32 := 0#32
  ![v14332_r0.toNat, v14333_r0.toNat, 0]
def k0_off24 (arg15_r0 : BitVec 32) : Fin 4 → Nat :=
  let c2_i32_185_r0 : BitVec 32 := 2#32
  let v231_r0 : BitVec 32 := Scalar.remui arg15_r0 c2_i32_185_r0
  let c0_i32_190_r0 : BitVec 32 := 0#32
  let c0_i32_191_r0 : BitVec 32 := 0#32
  let c0_i32_192_r0 : BitVec 32 := 0#32
  ![v231_r0.toNat, 0, 0, 0]

def k0_chk2 (arg15_r0 : BitVec 32) : Prop :=
  (∀ a, (k0_off24 arg15_r0) a + S1x1x16x1024.size a ≤ S2x1x16x1024.size a)
theorem k0_off24_inb : ∀ (arg15_r0 : BitVec 32) (k0_hw2 : k0_chk2 arg15_r0), ∀ a, (k0_off24 arg15_r0) a + S1x1x16x1024.size a ≤ S2x1x16x1024.size a := fun arg15_r0 k0_hw2 => k0_hw2

def k0_off25 (arg17_r0 : BitVec 32) : Fin 4 → Nat :=
  let c2_i32_186_r0 : BitVec 32 := 2#32
  let v232_r0 : BitVec 32 := Scalar.remui arg17_r0 c2_i32_186_r0
  let c0_i32_197_r0 : BitVec 32 := 0#32
  let c0_i32_198_r0 : BitVec 32 := 0#32
  let c0_i32_199_r0 : BitVec 32 := 0#32
  ![v232_r0.toNat, 0, 0, 0]

def k0_off26 (arg19_r0 : BitVec 32) : Fin 4 → Nat :=
  let c2_i32_187_r0 : BitVec 32 := 2#32
  let v233_r0 : BitVec 32 := Scalar.remui arg19_r0 c2_i32_187_r0
  let c0_i32_205_r0 : BitVec 32 := 0#32
  let c0_i32_206_r0 : BitVec 32 := 0#32
  let c0_i32_207_r0 : BitVec 32 := 0#32
  ![v233_r0.toNat, 0, 0, 0]

def k0_chk4 (arg19_r0 : BitVec 32) : Prop :=
  (∀ a, (k0_off26 arg19_r0) a + S1x1x16x1024.size a ≤ S2x1x16x1024.size a)
theorem k0_off26_inb : ∀ (arg19_r0 : BitVec 32) (k0_hw4 : k0_chk4 arg19_r0), ∀ a, (k0_off26 arg19_r0) a + S1x1x16x1024.size a ≤ S2x1x16x1024.size a := fun arg19_r0 k0_hw4 => k0_hw4

def k0_off27 (arg20_r0 : BitVec 32) : Fin 4 → Nat :=
  let c2_i32_188_r0 : BitVec 32 := 2#32
  let v234_r0 : BitVec 32 := Scalar.remui arg20_r0 c2_i32_188_r0
  let c0_i32_11164_r0 : BitVec 32 := 0#32
  let c0_i32_11165_r0 : BitVec 32 := 0#32
  let c0_i32_11166_r0 : BitVec 32 := 0#32
  ![v234_r0.toNat, 0, 0, 0]

def k0_chk5 (arg20_r0 : BitVec 32) : Prop :=
  (∀ a, (k0_off27 arg20_r0) a + S1x1x512x1024.size a ≤ S2x1x512x1024.size a)
theorem k0_off27_inb : ∀ (arg20_r0 : BitVec 32) (k0_hw5 : k0_chk5 arg20_r0), ∀ a, (k0_off27 arg20_r0) a + S1x1x512x1024.size a ≤ S2x1x512x1024.size a := fun arg20_r0 k0_hw5 => k0_hw5

def k0_off28 (arg17_r0 : BitVec 32) : Fin 4 → Nat :=
  let c2_i32_186_r0 : BitVec 32 := 2#32
  let v232_r0 : BitVec 32 := Scalar.remui arg17_r0 c2_i32_186_r0
  let c0_i32_11180_r0 : BitVec 32 := 0#32
  let c0_i32_11181_r0 : BitVec 32 := 0#32
  let c0_i32_11182_r0 : BitVec 32 := 0#32
  ![v232_r0.toNat, 0, 0, 0]

def k0_chk3 (arg17_r0 : BitVec 32) : Prop :=
  (∀ a, (k0_off25 arg17_r0) a + S1x1x512x1024.size a ≤ S2x1x512x1024.size a) ∧
  (∀ a, (k0_off28 arg17_r0) a + S1x1x512x1024.size a ≤ S2x1x512x1024.size a)
theorem k0_off25_inb : ∀ (arg17_r0 : BitVec 32) (k0_hw3 : k0_chk3 arg17_r0), ∀ a, (k0_off25 arg17_r0) a + S1x1x512x1024.size a ≤ S2x1x512x1024.size a := fun arg17_r0 k0_hw3 => k0_hw3.1
theorem k0_off28_inb : ∀ (arg17_r0 : BitVec 32) (k0_hw3 : k0_chk3 arg17_r0), ∀ a, (k0_off28 arg17_r0) a + S1x1x512x1024.size a ≤ S2x1x512x1024.size a := fun arg17_r0 k0_hw3 => k0_hw3.2

def k0_off29 (arg20_r0 : BitVec 32) : Fin 1 → Nat :=
  let c2_i32_11235_r0 : BitVec 32 := 2#32
  let v14329_r0 : BitVec 32 := Scalar.remui arg20_r0 c2_i32_11235_r0
  ![v14329_r0.toNat]
def k0_cond11 (k0_t1 : Fin k0_t1_loop.trips) (arg22_r0 : BitVec 32) (arg23_r0 : BitVec 32) : BitVec 1 :=
  let c0_i32_110_r0 : BitVec 32 := 0#32
  let v107_r0 : BitVec 32 := Scalar.addi arg22_r0 c0_i32_110_r0
  let true_122_r0 : BitVec 1 := 1#1
  let c1_i32_121_r0 : BitVec 32 := 1#32
  let v119_r0 : BitVec 32 := Scalar.addi arg23_r0 c1_i32_121_r0
  let v120_r0 : BitVec 32 := Scalar.select true_122_r0 v119_r0 arg23_r0
  let c8_i32_123_r0 : BitVec 32 := 8#32
  let v121_r0 : BitVec 1 := Scalar.cmpi .eq v120_r0 c8_i32_123_r0
  let c1_i32_125_r0 : BitVec 32 := 1#32
  let v123_r0 : BitVec 32 := Scalar.addi arg22_r0 c1_i32_125_r0
  let v124_r0 : BitVec 32 := Scalar.select v121_r0 v123_r0 arg22_r0
  let c4_i32_126_r0 : BitVec 32 := 4#32
  let v125_r0 : BitVec 1 := Scalar.cmpi .eq v124_r0 c4_i32_126_r0
  let c0_i32_127_r0 : BitVec 32 := 0#32
  let v126_r0 : BitVec 32 := Scalar.select v125_r0 c0_i32_127_r0 v124_r0
  let c0_i32_128_r0 : BitVec 32 := 0#32
  let v127_r0 : BitVec 32 := Scalar.addi v126_r0 c0_i32_128_r0
  let v14260_r0 : BitVec 1 := Scalar.cmpi .ne v107_r0 v127_r0
  let c0_i32_111_r0 : BitVec 32 := 0#32
  let v108_r0 : BitVec 32 := Scalar.addi arg23_r0 c0_i32_111_r0
  let c0_i32_124_r0 : BitVec 32 := 0#32
  let v122_r0 : BitVec 32 := Scalar.select v121_r0 c0_i32_124_r0 v120_r0
  let c0_i32_129_r0 : BitVec 32 := 0#32
  let v128_r0 : BitVec 32 := Scalar.addi v122_r0 c0_i32_129_r0
  let v14261_r0 : BitVec 1 := Scalar.cmpi .ne v108_r0 v128_r0
  let v14262_r0 : BitVec 1 := Scalar.ori v14260_r0 v14261_r0
  let c0_i32_63_r0 : BitVec 32 := 0#32
  let c1_i32_65_r0 : BitVec 32 := 1#32
  let arg13_r0 : BitVec 32 := Scf.iv c0_i32_63_r0 c1_i32_65_r0 k0_t1
  let c31_i32_r0 : BitVec 32 := 31#32
  let v106_r0 : BitVec 1 := Scalar.cmpi .eq arg13_r0 c31_i32_r0
  let v14263_r0 : BitVec 1 := Scalar.ori v14262_r0 v106_r0
  let v14264_r0 : BitVec 32 := Scalar.extui v14263_r0
  let c0_i32_11209_r0 : BitVec 32 := 0#32
  let v14265_r0 : BitVec 1 := Scalar.cmpi .ne v14264_r0 c0_i32_11209_r0
  v14265_r0

def k0_off30 (arg22_r0 : BitVec 32) (arg23_r0 : BitVec 32) : Fin 3 → Nat :=
  let c1_i32_11236_r0 : BitVec 32 := 1#32
  let c0_i32_110_r0 : BitVec 32 := 0#32
  let v107_r0 : BitVec 32 := Scalar.addi arg22_r0 c0_i32_110_r0
  let v14330_r0 : BitVec 32 := Scalar.muli c1_i32_11236_r0 v107_r0
  let c512_i32_11237_r0 : BitVec 32 := 512#32
  let c0_i32_111_r0 : BitVec 32 := 0#32
  let v108_r0 : BitVec 32 := Scalar.addi arg23_r0 c0_i32_111_r0
  let v14331_r0 : BitVec 32 := Scalar.muli c512_i32_11237_r0 v108_r0
  let c0_i32_11238_r0 : BitVec 32 := 0#32
  ![v14330_r0.toNat, v14331_r0.toNat, 0]
def k0_off31 (arg20_r0 : BitVec 32) : Fin 4 → Nat :=
  let c2_i32_11235_r0 : BitVec 32 := 2#32
  let v14329_r0 : BitVec 32 := Scalar.remui arg20_r0 c2_i32_11235_r0
  let c0_i32_11239_r0 : BitVec 32 := 0#32
  let c0_i32_11240_r0 : BitVec 32 := 0#32
  let c0_i32_11241_r0 : BitVec 32 := 0#32
  ![v14329_r0.toNat, 0, 0, 0]
def k0_off32 (arg21_r0 : BitVec 32) : Fin 1 → Nat :=
  let c2_i32_11235_r0 : BitVec 32 := 2#32
  let v14329_r0 : BitVec 32 := Scalar.remui arg21_r0 c2_i32_11235_r0
  ![v14329_r0.toNat]
def k0_cond15 (k0_t1 : Fin k0_t1_loop.trips) (arg22_r0 : BitVec 32) (arg23_r0 : BitVec 32) : BitVec 1 :=
  let c0_i32_110_r0 : BitVec 32 := 0#32
  let v107_r0 : BitVec 32 := Scalar.addi arg22_r0 c0_i32_110_r0
  let true_113_r0 : BitVec 1 := 1#1
  let c1_i32_112_r0 : BitVec 32 := 1#32
  let v109_r0 : BitVec 32 := Scalar.subi arg23_r0 c1_i32_112_r0
  let v110_r0 : BitVec 32 := Scalar.select true_113_r0 v109_r0 arg23_r0
  let c_m1_i32_114_r0 : BitVec 32 := 4294967295#32
  let v111_r0 : BitVec 1 := Scalar.cmpi .eq v110_r0 c_m1_i32_114_r0
  let c1_i32_116_r0 : BitVec 32 := 1#32
  let v113_r0 : BitVec 32 := Scalar.subi arg22_r0 c1_i32_116_r0
  let v114_r0 : BitVec 32 := Scalar.select v111_r0 v113_r0 arg22_r0
  let c_m1_i32_117_r0 : BitVec 32 := 4294967295#32
  let v115_r0 : BitVec 1 := Scalar.cmpi .eq v114_r0 c_m1_i32_117_r0
  let c3_i32_118_r0 : BitVec 32 := 3#32
  let v116_r0 : BitVec 32 := Scalar.select v115_r0 c3_i32_118_r0 v114_r0
  let c0_i32_119_r0 : BitVec 32 := 0#32
  let v117_r0 : BitVec 32 := Scalar.addi v116_r0 c0_i32_119_r0
  let v14293_r0 : BitVec 1 := Scalar.cmpi .ne v107_r0 v117_r0
  let c0_i32_111_r0 : BitVec 32 := 0#32
  let v108_r0 : BitVec 32 := Scalar.addi arg23_r0 c0_i32_111_r0
  let c7_i32_115_r0 : BitVec 32 := 7#32
  let v112_r0 : BitVec 32 := Scalar.select v111_r0 c7_i32_115_r0 v110_r0
  let c0_i32_120_r0 : BitVec 32 := 0#32
  let v118_r0 : BitVec 32 := Scalar.addi v112_r0 c0_i32_120_r0
  let v14294_r0 : BitVec 1 := Scalar.cmpi .ne v108_r0 v118_r0
  let v14295_r0 : BitVec 1 := Scalar.ori v14293_r0 v14294_r0
  let c0_i32_63_r0 : BitVec 32 := 0#32
  let c1_i32_65_r0 : BitVec 32 := 1#32
  let arg13_r0 : BitVec 32 := Scf.iv c0_i32_63_r0 c1_i32_65_r0 k0_t1
  let c0_i32_109_r0 : BitVec 32 := 0#32
  let v105_r0 : BitVec 1 := Scalar.cmpi .eq arg13_r0 c0_i32_109_r0
  let true_11221_r0 : BitVec 1 := 1#1
  let v14296_r0 : BitVec 1 := Scalar.xori v105_r0 true_11221_r0
  let v14297_r0 : BitVec 1 := Scalar.andi v14295_r0 v14296_r0
  let v14298_r0 : BitVec 32 := Scalar.extui v14297_r0
  let c0_i32_11222_r0 : BitVec 32 := 0#32
  let v14299_r0 : BitVec 1 := Scalar.cmpi .ne v14298_r0 c0_i32_11222_r0
  v14299_r0

def k0_off33 (arg22_r0 : BitVec 32) (arg23_r0 : BitVec 32) : Fin 3 → Nat :=
  let c1_i32_11236_r0 : BitVec 32 := 1#32
  let true_113_r0 : BitVec 1 := 1#1
  let c1_i32_112_r0 : BitVec 32 := 1#32
  let v109_r0 : BitVec 32 := Scalar.subi arg23_r0 c1_i32_112_r0
  let v110_r0 : BitVec 32 := Scalar.select true_113_r0 v109_r0 arg23_r0
  let c_m1_i32_114_r0 : BitVec 32 := 4294967295#32
  let v111_r0 : BitVec 1 := Scalar.cmpi .eq v110_r0 c_m1_i32_114_r0
  let c1_i32_116_r0 : BitVec 32 := 1#32
  let v113_r0 : BitVec 32 := Scalar.subi arg22_r0 c1_i32_116_r0
  let v114_r0 : BitVec 32 := Scalar.select v111_r0 v113_r0 arg22_r0
  let c_m1_i32_117_r0 : BitVec 32 := 4294967295#32
  let v115_r0 : BitVec 1 := Scalar.cmpi .eq v114_r0 c_m1_i32_117_r0
  let c3_i32_118_r0 : BitVec 32 := 3#32
  let v116_r0 : BitVec 32 := Scalar.select v115_r0 c3_i32_118_r0 v114_r0
  let c0_i32_119_r0 : BitVec 32 := 0#32
  let v117_r0 : BitVec 32 := Scalar.addi v116_r0 c0_i32_119_r0
  let v14330_r0 : BitVec 32 := Scalar.muli c1_i32_11236_r0 v117_r0
  let c512_i32_11237_r0 : BitVec 32 := 512#32
  let c7_i32_115_r0 : BitVec 32 := 7#32
  let v112_r0 : BitVec 32 := Scalar.select v111_r0 c7_i32_115_r0 v110_r0
  let c0_i32_120_r0 : BitVec 32 := 0#32
  let v118_r0 : BitVec 32 := Scalar.addi v112_r0 c0_i32_120_r0
  let v14331_r0 : BitVec 32 := Scalar.muli c512_i32_11237_r0 v118_r0
  let c0_i32_11238_r0 : BitVec 32 := 0#32
  ![v14330_r0.toNat, v14331_r0.toNat, 0]
def k0_off34 (arg21_r0 : BitVec 32) : Fin 4 → Nat :=
  let c2_i32_11235_r0 : BitVec 32 := 2#32
  let v14329_r0 : BitVec 32 := Scalar.remui arg21_r0 c2_i32_11235_r0
  let c0_i32_11239_r0 : BitVec 32 := 0#32
  let c0_i32_11240_r0 : BitVec 32 := 0#32
  let c0_i32_11241_r0 : BitVec 32 := 0#32
  ![v14329_r0.toNat, 0, 0, 0]

def k0_chk1 (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) : Prop :=
  (∀ (k0_h1 : k0_cond1 k0_t1 arg22_r0 arg23_r0 = 1#1), ∀ a, (k0_off6 arg14_r0) a + S1.size a ≤ S2.size a) ∧
  (∀ (k0_h1 : k0_cond1 k0_t1 arg22_r0 arg23_r0 = 1#1), ∀ a, (k0_off7 arg14_r0) a + S1x1x16x1024.size a ≤ S2x1x16x1024.size a) ∧
  (∀ (k0_h1 : k0_cond1 k0_t1 arg22_r0 arg23_r0 = 1#1), ∀ a, (k0_off8 arg22_r0 arg23_r0) a + S1x16x1024.size a ≤ S4x4096x1024.size a) ∧
  (∀ (k0_h2 : k0_cond2 k0_t1 arg22_r0 arg23_r0 = 1#1), ∀ a, (k0_off9 arg16_r0) a + S1.size a ≤ S2.size a) ∧
  (∀ (k0_h2 : k0_cond2 k0_t1 arg22_r0 arg23_r0 = 1#1), ∀ a, (k0_off10 arg16_r0) a + S1x1x512x1024.size a ≤ S2x1x512x1024.size a) ∧
  (∀ (k0_h2 : k0_cond2 k0_t1 arg22_r0 arg23_r0 = 1#1), ∀ a, (k0_off11 arg22_r0 arg23_r0) a + S1x512x1024.size a ≤ S4x4096x1024.size a) ∧
  (∀ (k0_h3 : k0_cond3 k0_t1 arg22_r0 arg23_r0 = 1#1), ∀ a, (k0_off12 arg18_r0) a + S1.size a ≤ S2.size a) ∧
  (∀ (k0_h3 : k0_cond3 k0_t1 arg22_r0 arg23_r0 = 1#1), ∀ a, (k0_off13 arg18_r0) a + S1x1x16x1024.size a ≤ S2x1x16x1024.size a) ∧
  (∀ (k0_h3 : k0_cond3 k0_t1 arg22_r0 arg23_r0 = 1#1), ∀ a, (k0_off14 arg22_r0 arg23_r0) a + S1x16x1024.size a ≤ S4x4096x1024.size a) ∧
  (∀ (k0_h4 : k0_cond4 k0_t1 arg22_r0 arg23_r0 = 1#1), ∀ a, (k0_off15 arg15_r0) a + S1.size a ≤ S2.size a) ∧
  (∀ (k0_h4 : k0_cond4 k0_t1 arg22_r0 arg23_r0 = 1#1), ∀ a, (k0_off16 arg15_r0) a + S1x1x16x1024.size a ≤ S2x1x16x1024.size a) ∧
  (∀ (k0_h4 : k0_cond4 k0_t1 arg22_r0 arg23_r0 = 1#1), ∀ a, (k0_off17 arg22_r0 arg23_r0) a + S1x16x1024.size a ≤ S4x4096x1024.size a) ∧
  (∀ (k0_h5 : k0_cond5 k0_t1 arg22_r0 arg23_r0 = 1#1), ∀ a, (k0_off18 arg17_r0) a + S1.size a ≤ S2.size a) ∧
  (∀ (k0_h5 : k0_cond5 k0_t1 arg22_r0 arg23_r0 = 1#1), ∀ a, (k0_off19 arg17_r0) a + S1x1x512x1024.size a ≤ S2x1x512x1024.size a) ∧
  (∀ (k0_h5 : k0_cond5 k0_t1 arg22_r0 arg23_r0 = 1#1), ∀ a, (k0_off20 arg22_r0 arg23_r0) a + S1x512x1024.size a ≤ S4x4096x1024.size a) ∧
  (∀ (k0_h6 : k0_cond6 k0_t1 arg22_r0 arg23_r0 = 1#1), ∀ a, (k0_off21 arg19_r0) a + S1.size a ≤ S2.size a) ∧
  (∀ (k0_h6 : k0_cond6 k0_t1 arg22_r0 arg23_r0 = 1#1), ∀ a, (k0_off22 arg19_r0) a + S1x1x16x1024.size a ≤ S2x1x16x1024.size a) ∧
  (∀ (k0_h6 : k0_cond6 k0_t1 arg22_r0 arg23_r0 = 1#1), ∀ a, (k0_off23 arg22_r0 arg23_r0) a + S1x16x1024.size a ≤ S4x4096x1024.size a) ∧
  (∀ (k0_h11 : k0_cond11 k0_t1 arg22_r0 arg23_r0 = 1#1), ∀ a, (k0_off29 arg20_r0) a + S1.size a ≤ S2.size a) ∧
  (∀ (k0_h11 : k0_cond11 k0_t1 arg22_r0 arg23_r0 = 1#1), ∀ a, (k0_off30 arg22_r0 arg23_r0) a + S1x512x1024.size a ≤ S4x4096x1024.size a) ∧
  (∀ (k0_h11 : k0_cond11 k0_t1 arg22_r0 arg23_r0 = 1#1), ∀ a, (k0_off31 arg20_r0) a + S1x1x512x1024.size a ≤ S2x1x512x1024.size a) ∧
  (∀ (k0_h15 : k0_cond15 k0_t1 arg22_r0 arg23_r0 = 1#1), ∀ a, (k0_off32 arg21_r0) a + S1.size a ≤ S2.size a) ∧
  (∀ (k0_h15 : k0_cond15 k0_t1 arg22_r0 arg23_r0 = 1#1), ∀ a, (k0_off33 arg22_r0 arg23_r0) a + S1x512x1024.size a ≤ S4x4096x1024.size a) ∧
  (∀ (k0_h15 : k0_cond15 k0_t1 arg22_r0 arg23_r0 = 1#1), ∀ a, (k0_off34 arg21_r0) a + S1x1x512x1024.size a ≤ S2x1x512x1024.size a)
theorem k0_off6_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg14_r0 arg15_r0 arg16_r0 arg17_r0 arg18_r0 arg19_r0 arg20_r0 arg21_r0 arg22_r0 arg23_r0), ∀ (k0_h1 : k0_cond1 k0_t1 arg22_r0 arg23_r0 = 1#1), ∀ a, (k0_off6 arg14_r0) a + S1.size a ≤ S2.size a := fun k0_t1 arg14_r0 arg15_r0 arg16_r0 arg17_r0 arg18_r0 arg19_r0 arg20_r0 arg21_r0 arg22_r0 arg23_r0 k0_hw1 k0_h1 => k0_hw1.1 k0_h1
theorem k0_off7_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg14_r0 arg15_r0 arg16_r0 arg17_r0 arg18_r0 arg19_r0 arg20_r0 arg21_r0 arg22_r0 arg23_r0), ∀ (k0_h1 : k0_cond1 k0_t1 arg22_r0 arg23_r0 = 1#1), ∀ a, (k0_off7 arg14_r0) a + S1x1x16x1024.size a ≤ S2x1x16x1024.size a := fun k0_t1 arg14_r0 arg15_r0 arg16_r0 arg17_r0 arg18_r0 arg19_r0 arg20_r0 arg21_r0 arg22_r0 arg23_r0 k0_hw1 k0_h1 => k0_hw1.2.1 k0_h1
theorem k0_off8_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg14_r0 arg15_r0 arg16_r0 arg17_r0 arg18_r0 arg19_r0 arg20_r0 arg21_r0 arg22_r0 arg23_r0), ∀ (k0_h1 : k0_cond1 k0_t1 arg22_r0 arg23_r0 = 1#1), ∀ a, (k0_off8 arg22_r0 arg23_r0) a + S1x16x1024.size a ≤ S4x4096x1024.size a := fun k0_t1 arg14_r0 arg15_r0 arg16_r0 arg17_r0 arg18_r0 arg19_r0 arg20_r0 arg21_r0 arg22_r0 arg23_r0 k0_hw1 k0_h1 => k0_hw1.2.2.1 k0_h1
theorem k0_off9_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg14_r0 arg15_r0 arg16_r0 arg17_r0 arg18_r0 arg19_r0 arg20_r0 arg21_r0 arg22_r0 arg23_r0), ∀ (k0_h2 : k0_cond2 k0_t1 arg22_r0 arg23_r0 = 1#1), ∀ a, (k0_off9 arg16_r0) a + S1.size a ≤ S2.size a := fun k0_t1 arg14_r0 arg15_r0 arg16_r0 arg17_r0 arg18_r0 arg19_r0 arg20_r0 arg21_r0 arg22_r0 arg23_r0 k0_hw1 k0_h2 => k0_hw1.2.2.2.1 k0_h2
theorem k0_off10_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg14_r0 arg15_r0 arg16_r0 arg17_r0 arg18_r0 arg19_r0 arg20_r0 arg21_r0 arg22_r0 arg23_r0), ∀ (k0_h2 : k0_cond2 k0_t1 arg22_r0 arg23_r0 = 1#1), ∀ a, (k0_off10 arg16_r0) a + S1x1x512x1024.size a ≤ S2x1x512x1024.size a := fun k0_t1 arg14_r0 arg15_r0 arg16_r0 arg17_r0 arg18_r0 arg19_r0 arg20_r0 arg21_r0 arg22_r0 arg23_r0 k0_hw1 k0_h2 => k0_hw1.2.2.2.2.1 k0_h2
theorem k0_off11_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg14_r0 arg15_r0 arg16_r0 arg17_r0 arg18_r0 arg19_r0 arg20_r0 arg21_r0 arg22_r0 arg23_r0), ∀ (k0_h2 : k0_cond2 k0_t1 arg22_r0 arg23_r0 = 1#1), ∀ a, (k0_off11 arg22_r0 arg23_r0) a + S1x512x1024.size a ≤ S4x4096x1024.size a := fun k0_t1 arg14_r0 arg15_r0 arg16_r0 arg17_r0 arg18_r0 arg19_r0 arg20_r0 arg21_r0 arg22_r0 arg23_r0 k0_hw1 k0_h2 => k0_hw1.2.2.2.2.2.1 k0_h2
theorem k0_off12_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg14_r0 arg15_r0 arg16_r0 arg17_r0 arg18_r0 arg19_r0 arg20_r0 arg21_r0 arg22_r0 arg23_r0), ∀ (k0_h3 : k0_cond3 k0_t1 arg22_r0 arg23_r0 = 1#1), ∀ a, (k0_off12 arg18_r0) a + S1.size a ≤ S2.size a := fun k0_t1 arg14_r0 arg15_r0 arg16_r0 arg17_r0 arg18_r0 arg19_r0 arg20_r0 arg21_r0 arg22_r0 arg23_r0 k0_hw1 k0_h3 => k0_hw1.2.2.2.2.2.2.1 k0_h3
theorem k0_off13_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg14_r0 arg15_r0 arg16_r0 arg17_r0 arg18_r0 arg19_r0 arg20_r0 arg21_r0 arg22_r0 arg23_r0), ∀ (k0_h3 : k0_cond3 k0_t1 arg22_r0 arg23_r0 = 1#1), ∀ a, (k0_off13 arg18_r0) a + S1x1x16x1024.size a ≤ S2x1x16x1024.size a := fun k0_t1 arg14_r0 arg15_r0 arg16_r0 arg17_r0 arg18_r0 arg19_r0 arg20_r0 arg21_r0 arg22_r0 arg23_r0 k0_hw1 k0_h3 => k0_hw1.2.2.2.2.2.2.2.1 k0_h3
theorem k0_off14_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg14_r0 arg15_r0 arg16_r0 arg17_r0 arg18_r0 arg19_r0 arg20_r0 arg21_r0 arg22_r0 arg23_r0), ∀ (k0_h3 : k0_cond3 k0_t1 arg22_r0 arg23_r0 = 1#1), ∀ a, (k0_off14 arg22_r0 arg23_r0) a + S1x16x1024.size a ≤ S4x4096x1024.size a := fun k0_t1 arg14_r0 arg15_r0 arg16_r0 arg17_r0 arg18_r0 arg19_r0 arg20_r0 arg21_r0 arg22_r0 arg23_r0 k0_hw1 k0_h3 => k0_hw1.2.2.2.2.2.2.2.2.1 k0_h3
theorem k0_off15_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg14_r0 arg15_r0 arg16_r0 arg17_r0 arg18_r0 arg19_r0 arg20_r0 arg21_r0 arg22_r0 arg23_r0), ∀ (k0_h4 : k0_cond4 k0_t1 arg22_r0 arg23_r0 = 1#1), ∀ a, (k0_off15 arg15_r0) a + S1.size a ≤ S2.size a := fun k0_t1 arg14_r0 arg15_r0 arg16_r0 arg17_r0 arg18_r0 arg19_r0 arg20_r0 arg21_r0 arg22_r0 arg23_r0 k0_hw1 k0_h4 => k0_hw1.2.2.2.2.2.2.2.2.2.1 k0_h4
theorem k0_off16_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg14_r0 arg15_r0 arg16_r0 arg17_r0 arg18_r0 arg19_r0 arg20_r0 arg21_r0 arg22_r0 arg23_r0), ∀ (k0_h4 : k0_cond4 k0_t1 arg22_r0 arg23_r0 = 1#1), ∀ a, (k0_off16 arg15_r0) a + S1x1x16x1024.size a ≤ S2x1x16x1024.size a := fun k0_t1 arg14_r0 arg15_r0 arg16_r0 arg17_r0 arg18_r0 arg19_r0 arg20_r0 arg21_r0 arg22_r0 arg23_r0 k0_hw1 k0_h4 => k0_hw1.2.2.2.2.2.2.2.2.2.2.1 k0_h4
theorem k0_off17_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg14_r0 arg15_r0 arg16_r0 arg17_r0 arg18_r0 arg19_r0 arg20_r0 arg21_r0 arg22_r0 arg23_r0), ∀ (k0_h4 : k0_cond4 k0_t1 arg22_r0 arg23_r0 = 1#1), ∀ a, (k0_off17 arg22_r0 arg23_r0) a + S1x16x1024.size a ≤ S4x4096x1024.size a := fun k0_t1 arg14_r0 arg15_r0 arg16_r0 arg17_r0 arg18_r0 arg19_r0 arg20_r0 arg21_r0 arg22_r0 arg23_r0 k0_hw1 k0_h4 => k0_hw1.2.2.2.2.2.2.2.2.2.2.2.1 k0_h4
theorem k0_off18_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg14_r0 arg15_r0 arg16_r0 arg17_r0 arg18_r0 arg19_r0 arg20_r0 arg21_r0 arg22_r0 arg23_r0), ∀ (k0_h5 : k0_cond5 k0_t1 arg22_r0 arg23_r0 = 1#1), ∀ a, (k0_off18 arg17_r0) a + S1.size a ≤ S2.size a := fun k0_t1 arg14_r0 arg15_r0 arg16_r0 arg17_r0 arg18_r0 arg19_r0 arg20_r0 arg21_r0 arg22_r0 arg23_r0 k0_hw1 k0_h5 => k0_hw1.2.2.2.2.2.2.2.2.2.2.2.2.1 k0_h5
theorem k0_off19_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg14_r0 arg15_r0 arg16_r0 arg17_r0 arg18_r0 arg19_r0 arg20_r0 arg21_r0 arg22_r0 arg23_r0), ∀ (k0_h5 : k0_cond5 k0_t1 arg22_r0 arg23_r0 = 1#1), ∀ a, (k0_off19 arg17_r0) a + S1x1x512x1024.size a ≤ S2x1x512x1024.size a := fun k0_t1 arg14_r0 arg15_r0 arg16_r0 arg17_r0 arg18_r0 arg19_r0 arg20_r0 arg21_r0 arg22_r0 arg23_r0 k0_hw1 k0_h5 => k0_hw1.2.2.2.2.2.2.2.2.2.2.2.2.2.1 k0_h5
theorem k0_off20_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg14_r0 arg15_r0 arg16_r0 arg17_r0 arg18_r0 arg19_r0 arg20_r0 arg21_r0 arg22_r0 arg23_r0), ∀ (k0_h5 : k0_cond5 k0_t1 arg22_r0 arg23_r0 = 1#1), ∀ a, (k0_off20 arg22_r0 arg23_r0) a + S1x512x1024.size a ≤ S4x4096x1024.size a := fun k0_t1 arg14_r0 arg15_r0 arg16_r0 arg17_r0 arg18_r0 arg19_r0 arg20_r0 arg21_r0 arg22_r0 arg23_r0 k0_hw1 k0_h5 => k0_hw1.2.2.2.2.2.2.2.2.2.2.2.2.2.2.1 k0_h5
theorem k0_off21_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg14_r0 arg15_r0 arg16_r0 arg17_r0 arg18_r0 arg19_r0 arg20_r0 arg21_r0 arg22_r0 arg23_r0), ∀ (k0_h6 : k0_cond6 k0_t1 arg22_r0 arg23_r0 = 1#1), ∀ a, (k0_off21 arg19_r0) a + S1.size a ≤ S2.size a := fun k0_t1 arg14_r0 arg15_r0 arg16_r0 arg17_r0 arg18_r0 arg19_r0 arg20_r0 arg21_r0 arg22_r0 arg23_r0 k0_hw1 k0_h6 => k0_hw1.2.2.2.2.2.2.2.2.2.2.2.2.2.2.2.1 k0_h6
theorem k0_off22_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg14_r0 arg15_r0 arg16_r0 arg17_r0 arg18_r0 arg19_r0 arg20_r0 arg21_r0 arg22_r0 arg23_r0), ∀ (k0_h6 : k0_cond6 k0_t1 arg22_r0 arg23_r0 = 1#1), ∀ a, (k0_off22 arg19_r0) a + S1x1x16x1024.size a ≤ S2x1x16x1024.size a := fun k0_t1 arg14_r0 arg15_r0 arg16_r0 arg17_r0 arg18_r0 arg19_r0 arg20_r0 arg21_r0 arg22_r0 arg23_r0 k0_hw1 k0_h6 => k0_hw1.2.2.2.2.2.2.2.2.2.2.2.2.2.2.2.2.1 k0_h6
theorem k0_off23_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg14_r0 arg15_r0 arg16_r0 arg17_r0 arg18_r0 arg19_r0 arg20_r0 arg21_r0 arg22_r0 arg23_r0), ∀ (k0_h6 : k0_cond6 k0_t1 arg22_r0 arg23_r0 = 1#1), ∀ a, (k0_off23 arg22_r0 arg23_r0) a + S1x16x1024.size a ≤ S4x4096x1024.size a := fun k0_t1 arg14_r0 arg15_r0 arg16_r0 arg17_r0 arg18_r0 arg19_r0 arg20_r0 arg21_r0 arg22_r0 arg23_r0 k0_hw1 k0_h6 => k0_hw1.2.2.2.2.2.2.2.2.2.2.2.2.2.2.2.2.2.1 k0_h6
theorem k0_off29_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg14_r0 arg15_r0 arg16_r0 arg17_r0 arg18_r0 arg19_r0 arg20_r0 arg21_r0 arg22_r0 arg23_r0), ∀ (k0_h11 : k0_cond11 k0_t1 arg22_r0 arg23_r0 = 1#1), ∀ a, (k0_off29 arg20_r0) a + S1.size a ≤ S2.size a := fun k0_t1 arg14_r0 arg15_r0 arg16_r0 arg17_r0 arg18_r0 arg19_r0 arg20_r0 arg21_r0 arg22_r0 arg23_r0 k0_hw1 k0_h11 => k0_hw1.2.2.2.2.2.2.2.2.2.2.2.2.2.2.2.2.2.2.1 k0_h11
theorem k0_off30_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg14_r0 arg15_r0 arg16_r0 arg17_r0 arg18_r0 arg19_r0 arg20_r0 arg21_r0 arg22_r0 arg23_r0), ∀ (k0_h11 : k0_cond11 k0_t1 arg22_r0 arg23_r0 = 1#1), ∀ a, (k0_off30 arg22_r0 arg23_r0) a + S1x512x1024.size a ≤ S4x4096x1024.size a := fun k0_t1 arg14_r0 arg15_r0 arg16_r0 arg17_r0 arg18_r0 arg19_r0 arg20_r0 arg21_r0 arg22_r0 arg23_r0 k0_hw1 k0_h11 => k0_hw1.2.2.2.2.2.2.2.2.2.2.2.2.2.2.2.2.2.2.2.1 k0_h11
theorem k0_off31_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg14_r0 arg15_r0 arg16_r0 arg17_r0 arg18_r0 arg19_r0 arg20_r0 arg21_r0 arg22_r0 arg23_r0), ∀ (k0_h11 : k0_cond11 k0_t1 arg22_r0 arg23_r0 = 1#1), ∀ a, (k0_off31 arg20_r0) a + S1x1x512x1024.size a ≤ S2x1x512x1024.size a := fun k0_t1 arg14_r0 arg15_r0 arg16_r0 arg17_r0 arg18_r0 arg19_r0 arg20_r0 arg21_r0 arg22_r0 arg23_r0 k0_hw1 k0_h11 => k0_hw1.2.2.2.2.2.2.2.2.2.2.2.2.2.2.2.2.2.2.2.2.1 k0_h11
theorem k0_off32_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg14_r0 arg15_r0 arg16_r0 arg17_r0 arg18_r0 arg19_r0 arg20_r0 arg21_r0 arg22_r0 arg23_r0), ∀ (k0_h15 : k0_cond15 k0_t1 arg22_r0 arg23_r0 = 1#1), ∀ a, (k0_off32 arg21_r0) a + S1.size a ≤ S2.size a := fun k0_t1 arg14_r0 arg15_r0 arg16_r0 arg17_r0 arg18_r0 arg19_r0 arg20_r0 arg21_r0 arg22_r0 arg23_r0 k0_hw1 k0_h15 => k0_hw1.2.2.2.2.2.2.2.2.2.2.2.2.2.2.2.2.2.2.2.2.2.1 k0_h15
theorem k0_off33_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg14_r0 arg15_r0 arg16_r0 arg17_r0 arg18_r0 arg19_r0 arg20_r0 arg21_r0 arg22_r0 arg23_r0), ∀ (k0_h15 : k0_cond15 k0_t1 arg22_r0 arg23_r0 = 1#1), ∀ a, (k0_off33 arg22_r0 arg23_r0) a + S1x512x1024.size a ≤ S4x4096x1024.size a := fun k0_t1 arg14_r0 arg15_r0 arg16_r0 arg17_r0 arg18_r0 arg19_r0 arg20_r0 arg21_r0 arg22_r0 arg23_r0 k0_hw1 k0_h15 => k0_hw1.2.2.2.2.2.2.2.2.2.2.2.2.2.2.2.2.2.2.2.2.2.2.1 k0_h15
theorem k0_off34_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (k0_hw1 : k0_chk1 k0_t1 arg14_r0 arg15_r0 arg16_r0 arg17_r0 arg18_r0 arg19_r0 arg20_r0 arg21_r0 arg22_r0 arg23_r0), ∀ (k0_h15 : k0_cond15 k0_t1 arg22_r0 arg23_r0 = 1#1), ∀ a, (k0_off34 arg21_r0) a + S1x1x512x1024.size a ≤ S2x1x512x1024.size a := fun k0_t1 arg14_r0 arg15_r0 arg16_r0 arg17_r0 arg18_r0 arg19_r0 arg20_r0 arg21_r0 arg22_r0 arg23_r0 k0_hw1 k0_h15 => k0_hw1.2.2.2.2.2.2.2.2.2.2.2.2.2.2.2.2.2.2.2.2.2.2.2 k0_h15

def k0_off35 (v56_7_r0 : BitVec 32) : Fin 1 → Nat :=
  let c2_i32_103_r0 : BitVec 32 := 2#32
  let v97_r0 : BitVec 32 := Scalar.remui v56_7_r0 c2_i32_103_r0
  ![v97_r0.toNat]

def k0_off36 (v56_9_r0 : BitVec 32) (v56_8_r0 : BitVec 32) : Fin 3 → Nat :=
  let c1_i32_104_r0 : BitVec 32 := 1#32
  let true_68_r0 : BitVec 1 := 1#1
  let c1_i32_67_r0 : BitVec 32 := 1#32
  let v57_r0 : BitVec 32 := Scalar.subi v56_9_r0 c1_i32_67_r0
  let v58_r0 : BitVec 32 := Scalar.select true_68_r0 v57_r0 v56_9_r0
  let c_m1_i32_69_r0 : BitVec 32 := 4294967295#32
  let v59_r0 : BitVec 1 := Scalar.cmpi .eq v58_r0 c_m1_i32_69_r0
  let c1_i32_71_r0 : BitVec 32 := 1#32
  let v61_r0 : BitVec 32 := Scalar.subi v56_8_r0 c1_i32_71_r0
  let v62_r0 : BitVec 32 := Scalar.select v59_r0 v61_r0 v56_8_r0
  let c_m1_i32_72_r0 : BitVec 32 := 4294967295#32
  let v63_r0 : BitVec 1 := Scalar.cmpi .eq v62_r0 c_m1_i32_72_r0
  let c3_i32_73_r0 : BitVec 32 := 3#32
  let v64_r0 : BitVec 32 := Scalar.select v63_r0 c3_i32_73_r0 v62_r0
  let c0_i32_74_r0 : BitVec 32 := 0#32
  let v65_r0 : BitVec 32 := Scalar.addi v64_r0 c0_i32_74_r0
  let v98_r0 : BitVec 32 := Scalar.muli c1_i32_104_r0 v65_r0
  let c512_i32_r0 : BitVec 32 := 512#32
  let c7_i32_70_r0 : BitVec 32 := 7#32
  let v60_r0 : BitVec 32 := Scalar.select v59_r0 c7_i32_70_r0 v58_r0
  let c0_i32_75_r0 : BitVec 32 := 0#32
  let v66_r0 : BitVec 32 := Scalar.addi v60_r0 c0_i32_75_r0
  let v99_r0 : BitVec 32 := Scalar.muli c512_i32_r0 v66_r0
  let c0_i32_105_r0 : BitVec 32 := 0#32
  ![v98_r0.toNat, v99_r0.toNat, 0]

def k0_chk7 (v56_9_r0 : BitVec 32) (v56_8_r0 : BitVec 32) : Prop :=
  (∀ a, (k0_off36 v56_9_r0 v56_8_r0) a + S1x512x1024.size a ≤ S4x4096x1024.size a)
theorem k0_off36_inb : ∀ (v56_9_r0 : BitVec 32) (v56_8_r0 : BitVec 32) (k0_hw7 : k0_chk7 v56_9_r0 v56_8_r0), ∀ a, (k0_off36 v56_9_r0 v56_8_r0) a + S1x512x1024.size a ≤ S4x4096x1024.size a := fun v56_9_r0 v56_8_r0 k0_hw7 => k0_hw7

def k0_off37 (v56_7_r0 : BitVec 32) : Fin 4 → Nat :=
  let c2_i32_103_r0 : BitVec 32 := 2#32
  let v97_r0 : BitVec 32 := Scalar.remui v56_7_r0 c2_i32_103_r0
  let c0_i32_106_r0 : BitVec 32 := 0#32
  let c0_i32_107_r0 : BitVec 32 := 0#32
  let c0_i32_108_r0 : BitVec 32 := 0#32
  ![v97_r0.toNat, 0, 0, 0]

def k0_chk6 (v56_7_r0 : BitVec 32) : Prop :=
  (∀ a, (k0_off35 v56_7_r0) a + S1.size a ≤ S2.size a) ∧
  (∀ a, (k0_off37 v56_7_r0) a + S1x1x512x1024.size a ≤ S2x1x512x1024.size a)
theorem k0_off35_inb : ∀ (v56_7_r0 : BitVec 32) (k0_hw6 : k0_chk6 v56_7_r0), ∀ a, (k0_off35 v56_7_r0) a + S1.size a ≤ S2.size a := fun v56_7_r0 k0_hw6 => k0_hw6.1
theorem k0_off37_inb : ∀ (v56_7_r0 : BitVec 32) (k0_hw6 : k0_chk6 v56_7_r0), ∀ a, (k0_off37 v56_7_r0) a + S1x1x512x1024.size a ≤ S2x1x512x1024.size a := fun v56_7_r0 k0_hw6 => k0_hw6.2

abbrev stage0_0 : Fin 1 → Memref sig .tc .vmem S1024x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4x4096x1024 : Shape := ⟨3, ![4, 4096, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x1024 : Shape := ⟨2, ![1, 1024]⟩
abbrev S1024x5632 : Shape := ⟨2, ![1024, 5632]⟩
abbrev S4x4096x5632 : Shape := ⟨3, ![4, 4096, 5632]⟩
abbrev S3x5632 : Shape := ⟨2, ![3, 5632]⟩
abbrev S5632 : Shape := ⟨1, ![5632]⟩
abbrev S_ : Shape := ⟨0, ![]⟩
abbrev S4x4098x5632 : Shape := ⟨3, ![4, 4098, 5632]⟩
abbrev S1x1x5632 : Shape := ⟨3, ![1, 1, 5632]⟩
abbrev S4x4096x2816 : Shape := ⟨3, ![4, 4096, 2816]⟩
abbrev S2816x1024 : Shape := ⟨2, ![2816, 1024]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 86
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024x5632, .f32⟩
  | .hbm, ⟨2, _⟩ => ⟨S1x3x5632, .f32⟩
  | .hbm, ⟨3, _⟩ => ⟨S1x5632, .f32⟩
  | .hbm, ⟨4, _⟩ => ⟨S1x2816x1024, .f32⟩
  | .hbm, ⟨5, _⟩ => ⟨S1x1024, .f32⟩
  | .hbm, ⟨6, _⟩ => ⟨S1x1024, .f32⟩
  | .hbm, ⟨7, _⟩ => ⟨S1024x5632, .f32⟩
  | .hbm, ⟨8, _⟩ => ⟨S4x4096x5632, .f32⟩
  | .hbm, ⟨9, _⟩ => ⟨S3x5632, .f32⟩
  | .hbm, ⟨10, _⟩ => ⟨S5632, .f32⟩
  | .hbm, ⟨11, _⟩ => ⟨S_, .i32⟩
  | .hbm, ⟨12, _⟩ => ⟨S_, .f32⟩
  | .hbm, ⟨13, _⟩ => ⟨S4x4098x5632, .f32⟩
  | .hbm, ⟨14, _⟩ => ⟨S4x4096x5632, .f32⟩
  | .hbm, ⟨15, _⟩ => ⟨S1x5632, .f32⟩
  | .hbm, ⟨16, _⟩ => ⟨S5632, .f32⟩
  | .hbm, ⟨17, _⟩ => ⟨S1x1x5632, .f32⟩
  | .hbm, ⟨18, _⟩ => ⟨S4x4096x5632, .f32⟩
  | .hbm, ⟨19, _⟩ => ⟨S4x4096x5632, .f32⟩
  | .hbm, ⟨20, _⟩ => ⟨S4x4096x5632, .f32⟩
  | .hbm, ⟨21, _⟩ => ⟨S1x5632, .f32⟩
  | .hbm, ⟨22, _⟩ => ⟨S5632, .f32⟩
  | .hbm, ⟨23, _⟩ => ⟨S1x1x5632, .f32⟩
  | .hbm, ⟨24, _⟩ => ⟨S4x4096x5632, .f32⟩
  | .hbm, ⟨25, _⟩ => ⟨S4x4096x5632, .f32⟩
  | .hbm, ⟨26, _⟩ => ⟨S4x4096x5632, .f32⟩
  | .hbm, ⟨27, _⟩ => ⟨S4x4096x5632, .f32⟩
  | .hbm, ⟨28, _⟩ => ⟨S1x5632, .f32⟩
  | .hbm, ⟨29, _⟩ => ⟨S5632, .f32⟩
  | .hbm, ⟨30, _⟩ => ⟨S1x1x5632, .f32⟩
  | .hbm, ⟨31, _⟩ => ⟨S4x4096x5632, .f32⟩
  | .hbm, ⟨32, _⟩ => ⟨S4x4096x5632, .f32⟩
  | .hbm, ⟨33, _⟩ => ⟨S4x4096x5632, .f32⟩
  | .hbm, ⟨34, _⟩ => ⟨S1x1x5632, .f32⟩
  | .hbm, ⟨35, _⟩ => ⟨S4x4096x5632, .f32⟩
  | .hbm, ⟨36, _⟩ => ⟨S4x4096x5632, .f32⟩
  | .hbm, ⟨37, _⟩ => ⟨S4x4096x2816, .f32⟩
  | .hbm, ⟨38, _⟩ => ⟨S4x4096x2816, .f32⟩
  | .hbm, ⟨39, _⟩ => ⟨S4x4096x2816, .f32⟩
  | .hbm, ⟨40, _⟩ => ⟨S4x4096x2816, .f32⟩
  | .hbm, ⟨41, _⟩ => ⟨S_, .f32⟩
  | .hbm, ⟨42, _⟩ => ⟨S4x4096x2816, .f32⟩
  | .hbm, ⟨43, _⟩ => ⟨S4x4096x2816, .f32⟩
  | .hbm, ⟨44, _⟩ => ⟨S_, .f32⟩
  | .hbm, ⟨45, _⟩ => ⟨S4x4096x2816, .f32⟩
  | .hbm, ⟨46, _⟩ => ⟨S4x4096x2816, .f32⟩
  | .hbm, ⟨47, _⟩ => ⟨S4x4096x2816, .f32⟩
  | .hbm, ⟨48, _⟩ => ⟨S4x4096x2816, .f32⟩
  | .hbm, ⟨49, _⟩ => ⟨S2816x1024, .f32⟩
  | .hbm, ⟨50, _⟩ => ⟨S4x4096x1024, .f32⟩
  | .hbm, ⟨51, _⟩ => ⟨S_, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S1024, .f32⟩
  | .hbm, ⟨56, _⟩ => ⟨S1024, .f32⟩
  | .hbm, ⟨57, _⟩ => ⟨S_, .f32⟩
  | .hbm, ⟨58, _⟩ => ⟨S4x4096, .f32⟩
  | .hbm, ⟨59, _⟩ => ⟨S4x4096x1, .f32⟩
  | .hbm, ⟨60, _⟩ => ⟨S_, .f32⟩
  | .hbm, ⟨61, _⟩ => ⟨S4x4096x1, .f32⟩
  | .hbm, ⟨62, _⟩ => ⟨S4x4096x1, .f32⟩
  | .hbm, ⟨63, _⟩ => ⟨S4x4096x1024, .f32⟩
  | .hbm, ⟨64, _⟩ => ⟨S4x4096x1024, .f32⟩
  | .hbm, ⟨65, _⟩ => ⟨S4x4096x1024, .f32⟩
  | .hbm, ⟨66, _⟩ => ⟨S_, .f32⟩
  | .hbm, ⟨67, _⟩ => ⟨S4x4096, .f32⟩
  | .hbm, ⟨68, _⟩ => ⟨S4x4096x1, .f32⟩
  | .hbm, ⟨69, _⟩ => ⟨S_, .f32⟩
  | .hbm, ⟨70, _⟩ => ⟨S4x4096x1, .f32⟩
  | .hbm, ⟨71, _⟩ => ⟨S4x4096x1, .f32⟩
  | .hbm, ⟨72, _⟩ => ⟨S4x4096x1024, .f32⟩
  | .hbm, ⟨73, _⟩ => ⟨S4x4096x1024, .f32⟩
  | .hbm, ⟨74, _⟩ => ⟨S_, .f32⟩
  | .hbm, ⟨75, _⟩ => ⟨S4x4096x1, .f32⟩
  | .hbm, ⟨76, _⟩ => ⟨S4x4096x1, .f32⟩
  | .hbm, ⟨77, _⟩ => ⟨S4x4096x1, .f32⟩
  | .hbm, ⟨78, _⟩ => ⟨S4x4096x1024, .f32⟩
  | .hbm, ⟨79, _⟩ => ⟨S4x4096x1024, .f32⟩
  | .hbm, ⟨80, _⟩ => ⟨S1x1x1024, .f32⟩
  | .hbm, ⟨81, _⟩ => ⟨S4x4096x1024, .f32⟩
  | .hbm, ⟨82, _⟩ => ⟨S4x4096x1024, .f32⟩
  | .hbm, ⟨83, _⟩ => ⟨S1x1x1024, .f32⟩
  | .hbm, ⟨84, _⟩ => ⟨S4x4096x1024, .f32⟩
  | .hbm, ⟨85, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_0 : Ref sig .tc := ⟨.hbm, 57, rfl⟩
abbrev main_v39 : Ref sig .tc := ⟨.hbm, 58, rfl⟩
abbrev main_v40 : Ref sig .tc := ⟨.hbm, 59, rfl⟩
abbrev main_cst_1 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_2 : Ref sig .tc := ⟨.hbm, 66, rfl⟩
abbrev main_v46 : Ref sig .tc := ⟨.hbm, 67, rfl⟩
abbrev main_v47 : Ref sig .tc := ⟨.hbm, 68, rfl⟩
abbrev main_cst_3 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_4 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]
-- ==== Proof.Tile.lean ====
/-
  One tile of the feed-forward kernel: the contents its scratch buffers hold as the tile is computed, written as
  functions of the tile's inputs and of the weights, and one rule per kind of load and store that moves along them.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Tactic

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's, beside the counters the kernel's own transfers ride on. -/
abbrev UU (nD : Nat) (τ : Topo) : Type := UR sig nD τ × Counters
local notation "𝕄" => MT nD τ sig Unit (Elt F) ℕ (UU nD τ) ℕ
abbrev 𝒱₀ : Variants := Variants.none

/-! ## Indices and blocks -/

def mk2 (a b : ℕ) [NeZero a] [NeZero b] (i j : ℕ) : (⟨2, ![a, b]⟩ : Shape).Idx := fun t => match t with
  | ⟨0, _⟩ => Fin.ofNat a i
  | ⟨1, _⟩ => Fin.ofNat b j

def mk3 (a b d : ℕ) [NeZero a] [NeZero b] [NeZero d] (i j l : ℕ) : (⟨3, ![a, b, d]⟩ : Shape).Idx := fun t => match t with
  | ⟨0, _⟩ => Fin.ofNat a i
  | ⟨1, _⟩ => Fin.ofNat b j
  | ⟨2, _⟩ => Fin.ofNat d l

def mk4 (a b d e : ℕ) [NeZero a] [NeZero b] [NeZero d] [NeZero e] (i j l n : ℕ) : (⟨4, ![a, b, d, e]⟩ : Shape).Idx :=
  fun t => match t with
  | ⟨0, _⟩ => Fin.ofNat a i
  | ⟨1, _⟩ => Fin.ofNat b j
  | ⟨2, _⟩ => Fin.ofNat d l
  | ⟨3, _⟩ => Fin.ofNat e n

/-- The block of `n₀` by `n₁` elements of `w` at `(o₀, o₁)`. -/
def blk2 {α : Type} {a b : ℕ} [NeZero a] [NeZero b] (w : (⟨2, ![a, b]⟩ : Shape).Idx → α) (n₀ n₁ o₀ o₁ : ℕ) :
    (⟨2, ![n₀, n₁]⟩ : Shape).Idx → α := fun i => w (mk2 a b (o₀ + (i 0 : ℕ)) (o₁ + (i 1 : ℕ)))

def blk3 {α : Type} {a b d : ℕ} [NeZero a] [NeZero b] [NeZero d] (w : (⟨3, ![a, b, d]⟩ : Shape).Idx → α)
    (n₀ n₁ n₂ o₀ o₁ o₂ : ℕ) : (⟨3, ![n₀, n₁, n₂]⟩ : Shape).Idx → α :=
  fun i => w (mk3 a b d (o₀ + (i 0 : ℕ)) (o₁ + (i 1 : ℕ)) (o₂ + (i 2 : ℕ)))

theorem idx2_ext {a b : ℕ} {x y : (⟨2, ![a, b]⟩ : Shape).Idx} (h0 : (x 0 : ℕ) = y 0) (h1 : (x 1 : ℕ) = y 1) : x = y := by
  funext t; fin_cases t
  · exact Fin.ext h0
  · exact Fin.ext h1

theorem idx3_ext {a b d : ℕ} {x y : (⟨3, ![a, b, d]⟩ : Shape).Idx} (h0 : (x 0 : ℕ) = y 0) (h1 : (x 1 : ℕ) = y 1)
    (h2 : (x 2 : ℕ) = y 2) : x = y := by
  funext t; fin_cases t
  · exact Fin.ext h0
  · exact Fin.ext h1
  · exact Fin.ext h2

theorem idx4_ext {a b d e : ℕ} {x y : (⟨4, ![a, b, d, e]⟩ : Shape).Idx} (h0 : (x 0 : ℕ) = y 0) (h1 : (x 1 : ℕ) = y 1)
    (h2 : (x 2 : ℕ) = y 2) (h3 : (x 3 : ℕ) = y 3) : x = y := by
  funext t; fin_cases t
  · exact Fin.ext h0
  · exact Fin.ext h1
  · exact Fin.ext h2
  · exact Fin.ext h3

section
variable {a b d e : ℕ} [NeZero a] [NeZero b] [NeZero d] [NeZero e] (i j l n : ℕ)
theorem mk2_0 : ((mk2 a b i j 0 : Fin _) : ℕ) = i % a := rfl
theorem mk2_1 : ((mk2 a b i j 1 : Fin _) : ℕ) = j % b := rfl
theorem mk3_0 : ((mk3 a b d i j l 0 : Fin _) : ℕ) = i % a := rfl
theorem mk3_1 : ((mk3 a b d i j l 1 : Fin _) : ℕ) = j % b := rfl
theorem mk3_2 : ((mk3 a b d i j l 2 : Fin _) : ℕ) = l % d := rfl
theorem mk4_0 : ((mk4 a b d e i j l n 0 : Fin _) : ℕ) = i % a := rfl
theorem mk4_1 : ((mk4 a b d e i j l n 1 : Fin _) : ℕ) = j % b := rfl
theorem mk4_2 : ((mk4 a b d e i j l n 2 : Fin _) : ℕ) = l % d := rfl
theorem mk4_3 : ((mk4 a b d e i j l n 3 : Fin _) : ℕ) = n % e := rfl
end

/-- A unit rectangle's index is the block's. -/
theorem unit_idx2 {a b n₀ n₁ o₀ o₁ : ℕ} [NeZero a] [NeZero b]
    (inb : ∀ t, (![o₀, o₁] : Fin 2 → ℕ) t + (⟨2, ![n₀, n₁]⟩ : Shape).size t ≤ (⟨2, ![a, b]⟩ : Shape).size t)
    (i : (⟨2, ![n₀, n₁]⟩ : Shape).Idx) :
    (Rect.unit (s := ⟨2, ![a, b]⟩) ![o₀, o₁] (⟨2, ![n₀, n₁]⟩ : Shape).size inb).toLoadRect.idx i
      = mk2 a b (o₀ + (i 0 : ℕ)) (o₁ + (i 1 : ℕ)) := by
  have h0 : o₀ + n₀ ≤ a := inb 0
  have h1 : o₁ + n₁ ≤ b := inb 1
  have i0 : (i 0 : ℕ) < n₀ := (i 0).isLt
  have i1 : (i 1 : ℕ) < n₁ := (i 1).isLt
  refine idx2_ext ?_ ?_
  · rw [mk2_0, Nat.mod_eq_of_lt (by omega)]
    show o₀ + 1 * (i 0 : ℕ) = _; omega
  · rw [mk2_1, Nat.mod_eq_of_lt (by omega)]
    show o₁ + 1 * (i 1 : ℕ) = _; omega

theorem unit_idx3 {a b d n₀ n₁ n₂ o₀ o₁ o₂ : ℕ} [NeZero a] [NeZero b] [NeZero d]
    (inb : ∀ t, (![o₀, o₁, o₂] : Fin 3 → ℕ) t + (⟨3, ![n₀, n₁, n₂]⟩ : Shape).size t ≤ (⟨3, ![a, b, d]⟩ : Shape).size t)
    (i : (⟨3, ![n₀, n₁, n₂]⟩ : Shape).Idx) :
    (Rect.unit (s := ⟨3, ![a, b, d]⟩) ![o₀, o₁, o₂] (⟨3, ![n₀, n₁, n₂]⟩ : Shape).size inb).toLoadRect.idx i
      = mk3 a b d (o₀ + (i 0 : ℕ)) (o₁ + (i 1 : ℕ)) (o₂ + (i 2 : ℕ)) := by
  have h0 : o₀ + n₀ ≤ a := inb 0
  have h1 : o₁ + n₁ ≤ b := inb 1
  have h2 : o₂ + n₂ ≤ d := inb 2
  have i0 : (i 0 : ℕ) < n₀ := (i 0).isLt
  have i1 : (i 1 : ℕ) < n₁ := (i 1).isLt
  have i2 : (i 2 : ℕ) < n₂ := (i 2).isLt
  refine idx3_ext ?_ ?_ ?_
  · rw [mk3_0, Nat.mod_eq_of_lt (by omega)]
    show o₀ + 1 * (i 0 : ℕ) = _; omega
  · rw [mk3_1, Nat.mod_eq_of_lt (by omega)]
    show o₁ + 1 * (i 1 : ℕ) = _; omega
  · rw [mk3_2, Nat.mod_eq_of_lt (by omega)]
    show o₂ + 1 * (i 2 : ℕ) = _; omega

/-! ## The tile's context: its buffers, the constant contents, what is carried beside -/

variable (F) in
structure Ctx where
  c : Dev nD
  a1 : Memref sig .tc .vmem S1024x5632 .bf16
  a2 : Memref sig .tc .vmem S1x3x5632 .f32
  a3 : Memref sig .tc .vmem S1x5632 .f32
  a4 : Memref sig .tc .vmem S2816x1024 .bf16
  a5 : Memref sig .tc .vmem S1x1024 .f32
  a6 : Memref sig .tc .vmem S1x1024 .f32
  a8 : Memref sig .tc .vmem S544x1024 .bf16
  a9 : Memref sig .tc .vmem S2x2x1088x128 .f32
  a10 : Memref sig .tc .vmem S2x2x1088x128 .f32
  a11 : Memref sig .tc .vmem S2x512x256 .bf16
  a12 : Memref sig .tc .vmem S512x1024 .f32
  hp : Memref sig .tc .vmem S1x16x1024 .f32
  hc : Memref sig .tc .vmem S1x512x1024 .f32
  hn : Memref sig .tc .vmem S1x16x1024 .f32
  ho : Memref sig .tc .vmem S1x512x1024 .f32
  f1 : a1.view.ty.Contents (Elt F)
  f2 : a2.view.ty.Contents (Elt F)
  f3 : a3.view.ty.Contents (Elt F)
  f4 : a4.view.ty.Contents (Elt F)
  f5 : a5.view.ty.Contents (Elt F)
  f6 : a6.view.ty.Contents (Elt F)
  fhp : hp.view.ty.Contents (Elt F)
  fhc : hc.view.ty.Contents (Elt F)
  fhn : hn.view.ty.Contents (Elt F)
  /-- The tile's number in its sequence, as the kernel computes it. -/
  ix : BitVec 32
  /-- What is carried past the tile untouched. -/
  R : sProp 𝕄

/-- The contents of the buffers the tile writes. -/
structure Mem (X : Ctx F) where
  f8 : X.a8.view.ty.Contents (Elt F)
  f9 : X.a9.view.ty.Contents (Elt F)
  f10 : X.a10.view.ty.Contents (Elt F)
  f11 : X.a11.view.ty.Contents (Elt F)
  f12 : X.a12.view.ty.Contents (Elt F)
  fo : X.ho.view.ty.Contents (Elt F)

/-- How far the tile has come: stores into the extended tile, into the two projections, into the activations, into the
    accumulator and into the output slot so far. -/
structure St where
  nh : ℕ
  nu : ℕ
  ng : ℕ
  nd : ℕ
  no : ℕ

/-! ## What the buffers hold -/

variable (F) in
/-- The tile's inputs and the weights, as values. -/
structure In where
  w1 : Vec F S1024x5632 .bf16
  w2 : Vec F S1x3x5632 .f32
  w3 : Vec F S1x5632 .f32
  w4 : Vec F S2816x1024 .bf16
  w5 : Vec F S1x1024 .f32
  w6 : Vec F S1x1024 .f32
  vp : Vec F S1x16x1024 .f32
  vc : Vec F S1x512x1024 .f32
  vn : Vec F S1x16x1024 .f32
  ix : BitVec 32

def Ctx.inp (X : Ctx F) : In F where
  w1 := X.a1.view.read (Elt F) X.f1
  w2 := X.a2.view.read (Elt F) X.f2
  w3 := X.a3.view.read (Elt F) X.f3
  w4 := X.a4.view.read (Elt F) X.f4
  w5 := X.a5.view.read (Elt F) X.f5
  w6 := X.a6.view.read (Elt F) X.f6
  vp := X.hp.view.read (Elt F) X.fhp
  vc := X.hc.view.read (Elt F) X.fhc
  vn := X.hn.view.read (Elt F) X.fhn
  ix := X.ix

variable (I : In F)

/-- The tile with its halo rows. -/
def hext : Vec F S544x1024 .bf16 := fun y =>
  if (y 0 : ℕ) < 16 then k0_pay2 (k0_pay1 I.ix I.vp) (mk2 16 1024 (y 0 : ℕ) (y 1 : ℕ))
  else if (y 0 : ℕ) < 528 then k0_pay3 I.vc (mk2 512 1024 ((y 0 : ℕ) - 16) (y 1 : ℕ))
  else k0_pay4 I.ix I.vn (mk2 16 1024 ((y 0 : ℕ) - 528) (y 1 : ℕ))

/-- Projection `p`'s (0: the gate's, 1: the up branch's) chunk `c`, slab `l`: rows 0 to 288 … -/
def upB0 (p c l : ℕ) : Vec F S1x1x288x128 .f32 := match l with
  | 0 => k0_pay7 (k0_pay6 (blk2 (hext I) 288 1024 0 0) (blk2 I.w1 1024 256 0 (256 * c + 2816 * p)))
  | _ + 1 => k0_pay8 (k0_pay5 (blk2 (hext I) 288 1024 0 0) (blk2 I.w1 1024 256 0 (256 * c + 2816 * p)))

/-- … and rows 288 to 544. -/
def upB1 (p c l : ℕ) : Vec F S1x1x256x128 .f32 := match l with
  | 0 => k0_pay33 (blk2 (hext I) 256 1024 288 0) (blk2 I.w1 1024 256 0 (256 * c + 2816 * p))
  | _ + 1 => k0_pay34 (blk2 (hext I) 256 1024 288 0) (blk2 I.w1 1024 256 0 (256 * c + 2816 * p))

def upAt (p c l row lane : ℕ) : Elt F .f32 :=
  if row < 288 then upB0 I p c l (mk4 1 1 288 128 0 0 row lane) else upB1 I p c l (mk4 1 1 256 128 0 0 (row - 288) lane)

/-- The 32 rows a gate reads at scratch row `o` (every second scratch row is used). -/
def upBlk (p c l o : ℕ) : Vec F S1x1x32x128 .f32 := fun i => upAt I p c l (o / 2 + (i 2 : ℕ)) (i 3 : ℕ)

/-- The column of the convolution's weights of projection `p`, chunk `c`, slab `l`. -/
def tcol (p c l : ℕ) : Vec F S1x3x128 .f32 := blk3 I.w2 1 3 128 0 0 (2816 * p + 256 * c + 128 * l)
def tap0 (p c l : ℕ) : FVec F S32x128 .f32 := k0_pay13 (tcol I p c l)
def tap1 (p c l : ℕ) : FVec F S32x128 .f32 := k0_pay14 (tcol I p c l)
def tap2 (p c l : ℕ) : FVec F S32x128 .f32 := k0_pay15 (tcol I p c l)
def tapb (p c l : ℕ) : FVec F S32x128 .f32 := k0_pay16 (blk2 I.w3 1 128 0 (2816 * p + 256 * c + 128 * l))

/-- Activation block `g`: chunk `g / 16`, rows `32 (g % 16)` to `32 (g % 16) + 32` of the tile. -/
def gateVal (g : ℕ) : Vec F S1x32x256 .bf16 :=
  k0_pay42 (k0_pay41 (tap1 I 0 (g / 16) 1) (tap2 I 0 (g / 16) 1) (tapb I 0 (g / 16) 1)
    (tap0 I 1 (g / 16) 1) (tap1 I 1 (g / 16) 1) (tap2 I 1 (g / 16) 1) (tapb I 1 (g / 16) 1)
    (k0_pay39 (tap1 I 0 (g / 16) 0) (tap2 I 0 (g / 16) 0) (tapb I 0 (g / 16) 0)
      (tap0 I 1 (g / 16) 0) (tap1 I 1 (g / 16) 0) (tap2 I 1 (g / 16) 0) (tapb I 1 (g / 16) 0)
      (k0_pay38 (tap0 I 0 (g / 16) 0) (upBlk I 0 (g / 16) 0 (30 + 64 * (g % 16))))
      (upBlk I 0 (g / 16) 0 (32 + 64 * (g % 16))) (upBlk I 0 (g / 16) 0 (34 + 64 * (g % 16)))
      (upBlk I 1 (g / 16) 0 (30 + 64 * (g % 16))) (upBlk I 1 (g / 16) 0 (32 + 64 * (g % 16)))
      (upBlk I 1 (g / 16) 0 (34 + 64 * (g % 16))))
    (k0_pay40 (tap0 I 0 (g / 16) 1) (upBlk I 0 (g / 16) 1 (30 + 64 * (g % 16))))
    (upBlk I 0 (g / 16) 1 (32 + 64 * (g % 16))) (upBlk I 0 (g / 16) 1 (34 + 64 * (g % 16)))
    (upBlk I 1 (g / 16) 1 (30 + 64 * (g % 16))) (upBlk I 1 (g / 16) 1 (32 + 64 * (g % 16)))
    (upBlk I 1 (g / 16) 1 (34 + 64 * (g % 16))))

/-- Half `h` of chunk `c`'s activations. -/
def actBlk (c h : ℕ) : Vec F S1x256x256 .bf16 := fun i =>
  gateVal I (16 * c + 8 * h + (i 1 : ℕ) / 32) (mk3 1 32 256 0 ((i 1 : ℕ) % 32) (i 2 : ℕ))

/-- Half `h` of the accumulator after chunks `0` to `m`. -/
def accUp (h : ℕ) : ℕ → Vec F S256x1024 .f32
  | 0 => k0_pay113 (actBlk I 0 h) (blk2 I.w4 256 1024 0 0)
  | m + 1 => k0_pay1396 (k0_pay1395 (actBlk I (m + 1) h)) (blk2 I.w4 256 1024 (256 * (m + 1)) 0) (accUp h m)

/-- Half `h` of the output tile. -/
def outVal (h : ℕ) : Vec F S1x256x1024 .f32 :=
  k0_pay1394 (k0_pay1393 (blk3 I.vc 1 256 1024 0 (256 * h) 0)) (accUp I h 10) (blk2 I.w5 1 1024 0 0) (blk2 I.w6 1 1024 0 0)

/-- The output tile. -/
def outTile : Vec F S1x512x1024 .f32 := fun y =>
  outVal I ((y 1 : ℕ) / 256) (mk3 1 256 1024 0 ((y 1 : ℕ) % 256) (y 2 : ℕ))

/-! ## The state predicate -/

/-- Rows of the extended tile written by the first `n` stores. -/
def hrows : ℕ → ℕ
  | 0 => 0
  | 1 => 16
  | 2 => 528
  | _ => 544

/-- Units (chunk, half) of projection `p`, slab `l` stored among the first `nu` stores. -/
def ucnt (nu p l : ℕ) : ℕ := (nu + 3 - (2 * p + l)) / 4

/-- The rows of half `q % 2`. -/
def inHalf (q row : ℕ) : Prop := (q % 2 = 0 → row < 288) ∧ (q % 2 = 1 → 288 ≤ row ∧ row < 544)

def HInv (nh : ℕ) (rd : Vec F S544x1024 .bf16) : Prop := ∀ y, (y 0 : ℕ) < hrows nh → rd y = hext I y
def UInv (p nu : ℕ) (rd : Vec F S2x2x1088x128 .f32) : Prop :=
  ∀ (q row : ℕ) (y : S2x2x1088x128.Idx), q < ucnt nu p (y 1 : ℕ) → ucnt nu p (y 1 : ℕ) ≤ q + 4 → (y 0 : ℕ) = (q / 2) % 2 →
    inHalf q row → (y 2 : ℕ) = 2 * row → rd y = upAt I p (q / 2) (y 1 : ℕ) row (y 3 : ℕ)
def AInv (ng : ℕ) (rd : Vec F S2x512x256 .bf16) : Prop :=
  ∀ (g : ℕ) (y : S2x512x256.Idx), g < ng → ng ≤ g + 32 → (y 0 : ℕ) = (g / 16) % 2 → (y 1 : ℕ) / 32 = g % 16 →
    rd y = gateVal I g (mk3 1 32 256 0 ((y 1 : ℕ) % 32) (y 2 : ℕ))
def CInv (nd : ℕ) (rd : Vec F S512x1024 .f32) : Prop :=
  ∀ (y : S512x1024.Idx), 1 ≤ (nd + 1 - (y 0 : ℕ) / 256) / 2 →
    rd y = accUp I ((y 0 : ℕ) / 256) ((nd + 1 - (y 0 : ℕ) / 256) / 2 - 1) (mk2 256 1024 ((y 0 : ℕ) % 256) (y 1 : ℕ))
def OInv (no : ℕ) (rd : Vec F S1x512x1024 .f32) : Prop := ∀ y, (y 1 : ℕ) / 256 < no → rd y = outTile I y

structure T (X : Ctx F) (s : St) (M : Mem X) : Prop where
  h : HInv X.inp s.nh (X.a8.view.read (Elt F) M.f8)
  a : UInv X.inp 0 s.nu (X.a9.view.read (Elt F) M.f9)
  u : UInv X.inp 1 s.nu (X.a10.view.read (Elt F) M.f10)
  g : AInv X.inp s.ng (X.a11.view.read (Elt F) M.f11)
  d : CInv X.inp s.nd (X.a12.view.read (Elt F) M.f12)
  o : OInv X.inp s.no (X.ho.view.read (Elt F) M.fo)

/-- A whole buffer at contents `f`. -/
abbrev ptw (c : Dev nD) {s : Shape} {e : EltTy} (m : Memref sig .tc .vmem s e) (f : m.view.ty.Contents (Elt F)) : sProp 𝕄 :=
  m.view.loc (c : Thread nD τ) ↦[m.view.set]{fullShare} f

/-- The tile's resources. -/
def Pts (X : Ctx F) (M : Mem X) : sProp 𝕄 :=
  iprop(ptw X.c X.a9 M.f9 ∗ ptw X.c X.a10 M.f10 ∗ ptw X.c X.a11 M.f11 ∗ ptw X.c X.a12 M.f12 ∗ ptw X.c X.a8 M.f8
    ∗ ptw X.c X.ho M.fo ∗ ptw X.c X.a1 X.f1 ∗ ptw X.c X.a2 X.f2 ∗ ptw X.c X.a3 X.f3 ∗ ptw X.c X.a4 X.f4
    ∗ ptw X.c X.a5 X.f5 ∗ ptw X.c X.a6 X.f6 ∗ ptw X.c X.hp X.fhp ∗ ptw X.c X.hc X.fhc ∗ ptw X.c X.hn X.fhn ∗ X.R)

/-- From state `s` the program runs to the post. -/
def H {α : Type} (X : Ctx F) (s : St) (p : Prog (TpuEff nD τ sig (Elt F) Λ₀ .tc) α) (Ψ : α → sProp 𝕄) : Prop :=
  ∀ M : Mem X, T X s M → Pts X M ⊢ wp Idealize.ShloMosaic.frame (wpE (defs₀ (F := F)) 𝒱₀ (X.c : Thread nD τ) none) Set.univ p Ψ

section Rules
variable {X : Ctx F} {s : St} {α β : Type}

theorem H.bind {Post : β → sProp 𝕄} {p : Prog (TpuEff nD τ sig (Elt F) Λ₀ .tc) α} {k : α → Prog (TpuEff nD τ sig (Elt F) Λ₀ .tc) β}
    (h : H X s p fun x => wp Idealize.ShloMosaic.frame (wpE (defs₀ (F := F)) 𝒱₀ (X.c : Thread nD τ) none) Set.univ (k x) Post) :
    H X s (p >>= k) Post := by
  intro M hM
  exact (h M hM).trans (entails_of_eq (wp_bind _ _ _ p k Post).symm)
  where entails_of_eq {P Q : sProp 𝕄} (e : P = Q) : P ⊢ Q := e ▸ .rfl

theorem H.pure_wp {Post : β → sProp 𝕄} {x : α} {k : α → Prog (TpuEff nD τ sig (Elt F) Λ₀ .tc) β} (h : H X s (k x) Post) :
    H X s (pure x) fun x => wp Idealize.ShloMosaic.frame (wpE (defs₀ (F := F)) 𝒱₀ (X.c : Thread nD τ) none) Set.univ (k x) Post := by
  intro M hM
  exact (h M hM).trans fupd_intro

theorem H.pure {Post : β → sProp 𝕄} {x : β} (h : ∀ M : Mem X, T X s M → Pts X M ⊢ Post x) : H X s (Pure.pure x) Post := by
  intro M hM
  exact (h M hM).trans fupd_intro

theorem H.load {Post : β → sProp 𝕄} {sh : Shape} {e : EltTy} {m : Memref sig .tc .vmem sh e} (fM : Mem X → m.view.ty.Contents (Elt F))
    (hp : ∀ M : Mem X, Pts X M ⊢ iprop(ptw X.c m (fM M) ∗ (ptw X.c m (fM M) -∗ Pts X M)))
    {r : LoadRect sh} {hl : m.view.LoadsAt r} {k : (r.shape.Idx → Elt F e) → Prog (TpuEff nD τ sig (Elt F) Λ₀ .tc) β}
    (v : r.shape.Idx → Elt F e) (hv : ∀ M : Mem X, T X s M → m.view.readAt (Elt F) r (fM M) = v)
    (hk : H X s (k v) Post) : H X s (Prog.lift (.load m r hl) >>= k) Post := by
  intro M hM
  refine (hp M).trans ?_
  have h1 := wp_load (Val := Elt F) (defs := defs₀ (F := F)) (Ix := Unit) (Name := ℕ) (U := UU nD τ) (Lvl := ℕ) 𝒱₀ (X.c : Thread nD τ) none
    (Γ := .empty) Set.univ (m := m) (r := r) (hl := hl) (k := k) (Q := Post) (q := fullShare) (f := fM M)
    (S := m.view.set) (Finset.map_subset_map.mpr (Finset.subset_univ _))
  have h2 := hk M hM
  rw [← hv M hM] at h2
  iintro ⟨H1, H2⟩
  iapply h1 $$ H1
  iintro H1
  iapply h2
  iapply H2 $$ H1

theorem H.store {Post : β → sProp 𝕄} {sh : Shape} {e : EltTy} {m : Memref sig .tc .vmem sh e} (fM : Mem X → m.view.ty.Contents (Elt F))
    (upd : Mem X → m.view.ty.Contents (Elt F) → Mem X)
    (hp : ∀ M : Mem X, Pts X M ⊢ iprop(ptw X.c m (fM M) ∗ (∀ f', ptw X.c m f' -∗ Pts X (upd M f'))))
    {r : Rect sh} {w : r.shape.Idx → Elt F e} {hx : (m.access r).Stores Finset.univ} {hm}
    {k : PUnit → Prog (TpuEff nD τ sig (Elt F) Λ₀ .tc) β} {s' : St}
    (hT : ∀ M : Mem X, T X s M → T X s' (upd M ((m.access r).write (Elt F) (fM M) w Finset.univ)))
    (hk : H X s' (k ⟨⟩) Post) : H X s (Prog.lift (.store m r w Finset.univ hx hm) >>= k) Post := by
  intro M hM
  refine (hp M).trans ?_
  have h1 := wp_store (Val := Elt F) (defs := defs₀ (F := F)) (Ix := Unit) (Name := ℕ) (U := UU nD τ) (Lvl := ℕ) 𝒱₀ (X.c : Thread nD τ) none
    (Γ := .empty) Set.univ (m := m) (r := r) (w := w) (hx := hx) (hm := hm) (k := k) (Q := Post) (f := fM M)
    (S := m.view.set) ((Finset.map_subset_map.mpr (Finset.subset_univ _)).trans (View.set_slice_subset m.view r))
  have h2 := hk _ (hT M hM)
  iintro ⟨H1, H2⟩
  iapply h1 $$ H1
  iintro H1
  iapply h2
  iapply H2 $$ H1

end Rules

end Cert.Proof.Ffn

end
-- ==== Proof.Steps.lean ====
/-
  The rules of the tile's loads and stores: per buffer, what a load reads at the state reached, and how a store moves
  the state on.
-/
module

public import proofs.«01_k».proof.Proof.Tile

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ
abbrev EE (F : FTy → Type) := TpuEff nD τ sig (Elt F) Λ₀ .tc

/-! ## One buffer out of the tile's resources, and back -/

theorem get0 {P Q : sProp 𝕄} : iprop(P ∗ Q) ⊢ iprop(P ∗ (P -∗ P ∗ Q)) := by
  iintro ⟨H1, H2⟩
  isplitl [H1]
  · iexact H1
  iintro H1
  isplitl [H1]
  · iexact H1
  iexact H2

theorem getS {P Q A : sProp 𝕄} (h : Q ⊢ iprop(A ∗ (A -∗ Q))) : iprop(P ∗ Q) ⊢ iprop(A ∗ (A -∗ P ∗ Q)) := by
  iintro ⟨H1, H2⟩
  ihave H2 := h $$ H2
  icases H2 with ⟨H2, H3⟩
  isplitl [H2]
  · iexact H2
  iintro H2
  isplitl [H1]
  · iexact H1
  iapply H3 $$ H2

theorem put0 {ι : Type} {A : ι → sProp 𝕄} {i : ι} {Q : sProp 𝕄} : iprop(A i ∗ Q) ⊢ iprop(A i ∗ (∀ j, A j -∗ A j ∗ Q)) := by
  iintro ⟨H1, H2⟩
  isplitl [H1]
  · iexact H1
  iintro %j H1
  isplitl [H1]
  · iexact H1
  iexact H2

theorem putS {ι : Type} {P Q B : sProp 𝕄} {A Q' : ι → sProp 𝕄} (h : Q ⊢ iprop(B ∗ (∀ j, A j -∗ Q' j))) :
    iprop(P ∗ Q) ⊢ iprop(B ∗ (∀ j, A j -∗ P ∗ Q' j)) := by
  iintro ⟨H1, H2⟩
  ihave H2 := h $$ H2
  icases H2 with ⟨H2, H3⟩
  isplitl [H2]
  · iexact H2
  iintro %j H2
  isplitl [H1]
  · iexact H1
  iapply H3 $$ H2

def Mem.set9 {X : Ctx F} (M : Mem X) (f : X.a9.view.ty.Contents (Elt F)) : Mem X := { M with f9 := f }
def Mem.set10 {X : Ctx F} (M : Mem X) (f : X.a10.view.ty.Contents (Elt F)) : Mem X := { M with f10 := f }
def Mem.set11 {X : Ctx F} (M : Mem X) (f : X.a11.view.ty.Contents (Elt F)) : Mem X := { M with f11 := f }
def Mem.set12 {X : Ctx F} (M : Mem X) (f : X.a12.view.ty.Contents (Elt F)) : Mem X := { M with f12 := f }
def Mem.set8 {X : Ctx F} (M : Mem X) (f : X.a8.view.ty.Contents (Elt F)) : Mem X := { M with f8 := f }
def Mem.seto {X : Ctx F} (M : Mem X) (f : X.ho.view.ty.Contents (Elt F)) : Mem X := { M with fo := f }

section Set
variable {X : Ctx F} {M : Mem X} {nh nu ng nd no n' : ℕ}
theorem T.set9 (hM : T X ⟨nh, nu, ng, nd, no⟩ M) {f : X.a9.view.ty.Contents (Elt F)} (h : UInv X.inp 0 n' (X.a9.view.read (Elt F) f)) (h' : UInv X.inp 1 n' (X.a10.view.read (Elt F) M.f10)) :
    T X ⟨nh, n', ng, nd, no⟩ (M.set9 f) := ⟨hM.h, h, h', hM.g, hM.d, hM.o⟩
theorem T.set10 (hM : T X ⟨nh, nu, ng, nd, no⟩ M) {f : X.a10.view.ty.Contents (Elt F)} (h : UInv X.inp 1 n' (X.a10.view.read (Elt F) f)) (h' : UInv X.inp 0 n' (X.a9.view.read (Elt F) M.f9)) :
    T X ⟨nh, n', ng, nd, no⟩ (M.set10 f) := ⟨hM.h, h', h, hM.g, hM.d, hM.o⟩
theorem T.set11 (hM : T X ⟨nh, nu, ng, nd, no⟩ M) {f : X.a11.view.ty.Contents (Elt F)} (h : AInv X.inp n' (X.a11.view.read (Elt F) f)) :
    T X ⟨nh, nu, n', nd, no⟩ (M.set11 f) := ⟨hM.h, hM.a, hM.u, h, hM.d, hM.o⟩
theorem T.set12 (hM : T X ⟨nh, nu, ng, nd, no⟩ M) {f : X.a12.view.ty.Contents (Elt F)} (h : CInv X.inp n' (X.a12.view.read (Elt F) f)) :
    T X ⟨nh, nu, ng, n', no⟩ (M.set12 f) := ⟨hM.h, hM.a, hM.u, hM.g, h, hM.o⟩
theorem T.set8 (hM : T X ⟨nh, nu, ng, nd, no⟩ M) {f : X.a8.view.ty.Contents (Elt F)} (h : HInv X.inp n' (X.a8.view.read (Elt F) f)) :
    T X ⟨n', nu, ng, nd, no⟩ (M.set8 f) := ⟨h, hM.a, hM.u, hM.g, hM.d, hM.o⟩
theorem T.seto (hM : T X ⟨nh, nu, ng, nd, no⟩ M) {f : X.ho.view.ty.Contents (Elt F)} (h : OInv X.inp n' (X.ho.view.read (Elt F) f)) :
    T X ⟨nh, nu, ng, nd, n'⟩ (M.seto f) := ⟨hM.h, hM.a, hM.u, hM.g, hM.d, h⟩
end Set

section Pts
variable (X : Ctx F) (M : Mem X)

theorem g9 : Pts X M ⊢ iprop(ptw X.c X.a9 M.f9 ∗ (ptw X.c X.a9 M.f9 -∗ Pts X M)) := get0
theorem g10 : Pts X M ⊢ iprop(ptw X.c X.a10 M.f10 ∗ (ptw X.c X.a10 M.f10 -∗ Pts X M)) := getS get0
theorem g11 : Pts X M ⊢ iprop(ptw X.c X.a11 M.f11 ∗ (ptw X.c X.a11 M.f11 -∗ Pts X M)) := getS (getS get0)
theorem g12 : Pts X M ⊢ iprop(ptw X.c X.a12 M.f12 ∗ (ptw X.c X.a12 M.f12 -∗ Pts X M)) := getS (getS (getS get0))
theorem g8 : Pts X M ⊢ iprop(ptw X.c X.a8 M.f8 ∗ (ptw X.c X.a8 M.f8 -∗ Pts X M)) := getS (getS (getS (getS get0)))
theorem go : Pts X M ⊢ iprop(ptw X.c X.ho M.fo ∗ (ptw X.c X.ho M.fo -∗ Pts X M)) :=
  getS (getS (getS (getS (getS get0))))
theorem g1 : Pts X M ⊢ iprop(ptw X.c X.a1 X.f1 ∗ (ptw X.c X.a1 X.f1 -∗ Pts X M)) :=
  getS (getS (getS (getS (getS (getS get0)))))
theorem g2 : Pts X M ⊢ iprop(ptw X.c X.a2 X.f2 ∗ (ptw X.c X.a2 X.f2 -∗ Pts X M)) :=
  getS (getS (getS (getS (getS (getS (getS get0))))))
theorem g3 : Pts X M ⊢ iprop(ptw X.c X.a3 X.f3 ∗ (ptw X.c X.a3 X.f3 -∗ Pts X M)) :=
  getS (getS (getS (getS (getS (getS (getS (getS get0)))))))
theorem g4 : Pts X M ⊢ iprop(ptw X.c X.a4 X.f4 ∗ (ptw X.c X.a4 X.f4 -∗ Pts X M)) :=
  getS (getS (getS (getS (getS (getS (getS (getS (getS get0))))))))
theorem g5 : Pts X M ⊢ iprop(ptw X.c X.a5 X.f5 ∗ (ptw X.c X.a5 X.f5 -∗ Pts X M)) :=
  getS (getS (getS (getS (getS (getS (getS (getS (getS (getS get0)))))))))
theorem g6 : Pts X M ⊢ iprop(ptw X.c X.a6 X.f6 ∗ (ptw X.c X.a6 X.f6 -∗ Pts X M)) :=
  getS (getS (getS (getS (getS (getS (getS (getS (getS (getS (getS get0))))))))))
theorem ghp : Pts X M ⊢ iprop(ptw X.c X.hp X.fhp ∗ (ptw X.c X.hp X.fhp -∗ Pts X M)) :=
  getS (getS (getS (getS (getS (getS (getS (getS (getS (getS (getS (getS get0)))))))))))
theorem ghc : Pts X M ⊢ iprop(ptw X.c X.hc X.fhc ∗ (ptw X.c X.hc X.fhc -∗ Pts X M)) :=
  getS (getS (getS (getS (getS (getS (getS (getS (getS (getS (getS (getS (getS get0))))))))))))
theorem ghn : Pts X M ⊢ iprop(ptw X.c X.hn X.fhn ∗ (ptw X.c X.hn X.fhn -∗ Pts X M)) :=
  getS (getS (getS (getS (getS (getS (getS (getS (getS (getS (getS (getS (getS (getS get0)))))))))))))

theorem p9 : Pts X M ⊢ iprop(ptw X.c X.a9 M.f9 ∗ (∀ f', ptw X.c X.a9 f' -∗ Pts X (M.set9 f'))) :=
  put0 (A := fun f => ptw X.c X.a9 f)
theorem p10 : Pts X M ⊢ iprop(ptw X.c X.a10 M.f10 ∗ (∀ f', ptw X.c X.a10 f' -∗ Pts X (M.set10 f'))) :=
  putS (put0 (A := fun f => ptw X.c X.a10 f))
theorem p11 : Pts X M ⊢ iprop(ptw X.c X.a11 M.f11 ∗ (∀ f', ptw X.c X.a11 f' -∗ Pts X (M.set11 f'))) :=
  putS (putS (put0 (A := fun f => ptw X.c X.a11 f)))
theorem p12 : Pts X M ⊢ iprop(ptw X.c X.a12 M.f12 ∗ (∀ f', ptw X.c X.a12 f' -∗ Pts X (M.set12 f'))) :=
  putS (putS (putS (put0 (A := fun f => ptw X.c X.a12 f))))
theorem p8 : Pts X M ⊢ iprop(ptw X.c X.a8 M.f8 ∗ (∀ f', ptw X.c X.a8 f' -∗ Pts X (M.set8 f'))) :=
  putS (putS (putS (putS (put0 (A := fun f => ptw X.c X.a8 f)))))
theorem po : Pts X M ⊢ iprop(ptw X.c X.ho M.fo ∗ (∀ f', ptw X.c X.ho f' -∗ Pts X (M.seto f'))) :=
  putS (putS (putS (putS (putS (put0 (A := fun f => ptw X.c X.ho f))))))
end Pts

/-! ## Loads of what does not change -/

section Const
variable {X : Ctx F} {s : St} {β : Type} {n₀ n₁ n₂ o₀ o₁ o₂ : ℕ}

theorem rd2 {a b n₀ n₁ o₀ o₁ : ℕ} [NeZero a] [NeZero b] {e : EltTy} (m : Memref sig .tc .vmem ⟨2, ![a, b]⟩ e)
    (f : m.view.ty.Contents (Elt F))
    (inb : ∀ t, (![o₀, o₁] : Fin 2 → ℕ) t + (⟨2, ![n₀, n₁]⟩ : Shape).size t ≤ (⟨2, ![a, b]⟩ : Shape).size t) :
    m.view.readAt (Elt F) (Rect.unit (s := ⟨2, ![a, b]⟩) ![o₀, o₁] (⟨2, ![n₀, n₁]⟩ : Shape).size inb).toLoadRect f
      = blk2 (m.view.read (Elt F) f) n₀ n₁ o₀ o₁ :=
  funext fun i => congrArg (m.view.read (Elt F) f) (unit_idx2 inb i)

theorem rd3 {a b d n₀ n₁ n₂ o₀ o₁ o₂ : ℕ} [NeZero a] [NeZero b] [NeZero d] {e : EltTy}
    (m : Memref sig .tc .vmem ⟨3, ![a, b, d]⟩ e) (f : m.view.ty.Contents (Elt F))
    (inb : ∀ t, (![o₀, o₁, o₂] : Fin 3 → ℕ) t + (⟨3, ![n₀, n₁, n₂]⟩ : Shape).size t ≤ (⟨3, ![a, b, d]⟩ : Shape).size t) :
    m.view.readAt (Elt F) (Rect.unit (s := ⟨3, ![a, b, d]⟩) ![o₀, o₁, o₂] (⟨3, ![n₀, n₁, n₂]⟩ : Shape).size inb).toLoadRect f
      = blk3 (m.view.read (Elt F) f) n₀ n₁ n₂ o₀ o₁ o₂ :=
  funext fun i => congrArg (m.view.read (Elt F) f) (unit_idx3 inb i)

theorem H.ld1 {Post : β → sProp 𝕄} {inb hl} {k : Vec F S1024x256 .bf16 → Prog (EE F) β}
    (hk : H X s (k (blk2 X.inp.w1 1024 256 o₀ o₁)) Post) :
    H X s (Prog.lift (.load X.a1 (Rect.unit (s := S1024x5632) ![o₀, o₁] S1024x256.size inb).toLoadRect hl) >>= k) Post :=
  H.load (fun _ => X.f1) (g1 X) _ (fun _ _ => rd2 X.a1 X.f1 inb) hk

theorem H.ld2 {Post : β → sProp 𝕄} {inb hl} {k : Vec F S1x3x128 .f32 → Prog (EE F) β}
    (hk : H X s (k (blk3 X.inp.w2 1 3 128 o₀ o₁ o₂)) Post) :
    H X s (Prog.lift (.load X.a2 (Rect.unit (s := S1x3x5632) ![o₀, o₁, o₂] S1x3x128.size inb).toLoadRect hl) >>= k) Post :=
  H.load (fun _ => X.f2) (g2 X) _ (fun _ _ => rd3 X.a2 X.f2 inb) hk

theorem H.ld3 {Post : β → sProp 𝕄} {inb hl} {k : Vec F S1x128 .f32 → Prog (EE F) β}
    (hk : H X s (k (blk2 X.inp.w3 1 128 o₀ o₁)) Post) :
    H X s (Prog.lift (.load X.a3 (Rect.unit (s := S1x5632) ![o₀, o₁] S1x128.size inb).toLoadRect hl) >>= k) Post :=
  H.load (fun _ => X.f3) (g3 X) _ (fun _ _ => rd2 X.a3 X.f3 inb) hk

theorem H.ld4 {Post : β → sProp 𝕄} {inb hl} {k : Vec F S256x1024 .bf16 → Prog (EE F) β}
    (hk : H X s (k (blk2 X.inp.w4 256 1024 o₀ o₁)) Post) :
    H X s (Prog.lift (.load X.a4 (Rect.unit (s := S2816x1024) ![o₀, o₁] S256x1024.size inb).toLoadRect hl) >>= k) Post :=
  H.load (fun _ => X.f4) (g4 X) _ (fun _ _ => rd2 X.a4 X.f4 inb) hk

theorem H.ld5 {Post : β → sProp 𝕄} {inb hl} {k : Vec F S1x1024 .f32 → Prog (EE F) β}
    (hk : H X s (k (blk2 X.inp.w5 1 1024 o₀ o₁)) Post) :
    H X s (Prog.lift (.load X.a5 (Rect.unit (s := S1x1024) ![o₀, o₁] S1x1024.size inb).toLoadRect hl) >>= k) Post :=
  H.load (fun _ => X.f5) (g5 X) _ (fun _ _ => rd2 X.a5 X.f5 inb) hk

theorem H.ld6 {Post : β → sProp 𝕄} {inb hl} {k : Vec F S1x1024 .f32 → Prog (EE F) β}
    (hk : H X s (k (blk2 X.inp.w6 1 1024 o₀ o₁)) Post) :
    H X s (Prog.lift (.load X.a6 (Rect.unit (s := S1x1024) ![o₀, o₁] S1x1024.size inb).toLoadRect hl) >>= k) Post :=
  H.load (fun _ => X.f6) (g6 X) _ (fun _ _ => rd2 X.a6 X.f6 inb) hk

theorem rd3_whole {a b d : ℕ} [NeZero a] [NeZero b] [NeZero d] {e : EltTy}
    (m : Memref sig .tc .vmem ⟨3, ![a, b, d]⟩ e) (f : m.view.ty.Contents (Elt F))
    (inb : ∀ t, (![0, 0, 0] : Fin 3 → ℕ) t + (⟨3, ![a, b, d]⟩ : Shape).size t ≤ (⟨3, ![a, b, d]⟩ : Shape).size t) :
    m.view.readAt (Elt F) (Rect.unit (s := ⟨3, ![a, b, d]⟩) ![0, 0, 0] (⟨3, ![a, b, d]⟩ : Shape).size inb).toLoadRect f
      = m.view.read (Elt F) f := by
  funext i
  refine congrArg (m.view.read (Elt F) f) (idx3_ext ?_ ?_ ?_)
  · show 0 + 1 * (i 0 : ℕ) = _; omega
  · show 0 + 1 * (i 1 : ℕ) = _; omega
  · show 0 + 1 * (i 2 : ℕ) = _; omega

theorem H.ldhp {Post : β → sProp 𝕄} {inb hl} {k : Vec F S1x16x1024 .f32 → Prog (EE F) β} (hk : H X s (k X.inp.vp) Post) :
    H X s (Prog.lift (.load X.hp (Rect.unit (s := S1x16x1024) ![0, 0, 0] S1x16x1024.size inb).toLoadRect hl) >>= k) Post :=
  H.load (fun _ => X.fhp) (ghp X) _ (fun _ _ => rd3_whole X.hp X.fhp inb) hk

theorem H.ldhn {Post : β → sProp 𝕄} {inb hl} {k : Vec F S1x16x1024 .f32 → Prog (EE F) β} (hk : H X s (k X.inp.vn) Post) :
    H X s (Prog.lift (.load X.hn (Rect.unit (s := S1x16x1024) ![0, 0, 0] S1x16x1024.size inb).toLoadRect hl) >>= k) Post :=
  H.load (fun _ => X.fhn) (ghn X) _ (fun _ _ => rd3_whole X.hn X.fhn inb) hk

theorem H.ldhc {Post : β → sProp 𝕄} {inb hl} {k : Vec F S1x512x1024 .f32 → Prog (EE F) β} (hk : H X s (k X.inp.vc) Post) :
    H X s (Prog.lift (.load X.hc (Rect.unit (s := S1x512x1024) ![0, 0, 0] S1x512x1024.size inb).toLoadRect hl) >>= k) Post :=
  H.load (fun _ => X.fhc) (ghc X) _ (fun _ _ => rd3_whole X.hc X.fhc inb) hk

theorem H.ldhc' {Post : β → sProp 𝕄} {inb hl} {k : Vec F S1x256x1024 .f32 → Prog (EE F) β}
    (hk : H X s (k (blk3 X.inp.vc 1 256 1024 o₀ o₁ o₂)) Post) :
    H X s (Prog.lift (.load X.hc (Rect.unit (s := S1x512x1024) ![o₀, o₁, o₂] S1x256x1024.size inb).toLoadRect hl) >>= k) Post :=
  H.load (fun _ => X.fhc) (ghc X) _ (fun _ _ => rd3 X.hc X.fhc inb) hk

/-! ## Loads whose value is not used -/

theorem H.loadAny {Post : β → sProp 𝕄} {sh : Shape} {e : EltTy} {m : Memref sig .tc .vmem sh e} (fM : Mem X → m.view.ty.Contents (Elt F))
    (hp : ∀ M : Mem X, Pts X M ⊢ iprop(ptw X.c m (fM M) ∗ (ptw X.c m (fM M) -∗ Pts X M)))
    {r : LoadRect sh} {hl : m.view.LoadsAt r} {k : (r.shape.Idx → Elt F e) → Prog (EE F) β}
    (hk : ∀ v, H X s (k v) Post) : H X s (Prog.lift (.load m r hl) >>= k) Post := by
  intro M hM
  refine (hp M).trans ?_
  have h1 := wp_load (Val := Elt F) (defs := defs₀ (F := F)) (Ix := Unit) (Name := ℕ) (U := UU nD τ) (Lvl := ℕ) 𝒱₀ (X.c : Thread nD τ) none
    (Γ := .empty) Set.univ (m := m) (r := r) (hl := hl) (k := k) (Q := Post) (q := fullShare) (f := fM M)
    (S := m.view.set) (Finset.map_subset_map.mpr (Finset.subset_univ _))
  have h2 := fun v => hk v M hM
  iintro ⟨H1, H2⟩
  iapply h1 $$ H1
  iintro H1
  iapply h2
  iapply H2 $$ H1

theorem H.any9 {Post : β → sProp 𝕄} {r : LoadRect S2x2x1088x128} {hl} {k : (r.shape.Idx → Elt F .f32) → Prog (EE F) β} (hk : ∀ v, H X s (k v) Post) :
    H X s (Prog.lift (.load X.a9 r hl) >>= k) Post := H.loadAny (·.f9) (g9 X) hk
theorem H.any10 {Post : β → sProp 𝕄} {r : LoadRect S2x2x1088x128} {hl} {k : (r.shape.Idx → Elt F .f32) → Prog (EE F) β} (hk : ∀ v, H X s (k v) Post) :
    H X s (Prog.lift (.load X.a10 r hl) >>= k) Post := H.loadAny (·.f10) (g10 X) hk
theorem H.any11 {Post : β → sProp 𝕄} {r : LoadRect S2x512x256} {hl} {k : (r.shape.Idx → Elt F .bf16) → Prog (EE F) β} (hk : ∀ v, H X s (k v) Post) :
    H X s (Prog.lift (.load X.a11 r hl) >>= k) Post := H.loadAny (·.f11) (g11 X) hk
theorem H.any12 {Post : β → sProp 𝕄} {r : LoadRect S512x1024} {hl} {k : (r.shape.Idx → Elt F .f32) → Prog (EE F) β} (hk : ∀ v, H X s (k v) Post) :
    H X s (Prog.lift (.load X.a12 r hl) >>= k) Post := H.loadAny (·.f12) (g12 X) hk
theorem H.any8 {Post : β → sProp 𝕄} {r : LoadRect S544x1024} {hl} {k : (r.shape.Idx → Elt F .bf16) → Prog (EE F) β} (hk : ∀ v, H X s (k v) Post) :
    H X s (Prog.lift (.load X.a8 r hl) >>= k) Post := H.loadAny (·.f8) (g8 X) hk
theorem H.anyo {Post : β → sProp 𝕄} {r : LoadRect S1x512x1024} {hl} {k : (r.shape.Idx → Elt F .f32) → Prog (EE F) β} (hk : ∀ v, H X s (k v) Post) :
    H X s (Prog.lift (.load X.ho r hl) >>= k) Post := H.loadAny (·.fo) (go X) hk

end Const

/-! ## Reading back: a store through a rectangle, seen at an index -/

theorem read_store_hit {sh : Shape} {e : EltTy} (m : Memref sig .tc .vmem sh e) (r : Rect sh)
    (f : m.view.ty.Contents (Elt F)) (w : r.shape.Idx → Elt F e) (y : sh.Idx) {v : Elt F e}
    (h : ∃ x, r.emb x = y ∧ w x = v) :
    m.view.read (Elt F) ((m.access r).write (Elt F) f w Finset.univ) y = v := by
  obtain ⟨x, rfl, rfl⟩ := h
  exact View.read_slice_write_emb r f w (Finset.mem_univ x)

theorem read_store_miss {sh : Shape} {e : EltTy} (m : Memref sig .tc .vmem sh e) (r : Rect sh)
    (f : m.view.ty.Contents (Elt F)) (w : r.shape.Idx → Elt F e) (y : sh.Idx) (h : ∀ x, r.emb x ≠ y) :
    m.view.read (Elt F) ((m.access r).write (Elt F) f w Finset.univ) y = m.view.read (Elt F) f y := by
  refine View.read_slice_write_of_not_mem r f w Finset.univ fun hm => ?_
  obtain ⟨x, -, hx⟩ := Finset.mem_map.mp hm
  exact h x hx

/-! ## The two projections -/

section Up
variable {X : Ctx F} {β : Type} {nh nu ng nd no sl l o : ℕ}

/-- A gate of chunk `c` may read the 32 rows at scratch row `o`. -/
def okUp (nu p sl l o c : ℕ) : Bool :=
  (sl == c % 2) && decide (l < 2) && (o % 2 == 0) && decide (o / 2 + 32 ≤ 544) && decide (2 * c < ucnt nu p l)
    && decide (ucnt nu p l ≤ 2 * c + 4) && (decide (o / 2 + 32 ≤ 288) || decide (2 * c + 1 < ucnt nu p l))

theorem up_read {I : In F} {p c : ℕ} {rd : Vec F S2x2x1088x128 .f32} (hi : UInv I p nu rd) (hc : okUp nu p sl l o c = true)
    (inb) : (fun i => rd ((⟨![sl, l, o, 0], S1x1x32x128.size, ![1, 1, 2, 1], inb⟩ : LoadRect S2x2x1088x128).idx i))
      = upBlk I p c l o := by
  simp only [okUp, Bool.and_eq_true, Bool.or_eq_true, decide_eq_true_eq, beq_iff_eq] at hc
  obtain ⟨⟨⟨⟨⟨⟨h1, h2⟩, h3⟩, h4⟩, h5⟩, h6⟩, h7⟩ := hc
  funext i
  have i0 : (i 0 : ℕ) < 1 := (i 0).isLt
  have i1 : (i 1 : ℕ) < 1 := (i 1).isLt
  have i2 : (i 2 : ℕ) < 32 := (i 2).isLt
  have y1 : (((⟨![sl, l, o, 0], S1x1x32x128.size, ![1, 1, 2, 1], inb⟩ : LoadRect S2x2x1088x128).idx i 1 : Fin _) : ℕ) = l := by
    show l + 1 * (i 1 : ℕ) = l; omega
  have y0 : (((⟨![sl, l, o, 0], S1x1x32x128.size, ![1, 1, 2, 1], inb⟩ : LoadRect S2x2x1088x128).idx i 0 : Fin _) : ℕ) = sl := by
    show sl + 1 * (i 0 : ℕ) = sl; omega
  have y2 : (((⟨![sl, l, o, 0], S1x1x32x128.size, ![1, 1, 2, 1], inb⟩ : LoadRect S2x2x1088x128).idx i 2 : Fin _) : ℕ)
      = 2 * (o / 2 + (i 2 : ℕ)) := by
    show o + 2 * (i 2 : ℕ) = _; omega
  have y3 : (((⟨![sl, l, o, 0], S1x1x32x128.size, ![1, 1, 2, 1], inb⟩ : LoadRect S2x2x1088x128).idx i 3 : Fin _) : ℕ)
      = (i 3 : ℕ) := by
    show 0 + 1 * (i 3 : ℕ) = _; omega
  by_cases hr : o / 2 + (i 2 : ℕ) < 288
  · have := hi (2 * c) (o / 2 + (i 2 : ℕ)) _ (by rw [y1]; omega) (by rw [y1]; omega) (by rw [y0]; omega)
      ⟨fun _ => hr, fun h => by omega⟩ y2
    rw [this, y1, y3, show 2 * c / 2 = c by omega]; rfl
  · have := hi (2 * c + 1) (o / 2 + (i 2 : ℕ)) _ (by rw [y1]; omega) (by rw [y1]; omega) (by rw [y0]; omega)
      ⟨fun h => by omega, fun _ => by omega⟩ y2
    rw [this, y1, y3, show (2 * c + 1) / 2 = c by omega]; rfl

theorem H.ld9 {Post : β → sProp 𝕄} {inb hl} {k : Vec F S1x1x32x128 .f32 → Prog (EE F) β} (hc : okUp nu 0 sl l o (ng / 16) = true)
    (hk : H X ⟨nh, nu, ng, nd, no⟩ (k (upBlk X.inp 0 (ng / 16) l o)) Post) :
    H X ⟨nh, nu, ng, nd, no⟩ (Prog.lift (.load X.a9 (⟨![sl, l, o, 0], S1x1x32x128.size, ![1, 1, 2, 1], inb⟩ : LoadRect S2x2x1088x128) hl) >>= k) Post :=
  H.load (·.f9) (g9 X) _ (fun M hM => up_read hM.a hc inb) hk

theorem H.ld10 {Post : β → sProp 𝕄} {inb hl} {k : Vec F S1x1x32x128 .f32 → Prog (EE F) β} (hc : okUp nu 1 sl l o (ng / 16) = true)
    (hk : H X ⟨nh, nu, ng, nd, no⟩ (k (upBlk X.inp 1 (ng / 16) l o)) Post) :
    H X ⟨nh, nu, ng, nd, no⟩ (Prog.lift (.load X.a10 (⟨![sl, l, o, 0], S1x1x32x128.size, ![1, 1, 2, 1], inb⟩ : LoadRect S2x2x1088x128) hl) >>= k) Post :=
  H.load (·.f10) (g10 X) _ (fun M hM => up_read hM.u hc inb) hk

/-- The next store is unit `q`'s, of projection `p`, slab `l`, at slot `sl`. -/
def okSt (nu p sl l : ℕ) (hf : ℕ) : Bool :=
  (nu % 4 == 2 * p + l) && decide (l < 2) && decide (p < 2) && (sl == (nu / 8) % 2) && ((nu / 4) % 2 == hf)

theorem UInv.other {I : In F} {p p' l : ℕ} {rd : Vec F S2x2x1088x128 .f32} (h : UInv I p nu rd) (hl : l < 2) (hp : p < 2) (hp' : p' < 2)
    (hn : nu % 4 = 2 * p' + l) (hne : p ≠ p') : UInv I p (nu + 1) rd := by
  intro q row y h1 h2
  have y1 : (y 1 : ℕ) < 2 := (y 1).isLt
  have e : ucnt (nu + 1) p (y 1 : ℕ) = ucnt nu p (y 1 : ℕ) := by unfold ucnt; omega
  rw [e] at h1 h2
  exact h q row y h1 h2

theorem UInv.store {I : In F} {p hf : ℕ} {m : Memref sig .tc .vmem S2x2x1088x128 .f32} {f : m.view.ty.Contents (Elt F)}
    (h : UInv I p nu (m.view.read (Elt F) f)) (hs : okSt nu p sl l hf = true) (r : Rect S2x2x1088x128) (w : r.shape.Idx → Elt F .f32)
    (hr : ∀ x, (r.emb x 0 : ℕ) = sl ∧ (r.emb x 1 : ℕ) = l ∧ ∃ row, inHalf (nu / 4) row ∧ (r.emb x 2 : ℕ) = 2 * row)
    (hh : ∀ (y : S2x2x1088x128.Idx) (row : ℕ), (y 0 : ℕ) = sl → (y 1 : ℕ) = l → (y 2 : ℕ) = 2 * row → inHalf (nu / 4) row →
      ∃ x, r.emb x = y ∧ w x = upAt I p (nu / 8) l row (y 3 : ℕ)) :
    UInv I p (nu + 1) (m.view.read (Elt F) ((m.access r).write (Elt F) f w Finset.univ)) := by
  simp only [okSt, Bool.and_eq_true, decide_eq_true_eq, beq_iff_eq] at hs
  obtain ⟨⟨⟨⟨e1, e2⟩, e3⟩, e4⟩, e5⟩ := hs
  intro q row y h1 h2 h3 h4 h5
  have y1 : (y 1 : ℕ) < 2 := (y 1).isLt
  by_cases hq : (y 1 : ℕ) = l ∧ q = nu / 4
  · obtain ⟨hy, rfl⟩ := hq
    have := hh y row (by omega) hy h5 h4
    rw [hy, show nu / 4 / 2 = nu / 8 by omega]
    exact read_store_hit m r f w y this
  · have hmiss : ∀ x, r.emb x ≠ y → True := fun _ _ => trivial
    by_cases hy : (y 1 : ℕ) = l
    · have hq' : q ≠ nu / 4 := fun hh => hq ⟨hy, hh⟩
      have e : ucnt (nu + 1) p (y 1 : ℕ) = nu / 4 + 1 := by rw [hy]; unfold ucnt; omega
      have e' : ucnt nu p (y 1 : ℕ) = nu / 4 := by rw [hy]; unfold ucnt; omega
      refine (read_store_miss m r f w y ?_).trans (h q row y (by omega) (by omega) h3 h4 h5)
      intro x hx
      obtain ⟨h7, h8, row', h9, h10⟩ := hr x
      rw [hx] at h7 h8 h10
      obtain ⟨h11, h12⟩ := h9
      obtain ⟨h13, h14⟩ := h4
      omega
    · have e : ucnt (nu + 1) p (y 1 : ℕ) = ucnt nu p (y 1 : ℕ) := by unfold ucnt; omega
      rw [e] at h1 h2
      refine (read_store_miss m r f w y ?_).trans (h q row y h1 h2 h3 h4 h5)
      intro x hx
      obtain ⟨h7, h8, -⟩ := hr x
      rw [hx] at h8
      exact hy h8

theorem UInv.store0 {I : In F} {p : ℕ} {m : Memref sig .tc .vmem S2x2x1088x128 .f32} {f : m.view.ty.Contents (Elt F)}
    (h : UInv I p nu (m.view.read (Elt F) f)) (hs : okSt nu p sl l 0 = true) (inb sp)
    {w : Vec F S1x1x288x128 .f32} (hw : w = upB0 I p (nu / 8) l) :
    UInv I p (nu + 1) (m.view.read (Elt F) ((m.access ⟨(⟨![sl, l, 0, 0], S1x1x288x128.size, ![1, 1, 2, 1], inb⟩ : LoadRect S2x2x1088x128), sp⟩).write (Elt F) f w Finset.univ)) := by
  have e5 : (nu / 4) % 2 = 0 := by
    simp only [okSt, Bool.and_eq_true, decide_eq_true_eq, beq_iff_eq] at hs; exact hs.2
  refine UInv.store h hs (⟨(⟨![sl, l, 0, 0], S1x1x288x128.size, ![1, 1, 2, 1], inb⟩ : LoadRect S2x2x1088x128), sp⟩ : Rect S2x2x1088x128) w (fun x => ⟨?_, ?_, ?_⟩) (fun y row h0 h1 h2 h3 => ⟨(mk4 1 1 288 128 0 0 row (y 3 : ℕ) : S1x1x288x128.Idx), ?_, ?_⟩)
  · have b : (x 0 : ℕ) < 1 := (x 0).isLt
    show sl + 1 * (x 0 : ℕ) = sl; omega
  · have b : (x 1 : ℕ) < 1 := (x 1).isLt
    show l + 1 * (x 1 : ℕ) = l; omega
  · have b : (x 2 : ℕ) < 288 := (x 2).isLt
    exact ⟨(x 2 : ℕ), ⟨fun _ => b, fun hh => by omega⟩, (show 0 + 2 * (x 2 : ℕ) = _ by omega)⟩
  · have hr := h3.1 e5
    have y3 : (y 3 : ℕ) < 128 := (y 3).isLt
    refine idx4_ext ?_ ?_ ?_ ?_
    · show sl + 1 * 0 = _; omega
    · show l + 1 * 0 = _; omega
    · show 0 + 2 * (row % 288) = _; rw [Nat.mod_eq_of_lt hr]; omega
    · show 0 + 1 * ((y 3 : ℕ) % 128) = _; omega
  · rw [hw]; unfold upAt; rw [if_pos (h3.1 e5)]

theorem UInv.store1 {I : In F} {p : ℕ} {m : Memref sig .tc .vmem S2x2x1088x128 .f32} {f : m.view.ty.Contents (Elt F)}
    (h : UInv I p nu (m.view.read (Elt F) f)) (hs : okSt nu p sl l 1 = true) (inb sp)
    {w : Vec F S1x1x256x128 .f32} (hw : w = upB1 I p (nu / 8) l) :
    UInv I p (nu + 1) (m.view.read (Elt F) ((m.access ⟨(⟨![sl, l, 576, 0], S1x1x256x128.size, ![1, 1, 2, 1], inb⟩ : LoadRect S2x2x1088x128), sp⟩).write (Elt F) f w Finset.univ)) := by
  have e5 : (nu / 4) % 2 = 1 := by
    simp only [okSt, Bool.and_eq_true, decide_eq_true_eq, beq_iff_eq] at hs; exact hs.2
  refine UInv.store h hs (⟨(⟨![sl, l, 576, 0], S1x1x256x128.size, ![1, 1, 2, 1], inb⟩ : LoadRect S2x2x1088x128), sp⟩ : Rect S2x2x1088x128) w (fun x => ⟨?_, ?_, ?_⟩) (fun y row h0 h1 h2 h3 => ⟨(mk4 1 1 256 128 0 0 (row - 288) (y 3 : ℕ) : S1x1x256x128.Idx), ?_, ?_⟩)
  · have b : (x 0 : ℕ) < 1 := (x 0).isLt
    show sl + 1 * (x 0 : ℕ) = sl; omega
  · have b : (x 1 : ℕ) < 1 := (x 1).isLt
    show l + 1 * (x 1 : ℕ) = l; omega
  · have b : (x 2 : ℕ) < 256 := (x 2).isLt
    exact ⟨288 + (x 2 : ℕ), ⟨fun hh => by omega, fun hh => by omega⟩, (show 576 + 2 * (x 2 : ℕ) = _ by omega)⟩
  · have hr := h3.2 e5
    have y3 : (y 3 : ℕ) < 128 := (y 3).isLt
    refine idx4_ext ?_ ?_ ?_ ?_
    · show sl + 1 * 0 = _; omega
    · show l + 1 * 0 = _; omega
    · show 576 + 2 * ((row - 288) % 256) = _; rw [Nat.mod_eq_of_lt (by omega)]; omega
    · show 0 + 1 * ((y 3 : ℕ) % 128) = _; omega
  · rw [hw]; unfold upAt; rw [if_neg (by have := h3.2 e5; omega)]

theorem okSt_lt {p hf : ℕ} (hs : okSt nu p sl l hf = true) : nu % 4 = 2 * p + l ∧ l < 2 ∧ p < 2 := by
  simp only [okSt, Bool.and_eq_true, decide_eq_true_eq, beq_iff_eq] at hs
  exact ⟨hs.1.1.1.1, hs.1.1.1.2, hs.1.1.2⟩

theorem H.st9a {Post : β → sProp 𝕄} {inb sp hx hm} {w : Vec F S1x1x288x128 .f32} {k : PUnit → Prog (EE F) β} (hs : okSt nu 0 sl l 0 = true)
    (hw : w = upB0 X.inp 0 (nu / 8) l) (hk : H X ⟨nh, nu + 1, ng, nd, no⟩ (k ⟨⟩) Post) :
    H X ⟨nh, nu, ng, nd, no⟩ (Prog.lift (.store X.a9 ⟨(⟨![sl, l, 0, 0], S1x1x288x128.size, ![1, 1, 2, 1], inb⟩ : LoadRect S2x2x1088x128), sp⟩ w Finset.univ hx hm) >>= k) Post :=
  H.store (s' := ⟨nh, nu + 1, ng, nd, no⟩) (·.f9) (·.set9 ·) (p9 X)
    (fun M hM => hM.set9 (hM.a.store0 hs inb sp hw) (hM.u.other (okSt_lt hs).2.1 (by omega) (by omega) (okSt_lt hs).1 (by omega))) hk

theorem H.st9b {Post : β → sProp 𝕄} {inb sp hx hm} {w : Vec F S1x1x256x128 .f32} {k : PUnit → Prog (EE F) β} (hs : okSt nu 0 sl l 1 = true)
    (hw : w = upB1 X.inp 0 (nu / 8) l) (hk : H X ⟨nh, nu + 1, ng, nd, no⟩ (k ⟨⟩) Post) :
    H X ⟨nh, nu, ng, nd, no⟩ (Prog.lift (.store X.a9 ⟨(⟨![sl, l, 576, 0], S1x1x256x128.size, ![1, 1, 2, 1], inb⟩ : LoadRect S2x2x1088x128), sp⟩ w Finset.univ hx hm) >>= k) Post :=
  H.store (s' := ⟨nh, nu + 1, ng, nd, no⟩) (·.f9) (·.set9 ·) (p9 X)
    (fun M hM => hM.set9 (hM.a.store1 hs inb sp hw) (hM.u.other (okSt_lt hs).2.1 (by omega) (by omega) (okSt_lt hs).1 (by omega))) hk

theorem H.st10a {Post : β → sProp 𝕄} {inb sp hx hm} {w : Vec F S1x1x288x128 .f32} {k : PUnit → Prog (EE F) β} (hs : okSt nu 1 sl l 0 = true)
    (hw : w = upB0 X.inp 1 (nu / 8) l) (hk : H X ⟨nh, nu + 1, ng, nd, no⟩ (k ⟨⟩) Post) :
    H X ⟨nh, nu, ng, nd, no⟩ (Prog.lift (.store X.a10 ⟨(⟨![sl, l, 0, 0], S1x1x288x128.size, ![1, 1, 2, 1], inb⟩ : LoadRect S2x2x1088x128), sp⟩ w Finset.univ hx hm) >>= k) Post :=
  H.store (s' := ⟨nh, nu + 1, ng, nd, no⟩) (·.f10) (·.set10 ·) (p10 X)
    (fun M hM => hM.set10 (hM.u.store0 hs inb sp hw) (hM.a.other (okSt_lt hs).2.1 (by omega) (by omega) (okSt_lt hs).1 (by omega))) hk

theorem H.st10b {Post : β → sProp 𝕄} {inb sp hx hm} {w : Vec F S1x1x256x128 .f32} {k : PUnit → Prog (EE F) β} (hs : okSt nu 1 sl l 1 = true)
    (hw : w = upB1 X.inp 1 (nu / 8) l) (hk : H X ⟨nh, nu + 1, ng, nd, no⟩ (k ⟨⟩) Post) :
    H X ⟨nh, nu, ng, nd, no⟩ (Prog.lift (.store X.a10 ⟨(⟨![sl, l, 576, 0], S1x1x256x128.size, ![1, 1, 2, 1], inb⟩ : LoadRect S2x2x1088x128), sp⟩ w Finset.univ hx hm) >>= k) Post :=
  H.store (s' := ⟨nh, nu + 1, ng, nd, no⟩) (·.f10) (·.set10 ·) (p10 X)
    (fun M hM => hM.set10 (hM.u.store1 hs inb sp hw) (hM.a.other (okSt_lt hs).2.1 (by omega) (by omega) (okSt_lt hs).1 (by omega))) hk

end Up

/-! ## The extended tile, the activations, the accumulator, the output slot -/

section Rest
variable {X : Ctx F} {β : Type} {nh nu ng nd no sl l o : ℕ}

theorem hext_read {I : In F} {rd : Vec F S544x1024 .bf16} (h : HInv I 3 rd) : rd = hext I :=
  funext fun y => h y (show (y 0 : ℕ) < 544 from (y 0).isLt)

theorem H.ld8a {Post : β → sProp 𝕄} {o₁ : ℕ} {inb hl} {k : Vec F S288x1024 .bf16 → Prog (EE F) β}
    (hk : H X ⟨3, nu, ng, nd, no⟩ (k (blk2 (hext X.inp) 288 1024 o o₁)) Post) :
    H X ⟨3, nu, ng, nd, no⟩ (Prog.lift (.load X.a8 (Rect.unit (s := S544x1024) ![o, o₁] S288x1024.size inb).toLoadRect hl) >>= k) Post :=
  H.load (·.f8) (g8 X) _ (fun M hM => by rw [rd2 X.a8 M.f8 inb, hext_read hM.h]) hk

theorem H.ld8b {Post : β → sProp 𝕄} {o₁ : ℕ} {inb hl} {k : Vec F S256x1024 .bf16 → Prog (EE F) β}
    (hk : H X ⟨3, nu, ng, nd, no⟩ (k (blk2 (hext X.inp) 256 1024 o o₁)) Post) :
    H X ⟨3, nu, ng, nd, no⟩ (Prog.lift (.load X.a8 (Rect.unit (s := S544x1024) ![o, o₁] S256x1024.size inb).toLoadRect hl) >>= k) Post :=
  H.load (·.f8) (g8 X) _ (fun M hM => by rw [rd2 X.a8 M.f8 inb, hext_read hM.h]) hk

theorem HInv.store {I : In F} {n r₀ : ℕ} {m : Memref sig .tc .vmem S544x1024 .bf16} {f : m.view.ty.Contents (Elt F)}
    (h : HInv I nh (m.view.read (Elt F) f)) (inb) [NeZero n]
    {w : Vec F ⟨2, ![n, 1024]⟩ .bf16} (h0 : hrows nh = r₀) (h1 : hrows (nh + 1) = r₀ + n)
    (hw : ∀ y : S544x1024.Idx, r₀ ≤ (y 0 : ℕ) → (y 0 : ℕ) < r₀ + n → hext I y = w (mk2 n 1024 ((y 0 : ℕ) - r₀) (y 1 : ℕ))) :
    HInv I (nh + 1) (m.view.read (Elt F) ((m.access (Rect.unit (s := S544x1024) ![r₀, 0] (⟨2, ![n, 1024]⟩ : Shape).size inb)).write (Elt F) f w Finset.univ)) := by
  intro y hy
  rw [h1] at hy
  have y1 : (y 1 : ℕ) < 1024 := (y 1).isLt
  by_cases hr : (y 0 : ℕ) < r₀
  · refine (read_store_miss m (Rect.unit (s := S544x1024) ![r₀, 0] (⟨2, ![n, 1024]⟩ : Shape).size inb) f w y ?_).trans ?_
    rotate_left
    · exact h y (by omega)
    · intro x hx
      have x0 : r₀ + 1 * (x 0 : ℕ) = (y 0 : ℕ) := congrArg (fun z : S544x1024.Idx => (z 0 : ℕ)) hx
      omega
  · refine read_store_hit m (Rect.unit (s := S544x1024) ![r₀, 0] (⟨2, ![n, 1024]⟩ : Shape).size inb) f w y ⟨mk2 n 1024 ((y 0 : ℕ) - r₀) (y 1 : ℕ), ?_, (hw y (by omega) hy).symm⟩
    refine idx2_ext ?_ ?_
    · show r₀ + 1 * (((y 0 : ℕ) - r₀) % n) = _; rw [Nat.mod_eq_of_lt (by omega)]; omega
    · show 0 + 1 * ((y 1 : ℕ) % 1024) = _; omega

theorem H.st8a {Post : β → sProp 𝕄} {inb hx hm} {w : Vec F S16x1024 .bf16} {k : PUnit → Prog (EE F) β} (hw : w = k0_pay2 (k0_pay1 X.inp.ix X.inp.vp))
    (hk : H X ⟨1, nu, ng, nd, no⟩ (k ⟨⟩) Post) :
    H X ⟨0, nu, ng, nd, no⟩ (Prog.lift (.store X.a8 (Rect.unit (s := S544x1024) ![0, 0] S16x1024.size inb) w Finset.univ hx hm) >>= k) Post :=
  H.store (s' := ⟨1, nu, ng, nd, no⟩) (·.f8) (·.set8 ·) (p8 X)
    (fun M hM => hM.set8 (hM.h.store inb rfl rfl fun y h0 h1 => by subst hw; unfold hext; rw [if_pos (by omega)]; rfl)) hk

theorem H.st8b {Post : β → sProp 𝕄} {inb hx hm} {w : Vec F S512x1024 .bf16} {k : PUnit → Prog (EE F) β} (hw : w = k0_pay3 X.inp.vc)
    (hk : H X ⟨2, nu, ng, nd, no⟩ (k ⟨⟩) Post) :
    H X ⟨1, nu, ng, nd, no⟩ (Prog.lift (.store X.a8 (Rect.unit (s := S544x1024) ![16, 0] S512x1024.size inb) w Finset.univ hx hm) >>= k) Post :=
  H.store (s' := ⟨2, nu, ng, nd, no⟩) (·.f8) (·.set8 ·) (p8 X)
    (fun M hM => hM.set8 (hM.h.store inb rfl rfl fun y h0 h1 => by subst hw; unfold hext; rw [if_neg (by omega), if_pos (by omega)])) hk

theorem H.st8c {Post : β → sProp 𝕄} {inb hx hm} {w : Vec F S16x1024 .bf16} {k : PUnit → Prog (EE F) β} (hw : w = k0_pay4 X.inp.ix X.inp.vn)
    (hk : H X ⟨3, nu, ng, nd, no⟩ (k ⟨⟩) Post) :
    H X ⟨2, nu, ng, nd, no⟩ (Prog.lift (.store X.a8 (Rect.unit (s := S544x1024) ![528, 0] S16x1024.size inb) w Finset.univ hx hm) >>= k) Post :=
  H.store (s' := ⟨3, nu, ng, nd, no⟩) (·.f8) (·.set8 ·) (p8 X)
    (fun M hM => hM.set8 (hM.h.store inb rfl rfl fun y h0 h1 => by subst hw; unfold hext; rw [if_neg (by omega), if_neg (by omega)])) hk

/-- The next activation block's place. -/
def okG (ng sl o : ℕ) : Bool := (sl == (ng / 16) % 2) && (o == 32 * (ng % 16))

theorem AInv.store {I : In F} {m : Memref sig .tc .vmem S2x512x256 .bf16} {f : m.view.ty.Contents (Elt F)}
    (h : AInv I ng (m.view.read (Elt F) f)) (hs : okG ng sl o = true) (inb)
    {w : Vec F S1x32x256 .bf16} (hw : w = gateVal I ng) :
    AInv I (ng + 1) (m.view.read (Elt F) ((m.access (Rect.unit (s := S2x512x256) ![sl, o, 0] S1x32x256.size inb)).write (Elt F) f w Finset.univ)) := by
  simp only [okG, Bool.and_eq_true, beq_iff_eq] at hs
  obtain ⟨e1, e2⟩ := hs
  intro g y h1 h2 h3 h4
  have y2 : (y 2 : ℕ) < 256 := (y 2).isLt
  by_cases hg : g = ng
  · subst hg
    refine read_store_hit m (Rect.unit (s := S2x512x256) ![sl, o, 0] S1x32x256.size inb) f w y ⟨mk3 1 32 256 0 ((y 1 : ℕ) % 32) (y 2 : ℕ), ?_, by rw [hw]⟩
    refine idx3_ext ?_ ?_ ?_
    · show sl + 1 * 0 = _; omega
    · show o + 1 * ((y 1 : ℕ) % 32 % 32) = _; omega
    · show 0 + 1 * ((y 2 : ℕ) % 256) = _; omega
  · refine (read_store_miss m (Rect.unit (s := S2x512x256) ![sl, o, 0] S1x32x256.size inb) f w y ?_).trans ?_
    rotate_left
    · exact h g y (by omega) (by omega) h3 h4
    · intro x hx
      have x0 : sl + 1 * (x 0 : ℕ) = (y 0 : ℕ) := congrArg (fun z : S2x512x256.Idx => (z 0 : ℕ)) hx
      have x1 : o + 1 * (x 1 : ℕ) = (y 1 : ℕ) := congrArg (fun z : S2x512x256.Idx => (z 1 : ℕ)) hx
      have b0 : (x 0 : ℕ) < 1 := (x 0).isLt
      have b1 : (x 1 : ℕ) < 32 := (x 1).isLt
      omega

theorem H.st11 {Post : β → sProp 𝕄} {inb hx hm} {w : Vec F S1x32x256 .bf16} {k : PUnit → Prog (EE F) β} (hs : okG ng sl o = true)
    (hw : w = gateVal X.inp ng) (hk : H X ⟨nh, nu, ng + 1, nd, no⟩ (k ⟨⟩) Post) :
    H X ⟨nh, nu, ng, nd, no⟩ (Prog.lift (.store X.a11 (Rect.unit (s := S2x512x256) ![sl, o, 0] S1x32x256.size inb) w Finset.univ hx hm) >>= k) Post :=
  H.store (s' := ⟨nh, nu, ng + 1, nd, no⟩) (·.f11) (·.set11 ·) (p11 X)
    (fun M hM => hM.set11 (hM.g.store hs inb hw)) hk

/-- The next down-projection may read its half of the activations. -/
def okD (ng nd sl o : ℕ) : Bool :=
  (sl == (nd / 2) % 2) && (o == 256 * (nd % 2)) && decide (8 * nd + 8 ≤ ng) && decide (ng ≤ 8 * nd + 32)

theorem act_read {I : In F} {rd : Vec F S2x512x256 .bf16} (hi : AInv I ng rd) (hc : okD ng nd sl o = true) (inb) :
    (fun i => rd ((Rect.unit (s := S2x512x256) ![sl, o, 0] S1x256x256.size inb).toLoadRect.idx i)) = actBlk I (nd / 2) (nd % 2) := by
  simp only [okD, Bool.and_eq_true, decide_eq_true_eq, beq_iff_eq] at hc
  obtain ⟨⟨⟨h1, h2⟩, h3⟩, h4⟩ := hc
  funext i
  have i0 : (i 0 : ℕ) < 1 := (i 0).isLt
  have i1 : (i 1 : ℕ) < 256 := (i 1).isLt
  have y0 : (((Rect.unit (s := S2x512x256) ![sl, o, 0] S1x256x256.size inb).toLoadRect.idx i 0 : Fin _) : ℕ) = sl := by
    show sl + 1 * (i 0 : ℕ) = sl; omega
  have y1 : (((Rect.unit (s := S2x512x256) ![sl, o, 0] S1x256x256.size inb).toLoadRect.idx i 1 : Fin _) : ℕ) = o + (i 1 : ℕ) := by
    show o + 1 * (i 1 : ℕ) = _; omega
  have y2 : (((Rect.unit (s := S2x512x256) ![sl, o, 0] S1x256x256.size inb).toLoadRect.idx i 2 : Fin _) : ℕ) = (i 2 : ℕ) := by
    show 0 + 1 * (i 2 : ℕ) = _; omega
  have := hi (16 * (nd / 2) + 8 * (nd % 2) + (i 1 : ℕ) / 32) _ (by omega) (by omega) (by rw [y0]; omega) (by rw [y1]; omega)
  rw [this, y1, y2, show (o + (i 1 : ℕ)) % 32 = (i 1 : ℕ) % 32 by omega]; rfl

theorem H.ld11 {Post : β → sProp 𝕄} {inb hl} {k : Vec F S1x256x256 .bf16 → Prog (EE F) β} (hc : okD ng nd sl o = true)
    (hk : H X ⟨nh, nu, ng, nd, no⟩ (k (actBlk X.inp (nd / 2) (nd % 2))) Post) :
    H X ⟨nh, nu, ng, nd, no⟩ (Prog.lift (.load X.a11 (Rect.unit (s := S2x512x256) ![sl, o, 0] S1x256x256.size inb).toLoadRect hl) >>= k) Post :=
  H.load (·.f11) (g11 X) _ (fun M hM => act_read hM.g hc inb) hk

/-- Half `o / 256` of the accumulator holds something. -/
def okC (nd o : ℕ) : Bool := (o % 256 == 0) && decide (o / 256 < 2) && decide (1 ≤ (nd + 1 - o / 256) / 2)

theorem acc_read {I : In F} {rd : Vec F S512x1024 .f32} (hi : CInv I nd rd) (hc : okC nd o = true) (inb) :
    (fun i => rd ((Rect.unit (s := S512x1024) ![o, 0] S256x1024.size inb).toLoadRect.idx i))
      = accUp I (o / 256) ((nd + 1 - o / 256) / 2 - 1) := by
  simp only [okC, Bool.and_eq_true, decide_eq_true_eq, beq_iff_eq] at hc
  obtain ⟨⟨h1, h2⟩, h3⟩ := hc
  funext i
  have i0 : (i 0 : ℕ) < 256 := (i 0).isLt
  have i1 : (i 1 : ℕ) < 1024 := (i 1).isLt
  have y0 : (((Rect.unit (s := S512x1024) ![o, 0] S256x1024.size inb).toLoadRect.idx i 0 : Fin _) : ℕ) = o + (i 0 : ℕ) := by
    show o + 1 * (i 0 : ℕ) = _; omega
  have y1 : (((Rect.unit (s := S512x1024) ![o, 0] S256x1024.size inb).toLoadRect.idx i 1 : Fin _) : ℕ) = (i 1 : ℕ) := by
    show 0 + 1 * (i 1 : ℕ) = _; omega
  have e : (o + (i 0 : ℕ)) / 256 = o / 256 := by omega
  have e' : (o + (i 0 : ℕ)) % 256 = (i 0 : ℕ) := by omega
  have := hi _ (by rw [y0, e]; omega)
  rw [this, y0, y1, e, e']
  refine congrArg _ (idx2_ext ?_ ?_)
  · rw [mk2_0]; omega
  · rw [mk2_1]; omega

theorem H.ld12 {Post : β → sProp 𝕄} {inb hl} {k : Vec F S256x1024 .f32 → Prog (EE F) β} (hc : okC nd o = true)
    (hk : H X ⟨nh, nu, ng, nd, no⟩ (k (accUp X.inp (o / 256) ((nd + 1 - o / 256) / 2 - 1))) Post) :
    H X ⟨nh, nu, ng, nd, no⟩ (Prog.lift (.load X.a12 (Rect.unit (s := S512x1024) ![o, 0] S256x1024.size inb).toLoadRect hl) >>= k) Post :=
  H.load (·.f12) (g12 X) _ (fun M hM => acc_read hM.d hc inb) hk

theorem CInv.store {I : In F} {m : Memref sig .tc .vmem S512x1024 .f32} {f : m.view.ty.Contents (Elt F)}
    (h : CInv I nd (m.view.read (Elt F) f)) (hs : (o == 256 * (nd % 2)) = true) (inb)
    {w : Vec F S256x1024 .f32} (hw : w = accUp I (nd % 2) (nd / 2)) :
    CInv I (nd + 1) (m.view.read (Elt F) ((m.access (Rect.unit (s := S512x1024) ![o, 0] S256x1024.size inb)).write (Elt F) f w Finset.univ)) := by
  rw [beq_iff_eq] at hs
  intro y h1
  have y0 : (y 0 : ℕ) < 512 := (y 0).isLt
  have y1 : (y 1 : ℕ) < 1024 := (y 1).isLt
  by_cases hg : (y 0 : ℕ) / 256 = nd % 2
  · refine read_store_hit m (Rect.unit (s := S512x1024) ![o, 0] S256x1024.size inb) f w y ⟨mk2 256 1024 ((y 0 : ℕ) % 256) (y 1 : ℕ), ?_, by rw [hw, hg, show (nd + 1 + 1 - nd % 2) / 2 - 1 = nd / 2 by omega]⟩
    refine idx2_ext ?_ ?_
    · show o + 1 * ((y 0 : ℕ) % 256 % 256) = _; omega
    · show 0 + 1 * ((y 1 : ℕ) % 1024) = _; omega
  · have e : (nd + 1 + 1 - (y 0 : ℕ) / 256) / 2 = (nd + 1 - (y 0 : ℕ) / 256) / 2 := by omega
    rw [e] at h1 ⊢
    refine (read_store_miss m (Rect.unit (s := S512x1024) ![o, 0] S256x1024.size inb) f w y ?_).trans ?_
    rotate_left
    · exact h y h1
    · intro x hx
      have x0 : o + 1 * (x 0 : ℕ) = (y 0 : ℕ) := congrArg (fun z : S512x1024.Idx => (z 0 : ℕ)) hx
      have b0 : (x 0 : ℕ) < 256 := (x 0).isLt
      omega

theorem H.st12 {Post : β → sProp 𝕄} {inb hx hm} {w : Vec F S256x1024 .f32} {k : PUnit → Prog (EE F) β} (hs : (o == 256 * (nd % 2)) = true)
    (hw : w = accUp X.inp (nd % 2) (nd / 2)) (hk : H X ⟨nh, nu, ng, nd + 1, no⟩ (k ⟨⟩) Post) :
    H X ⟨nh, nu, ng, nd, no⟩ (Prog.lift (.store X.a12 (Rect.unit (s := S512x1024) ![o, 0] S256x1024.size inb) w Finset.univ hx hm) >>= k) Post :=
  H.store (s' := ⟨nh, nu, ng, nd + 1, no⟩) (·.f12) (·.set12 ·) (p12 X)
    (fun M hM => hM.set12 (hM.d.store hs inb hw)) hk

theorem OInv.store {I : In F} {m : Memref sig .tc .vmem S1x512x1024 .f32} {f : m.view.ty.Contents (Elt F)}
    (h : OInv I no (m.view.read (Elt F) f)) (hs : (o == 256 * no) = true) (inb)
    {w : Vec F S1x256x1024 .f32} (hw : w = outVal I no) :
    OInv I (no + 1) (m.view.read (Elt F) ((m.access (Rect.unit (s := S1x512x1024) ![0, o, 0] S1x256x1024.size inb)).write (Elt F) f w Finset.univ)) := by
  rw [beq_iff_eq] at hs
  intro y h1
  have y0 : (y 0 : ℕ) < 1 := (y 0).isLt
  have y1 : (y 1 : ℕ) < 512 := (y 1).isLt
  have y2 : (y 2 : ℕ) < 1024 := (y 2).isLt
  by_cases hg : (y 1 : ℕ) / 256 = no
  · refine read_store_hit m (Rect.unit (s := S1x512x1024) ![0, o, 0] S1x256x1024.size inb) f w y ⟨mk3 1 256 1024 0 ((y 1 : ℕ) % 256) (y 2 : ℕ), ?_, by rw [hw]; unfold outTile; rw [hg]⟩
    refine idx3_ext ?_ ?_ ?_
    · show 0 + 1 * 0 = _; omega
    · show o + 1 * ((y 1 : ℕ) % 256 % 256) = _; omega
    · show 0 + 1 * ((y 2 : ℕ) % 1024) = _; omega
  · refine (read_store_miss m (Rect.unit (s := S1x512x1024) ![0, o, 0] S1x256x1024.size inb) f w y ?_).trans ?_
    rotate_left
    · exact h y (by omega)
    · intro x hx
      have x0 : o + 1 * (x 1 : ℕ) = (y 1 : ℕ) := congrArg (fun z : S1x512x1024.Idx => (z 1 : ℕ)) hx
      have b0 : (x 1 : ℕ) < 256 := (x 1).isLt
      omega

theorem H.sto {Post : β → sProp 𝕄} {inb hx hm} {w : Vec F S1x256x1024 .f32} {k : PUnit → Prog (EE F) β} (hs : (o == 256 * no) = true)
    (hw : w = outVal X.inp no) (hk : H X ⟨nh, nu, ng, nd, no + 1⟩ (k ⟨⟩) Post) :
    H X ⟨nh, nu, ng, nd, no⟩ (Prog.lift (.store X.ho (Rect.unit (s := S1x512x1024) ![0, o, 0] S1x256x1024.size inb) w Finset.univ hx hm) >>= k) Post :=
  H.store (s' := ⟨nh, nu, ng, nd, no + 1⟩) (·.fo) (·.seto ·) (po X)
    (fun M hM => hM.seto (hM.o.store hs inb hw)) hk

end Rest

/-- A piece of the program first, then the rest from the state and the value the piece ends with. -/
theorem H.seq {X : Ctx F} {α β : Type} {s s' : St} {r : α} {Post : β → sProp 𝕄} {p : Prog (EE F) α} {k : α → Prog (EE F) β}
    (h : ∀ Q : α → sProp 𝕄, (∀ M : Mem X, T X s' M → Pts X M ⊢ Q r) → H X s p Q) (hk : H X s' (k r) Post) :
    H X s (p >>= k) Post := H.bind (h _ hk)

/-! ## A load at the end of a part, and loads of a slot under another name -/

section Tail
variable {X : Ctx F} {s : St} {β : Type} {o₀ o₁ o₂ : ℕ}

theorem H.tail {α : Type} {Post : α → sProp 𝕄} {p : EE F α} (h : H X s (Prog.lift p >>= Pure.pure) Post) : H X s (Prog.lift p) Post := by
  rwa [bind_pure] at h

theorem H.ldhnE {Post : β → sProp 𝕄} {m : Memref sig .tc .vmem S1x16x1024 .f32} (e : m = X.hn) {inb hl} {k : Vec F S1x16x1024 .f32 → Prog (EE F) β}
    (hk : H X s (k X.inp.vn) Post) :
    H X s (Prog.lift (.load m (Rect.unit (s := S1x16x1024) ![0, 0, 0] S1x16x1024.size inb).toLoadRect hl) >>= k) Post := by
  subst e
  exact H.ldhn hk

theorem H.ldhcE {Post : β → sProp 𝕄} {m : Memref sig .tc .vmem S1x512x1024 .f32} (e : m = X.hc) {inb hl} {k : Vec F S1x512x1024 .f32 → Prog (EE F) β}
    (hk : H X s (k X.inp.vc) Post) :
    H X s (Prog.lift (.load m (Rect.unit (s := S1x512x1024) ![0, 0, 0] S1x512x1024.size inb).toLoadRect hl) >>= k) Post := by
  subst e
  exact H.ldhc hk

theorem H.ldhcE' {Post : β → sProp 𝕄} {m : Memref sig .tc .vmem S1x512x1024 .f32} (e : m = X.hc) {inb hl} {k : Vec F S1x256x1024 .f32 → Prog (EE F) β}
    (hk : H X s (k (blk3 X.inp.vc 1 256 1024 o₀ o₁ o₂)) Post) :
    H X s (Prog.lift (.load m (Rect.unit (s := S1x512x1024) ![o₀, o₁, o₂] S1x256x1024.size inb).toLoadRect hl) >>= k) Post := by
  subst e
  exact H.ldhc' hk

theorem H.anyoE {Post : β → sProp 𝕄} {m : Memref sig .tc .vmem S1x512x1024 .f32} (e : m = X.ho) {r : LoadRect S1x512x1024} {hl}
    {k : (r.shape.Idx → Elt F .f32) → Prog (EE F) β} (hk : ∀ v, H X s (k v) Post) :
    H X s (Prog.lift (.load m r hl) >>= k) Post := by
  subst e
  exact H.anyo hk

theorem H.stoE {nh nu ng nd no o : ℕ} {Post : β → sProp 𝕄} {m : Memref sig .tc .vmem S1x512x1024 .f32} (e : m = X.ho) {inb hx hm}
    {w : Vec F S1x256x1024 .f32} {k : PUnit → Prog (EE F) β} (hs : (o == 256 * no) = true)
    (hw : w = outVal X.inp no) (hk : H X ⟨nh, nu, ng, nd, no + 1⟩ (k ⟨⟩) Post) :
    H X ⟨nh, nu, ng, nd, no⟩ (Prog.lift (.store m (Rect.unit (s := S1x512x1024) ![0, o, 0] S1x256x1024.size inb) w Finset.univ hx hm) >>= k) Post := by
  subst e
  exact H.sto hs hw hk

end Tail

end Cert.Proof.Ffn

end
-- ==== Proof.Args.lean ====
module

public import proofs.«01_k».proof.Proof.Steps

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- What the kernel's parts take beside the tile's buffers. -/
structure Args (X : Ctx F) where
  a0 : Memref sig .tc .hbm S4x4096x1024 .f32
  h0 : a0.IsWhole
  h1 : X.a1.IsWhole
  h2 : X.a2.IsWhole
  h3 : X.a3.IsWhole
  h4 : X.a4.IsWhole
  h5 : X.a5.IsWhole
  h6 : X.a6.IsWhole
  a7 : Memref sig .tc .hbm S4x4096x1024 .f32
  h7 : a7.IsWhole
  h8 : X.a8.IsWhole
  h9 : X.a9.IsWhole
  h10 : X.a10.IsWhole
  h11 : X.a11.IsWhole
  h12 : X.a12.IsWhole
  b0 : Memref sig .tc .vmem S2x1x16x1024 .f32
  hb0 : b0.IsWhole
  v0 : DmaSems sig S2
  b1 : Memref sig .tc .vmem S2x1x512x1024 .f32
  hb1 : b1.IsWhole
  v1 : DmaSems sig S2
  b2 : Memref sig .tc .vmem S2x1x16x1024 .f32
  hb2 : b2.IsWhole
  v2 : DmaSems sig S2
  b3 : Memref sig .tc .vmem S2x1x512x1024 .f32
  hb3 : b3.IsWhole
  v3 : DmaSems sig S2

end Cert.Proof.Ffn
end
-- ==== Proof.Facts.lean ====
/-
  The numbers of the kernel's own pipeline: at trip `t` of the 32, the counters it carries, the window offsets they come
  to, and the conditions they decide.
-/
module

public import proofs.«01_k».proof.Proof.Args

@[expose] public section

noncomputable section

namespace Cert.Proof.Ffn

open Cert.KernelIdeal Cert.KernelIdeal.Gen
open Idealize.ShloMosaic
open Idealize.ShloMosaic.TcCoe

/-- The trip's counters: fetches issued, tiles done, write-backs awaited, and the tile's coordinates. -/
def cA (t : ℕ) : BitVec 32 := BitVec.ofNat 32 (min (t + 1) 32)
def cB (t : ℕ) : BitVec 32 := BitVec.ofNat 32 t
def cC (t : ℕ) : BitVec 32 := BitVec.ofNat 32 (t - 1)
def cI (t : ℕ) : BitVec 32 := BitVec.ofNat 32 (t / 8 % 4)
def cJ (t : ℕ) : BitVec 32 := BitVec.ofNat 32 (t % 8)

/-- Window offsets of tile `t`. -/
def oP (t : ℕ) : Fin 3 → ℕ := ![t / 8 % 4, 16 * (32 * (t % 8) - 1), 0]
def oC (t : ℕ) : Fin 3 → ℕ := ![t / 8 % 4, 512 * (t % 8), 0]
def oN (t : ℕ) : Fin 3 → ℕ := ![t / 8 % 4, 16 * min (32 * (t % 8) + 32) 255, 0]
def oS (t : ℕ) : Fin 4 → ℕ := ![t % 2, 0, 0, 0]
def oM (t : ℕ) : Fin 1 → ℕ := ![t % 2]

theorem off6 (t : Fin 32) : k0_off6 (cA t) = oM (min (t + 1) 32) := by revert t; decide +kernel
theorem off7 (t : Fin 32) : k0_off7 (cA t) = oS (min (t + 1) 32) := by revert t; decide +kernel
theorem off8 (t : Fin 32) : k0_off8 (cI t) (cJ t) = oP (t + 1) := by revert t; decide +kernel
theorem off9 (t : Fin 32) : k0_off9 (cA t) = oM (min (t + 1) 32) := by revert t; decide +kernel
theorem off10 (t : Fin 32) : k0_off10 (cA t) = oS (min (t + 1) 32) := by revert t; decide +kernel
theorem off11 (t : Fin 32) : k0_off11 (cI t) (cJ t) = oC (t + 1) := by revert t; decide +kernel
theorem off12 (t : Fin 32) : k0_off12 (cA t) = oM (min (t + 1) 32) := by revert t; decide +kernel
theorem off13 (t : Fin 32) : k0_off13 (cA t) = oS (min (t + 1) 32) := by revert t; decide +kernel
theorem off14 (t : Fin 32) : k0_off14 (cI t) (cJ t) = oN (t + 1) := by revert t; decide +kernel
theorem off15 (t : Fin 32) : k0_off15 (cB t) = oM t := by revert t; decide +kernel
theorem off16 (t : Fin 32) : k0_off16 (cB t) = oS t := by revert t; decide +kernel
theorem off17 (t : Fin 32) : k0_off17 (cI t) (cJ t) = oP t := by revert t; decide +kernel
theorem off18 (t : Fin 32) : k0_off18 (cB t) = oM t := by revert t; decide +kernel
theorem off19 (t : Fin 32) : k0_off19 (cB t) = oS t := by revert t; decide +kernel
theorem off20 (t : Fin 32) : k0_off20 (cI t) (cJ t) = oC t := by revert t; decide +kernel
theorem off21 (t : Fin 32) : k0_off21 (cB t) = oM t := by revert t; decide +kernel
theorem off22 (t : Fin 32) : k0_off22 (cB t) = oS t := by revert t; decide +kernel
theorem off23 (t : Fin 32) : k0_off23 (cI t) (cJ t) = oN t := by revert t; decide +kernel
theorem off24 (t : Fin 32) : k0_off24 (cB t) = oS t := by revert t; decide +kernel
theorem off25 (t : Fin 32) : k0_off25 (cB t) = oS t := by revert t; decide +kernel
theorem off26 (t : Fin 32) : k0_off26 (cB t) = oS t := by revert t; decide +kernel
theorem off27 (t : Fin 32) : k0_off27 (cB t) = oS t := by revert t; decide +kernel
theorem off28 (t : Fin 32) : k0_off28 (cB t) = oS t := by revert t; decide +kernel
theorem off29 (t : Fin 32) : k0_off29 (cB t) = oM t := by revert t; decide +kernel
theorem off30 (t : Fin 32) : k0_off30 (cI t) (cJ t) = oC t := by revert t; decide +kernel
theorem off31 (t : Fin 32) : k0_off31 (cB t) = oS t := by revert t; decide +kernel
theorem off32 (t : Fin 32) : k0_off32 (cC t) = oM (t - 1) := by revert t; decide +kernel
theorem off33 (t : Fin 32) (h : 0 < (t : ℕ)) : k0_off33 (cI t) (cJ t) = oC (t - 1) := by revert t; decide +kernel
theorem off34 (t : Fin 32) : k0_off34 (cC t) = oS (t - 1) := by revert t; decide +kernel

theorem cond1 (t : Fin 32) : k0_cond1 t (cI t) (cJ t) = if (t : ℕ) < 31 then 1#1 else 0#1 := by revert t; decide +kernel
theorem cond2 (t : Fin 32) : k0_cond2 t (cI t) (cJ t) = if (t : ℕ) < 31 then 1#1 else 0#1 := by revert t; decide +kernel
theorem cond3 (t : Fin 32) : k0_cond3 t (cI t) (cJ t) = if (t : ℕ) < 31 then 1#1 else 0#1 := by revert t; decide +kernel
theorem cond4 (t : Fin 32) : k0_cond4 t (cI t) (cJ t) = 1#1 := by revert t; decide +kernel
theorem cond5 (t : Fin 32) : k0_cond5 t (cI t) (cJ t) = 1#1 := by revert t; decide +kernel
theorem cond6 (t : Fin 32) : k0_cond6 t (cI t) (cJ t) = 1#1 := by revert t; decide +kernel
theorem cond11 (t : Fin 32) : k0_cond11 t (cI t) (cJ t) = 1#1 := by revert t; decide +kernel
theorem cond15 (t : Fin 32) : k0_cond15 t (cI t) (cJ t) = if 0 < (t : ℕ) then 1#1 else 0#1 := by revert t; decide +kernel

theorem chk1 (t : Fin 32) : k0_chk1 t (cA t) (cB t) (cA t) (cB t) (cA t) (cB t) (cB t) (cC t) (cI t) (cJ t) := by
  have h : ∀ t : Fin 32, @decide _ (k0_chk1.dec t (cA t) (cB t) (cA t) (cB t) (cA t) (cB t) (cB t) (cC t) (cI t) (cJ t)) = true := by decide +kernel
  exact @of_decide_eq_true _ (k0_chk1.dec t (cA t) (cB t) (cA t) (cB t) (cA t) (cB t) (cB t) (cC t) (cI t) (cJ t)) (h t)
theorem chk2 (t : Fin 32) : k0_chk2 (cB t) := by revert t; decide +kernel
theorem chk3 (t : Fin 32) : k0_chk3 (cB t) := by revert t; decide +kernel
theorem chk4 (t : Fin 32) : k0_chk4 (cB t) := by revert t; decide +kernel
theorem chk5 (t : Fin 32) : k0_chk5 (cB t) := by revert t; decide +kernel

end Cert.Proof.Ffn
end
-- ==== Proof.Pipe.lean ====
/-
  The kernel's own pipeline: its slots, semaphores and blocks under one name each, the transfers in flight at a trip's
  start as assertions, and one rule per enqueue and per wait.
-/
module

public import proofs.«01_k».proof.Proof.Facts
public import proofs.«01_k».proof.Proof.Steps

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## Names -/

abbrev a0 : Memref sig .tc .hbm S4x4096x1024 .f32 := Memref.whole main_arg0
abbrev a7 : Memref sig .tc .hbm S4x4096x1024 .f32 := Memref.whole main_v10
abbrev bP : Memref sig .tc .vmem S2x1x16x1024 .f32 := Memref.whole cc0_scoped0
abbrev bC : Memref sig .tc .vmem S2x1x512x1024 .f32 := Memref.whole cc0_scoped2
abbrev bN : Memref sig .tc .vmem S2x1x16x1024 .f32 := Memref.whole cc0_scoped4
abbrev bO : Memref sig .tc .vmem S2x1x512x1024 .f32 := Memref.whole cc0_scoped6

theorem oP_inb (t : ℕ) : ∀ a, oP t a + S1x16x1024.size a ≤ S4x4096x1024.size a := by
  intro a; fin_cases a <;> simp [oP] <;> omega
theorem oC_inb (t : ℕ) : ∀ a, oC t a + S1x512x1024.size a ≤ S4x4096x1024.size a := by
  intro a; fin_cases a <;> simp [oC] <;> omega
theorem oN_inb (t : ℕ) : ∀ a, oN t a + S1x16x1024.size a ≤ S4x4096x1024.size a := by
  intro a; fin_cases a <;> simp [oN] <;> omega
theorem oS_inb (t : ℕ) : ∀ a, oS t a + S1x1x16x1024.size a ≤ S2x1x16x1024.size a := by
  intro a; fin_cases a <;> simp [oS] <;> omega
theorem oS_inb' (t : ℕ) : ∀ a, oS t a + S1x1x512x1024.size a ≤ S2x1x512x1024.size a := by
  intro a; fin_cases a <;> simp [oS] <;> omega
theorem oM_inb (t : ℕ) : ∀ a, oM t a + S1.size a ≤ S2.size a := by
  intro a; fin_cases a; simp [oM]; omega

/-- The slots tile `t` uses, … -/
def slP (t : ℕ) : Memref sig .tc .vmem S1x16x1024 .f32 :=
  (bP.slice (Rect.unit (s := S2x1x16x1024) (oS t) S1x1x16x1024.size (oS_inb t)) (fun _ => rfl)).squeeze S1x16x1024 squeezes_S1x1x16x1024_S1x16x1024
def slC (t : ℕ) : Memref sig .tc .vmem S1x512x1024 .f32 :=
  (bC.slice (Rect.unit (s := S2x1x512x1024) (oS t) S1x1x512x1024.size (oS_inb' t)) (fun _ => rfl)).squeeze S1x512x1024 squeezes_S1x1x512x1024_S1x512x1024
def slN (t : ℕ) : Memref sig .tc .vmem S1x16x1024 .f32 :=
  (bN.slice (Rect.unit (s := S2x1x16x1024) (oS t) S1x1x16x1024.size (oS_inb t)) (fun _ => rfl)).squeeze S1x16x1024 squeezes_S1x1x16x1024_S1x16x1024
def slO (t : ℕ) : Memref sig .tc .vmem S1x512x1024 .f32 :=
  (bO.slice (Rect.unit (s := S2x1x512x1024) (oS t) S1x1x512x1024.size (oS_inb' t)) (fun _ => rfl)).squeeze S1x512x1024 squeezes_S1x1x512x1024_S1x512x1024

/-- … the semaphores, … -/
def sem (v : DmaSems sig S2) (t : ℕ) : DmaSem sig :=
  ((v.slice (Rect.unit (s := S2) (oM t) S1.size (oM_inb t))).squeeze S_ squeezes_S1_S_).sem
abbrev smP (t : ℕ) : DmaSem sig := sem cc0_scoped1 t
abbrev smC (t : ℕ) : DmaSem sig := sem cc0_scoped3 t
abbrev smN (t : ℕ) : DmaSem sig := sem cc0_scoped5 t
abbrev smO (t : ℕ) : DmaSem sig := sem cc0_scoped7 t

/-- … and the blocks of the input and of the output. -/
abbrev blP (t : ℕ) : Memref sig .tc .hbm S1x16x1024 .f32 :=
  a0.slice (Rect.unit (s := S4x4096x1024) (oP t) S1x16x1024.size (oP_inb t)) (fun _ => rfl)
abbrev blC (t : ℕ) : Memref sig .tc .hbm S1x512x1024 .f32 :=
  a0.slice (Rect.unit (s := S4x4096x1024) (oC t) S1x512x1024.size (oC_inb t)) (fun _ => rfl)
abbrev blN (t : ℕ) : Memref sig .tc .hbm S1x16x1024 .f32 :=
  a0.slice (Rect.unit (s := S4x4096x1024) (oN t) S1x16x1024.size (oN_inb t)) (fun _ => rfl)
abbrev blO (t : ℕ) : Memref sig .tc .hbm S1x512x1024 .f32 :=
  a7.slice (Rect.unit (s := S4x4096x1024) (oC t) S1x512x1024.size (oC_inb t)) (fun _ => rfl)

theorem oS_congr {t u : ℕ} (h : t % 2 = u % 2) : oS t = oS u := by unfold oS; rw [h]
theorem oM_congr {t u : ℕ} (h : t % 2 = u % 2) : oM t = oM u := by unfold oM; rw [h]

theorem slP_eq {o : Fin 4 → ℕ} {ho} {t : ℕ} (e : o = oS t) :
    (bP.slice (Rect.unit (s := S2x1x16x1024) o S1x1x16x1024.size ho) (fun _ => rfl)).squeeze S1x16x1024 squeezes_S1x1x16x1024_S1x16x1024 = slP t := by
  subst e; rfl
theorem slC_eq {o : Fin 4 → ℕ} {ho} {t : ℕ} (e : o = oS t) :
    (bC.slice (Rect.unit (s := S2x1x512x1024) o S1x1x512x1024.size ho) (fun _ => rfl)).squeeze S1x512x1024 squeezes_S1x1x512x1024_S1x512x1024 = slC t := by
  subst e; rfl
theorem slN_eq {o : Fin 4 → ℕ} {ho} {t : ℕ} (e : o = oS t) :
    (bN.slice (Rect.unit (s := S2x1x16x1024) o S1x1x16x1024.size ho) (fun _ => rfl)).squeeze S1x16x1024 squeezes_S1x1x16x1024_S1x16x1024 = slN t := by
  subst e; rfl
theorem slO_eq {o : Fin 4 → ℕ} {ho} {t : ℕ} (e : o = oS t) :
    (bO.slice (Rect.unit (s := S2x1x512x1024) o S1x1x512x1024.size ho) (fun _ => rfl)).squeeze S1x512x1024 squeezes_S1x1x512x1024_S1x512x1024 = slO t := by
  subst e; rfl
theorem sem_eq {v : DmaSems sig S2} {o : Fin 1 → ℕ} {ho} {t : ℕ} (e : o = oM t) :
    ((v.slice (Rect.unit (s := S2) o S1.size ho)).squeeze S_ squeezes_S1_S_).sem = sem v t := by
  subst e; rfl
theorem blP_eq {o : Fin 3 → ℕ} {ho} {t : ℕ} (e : o = oP t) :
    a0.slice (Rect.unit (s := S4x4096x1024) o S1x16x1024.size ho) (fun _ => rfl) = blP t := by subst e; rfl
theorem blC_eq {o : Fin 3 → ℕ} {ho} {t : ℕ} (e : o = oC t) :
    a0.slice (Rect.unit (s := S4x4096x1024) o S1x512x1024.size ho) (fun _ => rfl) = blC t := by subst e; rfl
theorem blN_eq {o : Fin 3 → ℕ} {ho} {t : ℕ} (e : o = oN t) :
    a0.slice (Rect.unit (s := S4x4096x1024) o S1x16x1024.size ho) (fun _ => rfl) = blN t := by subst e; rfl
theorem blO_eq {o : Fin 3 → ℕ} {ho} {t : ℕ} (e : o = oC t) :
    a7.slice (Rect.unit (s := S4x4096x1024) o S1x512x1024.size ho) (fun _ => rfl) = blO t := by subst e; rfl
theorem slP_congr {t u : ℕ} (h : t % 2 = u % 2) : slP t = slP u := slP_eq (oS_congr h)
theorem slC_congr {t u : ℕ} (h : t % 2 = u % 2) : slC t = slC u := slC_eq (oS_congr h)
theorem slN_congr {t u : ℕ} (h : t % 2 = u % 2) : slN t = slN u := slN_eq (oS_congr h)
theorem slO_congr {t u : ℕ} (h : t % 2 = u % 2) : slO t = slO u := slO_eq (oS_congr h)
theorem sem_congr {v : DmaSems sig S2} {t u : ℕ} (h : t % 2 = u % 2) : sem v t = sem v u := sem_eq (oM_congr h)

/-! ## An input slot: free, or filling -/

section Slot
variable (c : Dev nD)

/-- A slot with nothing in flight: anything in it, its counter at zero, its share of the input. -/
def Idle {s : Shape} (q : PosShare TreeShare) (fa : a0.view.ty.Contents (Elt F)) (dst : Memref sig .tc .vmem s .f32) (sm : DmaSem sig) : sProp 𝕄 :=
  iprop((∃ fd : dst.view.ty.Contents (Elt F), ptw c dst fd) ∗ semVal ((c : Thread nD τ), SemLoc.dma sm) 0
    ∗ (a0.view.loc (c : Thread nD τ) ↦[Finset.univ]{q} fa))

/-- A slot filling with block `r` of the input. -/
def Fly (q : PosShare TreeShare) (fa : a0.view.ty.Contents (Elt F)) (r : Rect S4x4096x1024) (hr : ∀ a, r.stride a = 1)
    (dst : Memref sig .tc .vmem r.shape .f32) (sm : DmaSem sig) : sProp 𝕄 :=
  iprop((∃ fd : dst.view.ty.Contents (Elt F), Transfers.Flight countersEmb (c : Thread nD τ) (SemLoc.dma sm) () dst.view.dmaCredit
      iprop(ptw c dst (dst.view.write (Elt F) fd (ReadAs.same.apply ((a0.slice r hr).view.read (Elt F) fa)) Finset.univ)
        ∗ (a0.view.loc (c : Thread nD τ) ↦[(a0.slice r hr).view.set]{q} fa)))
    ∗ (a0.view.loc (c : Thread nD τ) ↦[Finset.univ \ (a0.slice r hr).view.set]{q} fa))

/-- A filled slot, with its counter at zero and its share of the input. -/
def Full (q : PosShare TreeShare) (fa : a0.view.ty.Contents (Elt F)) (r : Rect S4x4096x1024) (hr : ∀ a, r.stride a = 1)
    (dst : Memref sig .tc .vmem r.shape .f32) (sm : DmaSem sig) : sProp 𝕄 :=
  iprop((∃ fd : dst.view.ty.Contents (Elt F), ⌜dst.view.read (Elt F) fd = (a0.slice r hr).view.read (Elt F) fa⌝ ∗ ptw c dst fd)
    ∗ semVal ((c : Thread nD τ), SemLoc.dma sm) 0 ∗ (a0.view.loc (c : Thread nD τ) ↦[Finset.univ]{q} fa))

abbrev W (c : Dev nD) {α : Type} (p : Prog (TpuEff nD τ sig (Elt F) Λ₀ .tc) α) (Ψ : α → sProp 𝕄) : sProp 𝕄 :=
  wp Idealize.ShloMosaic.frame (wpE (defs₀ (F := F)) 𝒱₀ (c : Thread nD τ) none) Set.univ p Ψ

theorem wp_issue {α : Type} {Ψ : α → sProp 𝕄} {q : PosShare TreeShare} {fa : a0.view.ty.Contents (Elt F)} {r : Rect S4x4096x1024} {hr : ∀ a, r.stride a = 1}
    {dst dst' : Memref sig .tc .vmem r.shape .f32} {sm sm' : DmaSem sig} {src' : Memref sig .tc .hbm r.shape .f32}
    {h1} {h2} {h3}
    (es : src' = a0.slice r hr) (ed : dst' = dst) (em : sm' = sm) (hn : 0 < r.shape.numel)
    {k : PUnit → Prog (TpuEff nD τ sig (Elt F) Λ₀ .tc) α} :
    Idle c q fa dst sm ⊢ iprop((Fly c q fa r hr dst sm -∗ W c (k ⟨⟩) Ψ) -∗
      W c (Prog.lift (.enqueueDma src' (.here dst') (.dma sm') h1 h2 h3) >>= k) Ψ) := by
  subst es; subst ed; subst em
  unfold Idle Fly
  iintro ⟨⟨%fd, Hd⟩, Hv, Ha⟩ Hk
  ihave Hs := (pointsTo_split_subset (ℓ := a0.view.loc (c : Thread nD τ)) (f := fa) (q := q) (Finset.subset_univ (a0.slice r hr).view.set)).1 $$ Ha
  icases Hs with ⟨Hs, Hr⟩
  iapply (Transfers.wp_dmaLocal countersEmb 𝒱₀ (c : Thread nD τ) none (src := a0.slice r hr) (dst := dst') (via := .same) (sm := .dma sm') (q := q) (fs := fa) (Sd := dst'.view.set) (fd := fd) () dst'.view.dmaCredit rfl
    (View.dmaCredit_pos _ hn) (Finset.Subset.refl _)) $$ [Hs Hd Hv]
  · isplitl [Hs]; · iexact Hs
    isplitl [Hd]; · iexact Hd
    iexact Hv
  iintro HF
  iapply Hk
  isplitl [HF]
  · iexists fd
    iexact HF
  · iexact Hr

theorem wp_await {α : Type} {Ψ : α → sProp 𝕄} {q : PosShare TreeShare} {fa : a0.view.ty.Contents (Elt F)} {r : Rect S4x4096x1024} {hr : ∀ a, r.stride a = 1}
    {dst dst' : Memref sig .tc .vmem r.shape .f32} {sm sm' : DmaSem sig} {src' : Memref sig .tc .hbm r.shape .f32}
    {h1 : src'.view.WordExact} {h2 : dst'.view.WordExact}
    (ed : dst' = dst) (em : sm' = sm) {k : PUnit → Prog (TpuEff nD τ sig (Elt F) Λ₀ .tc) α} :
    iprop(Fly c q fa r hr dst sm ∗ ∃ w, owes (c : Thread nD τ) 0 w) ⊢ iprop((Full c q fa r hr dst sm -∗ (∃ w, owes (c : Thread nD τ) 0 w) -∗ W c (k ⟨⟩) Ψ) -∗
      W c (Prog.lift (.waitDma2 sm' src' dst' h1 h2) >>= k) Ψ) := by
  subst ed; subst em
  unfold Full Fly
  iintro ⟨⟨⟨%fd, HF⟩, Hr⟩, %w, HO⟩ Hk
  iapply (Transfers.wp_waitLocal countersEmb 𝒱₀ (c : Thread nD τ) none (sem := sm') (srcw := src') (dstw := dst') () (N := dst'.view.dmaCredit) rfl) $$ [HF HO]
  · isplitl [HF] <;> iassumption
  iintro ⟨⟨Hd, Hs⟩, Hv, HO⟩
  iapply Hk $$ [Hd Hs Hv Hr] [HO]
  · isplitl [Hd]
    · iexists (dst'.view.write (Elt F) fd (ReadAs.same.apply ((a0.slice r hr).view.read (Elt F) fa)) Finset.univ)
      isplitr [Hd]
      · ipureintro
        exact View.read_write_univ (v := dst'.view) fd _
      · iexact Hd
    isplitl [Hv]; · iexact Hv
    iapply (pointsTo_split_subset (ℓ := a0.view.loc (c : Thread nD τ)) (f := fa) (q := q) (Finset.subset_univ (a0.slice r hr).view.set)).2
    isplitl [Hs] <;> iassumption
  · iexists _
    iexact HO

theorem W_if_pos {α : Type} {Ψ : α → sProp 𝕄} {P : Prop} [Decidable P] (h : P) {A : P → Prog (TpuEff nD τ sig (Elt F) Λ₀ .tc) α}
    {B : ¬ P → Prog (TpuEff nD τ sig (Elt F) Λ₀ .tc) α} :
    W c (A h) Ψ ⊢ W c (if h : P then A h else B h) Ψ := by
  rw [dif_pos h]

theorem W_if_neg {α : Type} {Ψ : α → sProp 𝕄} {P : Prop} [Decidable P] (h : ¬ P) {A : P → Prog (TpuEff nD τ sig (Elt F) Λ₀ .tc) α}
    {B : ¬ P → Prog (TpuEff nD τ sig (Elt F) Λ₀ .tc) α} :
    W c (B h) Ψ ⊢ W c (if h : P then A h else B h) Ψ := by
  rw [dif_neg h]

theorem W_ite_self {α : Type} {Ψ : α → sProp 𝕄} {P : Prop} [Decidable P] {k : Prog (TpuEff nD τ sig (Elt F) Λ₀ .tc) α} :
    W c k Ψ ⊢ W c (if P then k else k) Ψ := by
  rw [ite_self]

theorem W_assume {α : Type} {Ψ : α → sProp 𝕄} {P : Prop} {d : Decidable P} (h : P)
    {k : PLift P → Prog (TpuEff nD τ sig (Elt F) Λ₀ .tc) α} :
    W c (k ⟨h⟩) Ψ ⊢ W c (Prog.lift (TpuEff.assume P d) >>= k) Ψ := wp_assume 𝒱₀ (c : Thread nD τ) none Set.univ h

/-- A guarded fetch: it is issued exactly when `Q` holds. -/
theorem wp_issue_if {α : Type} {Ψ : α → sProp 𝕄} {q : PosShare TreeShare} {fa : a0.view.ty.Contents (Elt F)} {r : Rect S4x4096x1024} {hr : ∀ a, r.stride a = 1}
    {P Q : Prop} [Decidable P] [Decidable Q] (hPQ : P ↔ Q)
    {dst : Memref sig .tc .vmem r.shape .f32} {dst' : P → Memref sig .tc .vmem r.shape .f32} {sm : DmaSem sig} {sm' : P → DmaSem sig}
    {src' : P → Memref sig .tc .hbm r.shape .f32} {h1 : ∀ h, (src' h).view.WordExact} {h2 : ∀ h, (dst' h).view.WordExact} {h3 : ∀ h, DmaTarget.Typed .hbm (.dma (sm' h)) (DmaTarget.here (nD := nD) (p := (.tc : Proc τ)) (dst' h))}
    (es : ∀ h, src' h = a0.slice r hr) (ed : ∀ h, dst' h = dst) (em : ∀ h, sm' h = sm) (hn : 0 < r.shape.numel)
    {k : Prog (TpuEff nD τ sig (Elt F) Λ₀ .tc) α} :
    Idle c q fa dst sm ⊢ iprop(((if Q then Fly c q fa r hr dst sm else Idle c q fa dst sm) -∗ W c k Ψ) -∗
      W c (if h : P then (Prog.lift (.enqueueDma (src' h) (.here (dst' h)) (.dma (sm' h)) (h1 h) (h2 h) (h3 h)) >>= fun _ => k) else k) Ψ) := by
  iintro HI Hk
  by_cases hP : P
  · rw [if_pos (hPQ.mp hP)]
    iapply (W_if_pos c hP)
    iapply (wp_issue c (es hP) (ed hP) (em hP) hn (k := fun _ => k)) $$ HI Hk
  · rw [if_neg (fun h => hP (hPQ.mpr h))]
    iapply (W_if_neg c hP)
    iapply Hk $$ HI

/-! ## An output slot and the output -/

/-- An output slot with nothing in flight. -/
def OIdle (t : ℕ) : sProp 𝕄 :=
  iprop((∃ fd : (slO t).view.ty.Contents (Elt F), ptw c (slO t) fd) ∗ semVal ((c : Thread nD τ), SemLoc.dma (smO t)) 0)

/-- Tile `t` on its way to the output, which reads `g` on the tile's block once it has arrived. -/
def OFly (t : ℕ) (g : a7.view.ty.Contents (Elt F)) : sProp 𝕄 :=
  iprop(∃ fd : (slO t).view.ty.Contents (Elt F), Transfers.Flight countersEmb (c : Thread nD τ) (SemLoc.dma (smO t)) () (blO t).view.dmaCredit
      iprop((a7.view.loc (c : Thread nD τ) ↦[(blO t).view.set]{fullShare} g) ∗ ptw c (slO t) fd))

theorem wp_put {α : Type} {Ψ : α → sProp 𝕄} {t : ℕ} {g : a7.view.ty.Contents (Elt F)} {fd : (slO t).view.ty.Contents (Elt F)}
    {S : Finset (Idx (a7.view.loc (c : Thread nD τ)))} (hS : (blO t).view.set ⊆ S)
    {P : Prop} [Decidable P] (hP : P) {B : ¬ P → Prog (TpuEff nD τ sig (Elt F) Λ₀ .tc) α}
    {src' : P → Memref sig .tc .vmem S1x512x1024 .f32} {dst' : P → Memref sig .tc .hbm S1x512x1024 .f32} {sm' : P → DmaSem sig} {h1 : ∀ h, (src' h).view.WordExact} {h2 : ∀ h, (dst' h).view.WordExact} {h3 : ∀ h, DmaTarget.Typed .vmem (.dma (sm' h)) (DmaTarget.here (nD := nD) (p := (.tc : Proc τ)) (dst' h))}
    (es : ∀ h, src' h = slO t) (ed : ∀ h, dst' h = blO t) (em : ∀ h, sm' h = smO t)
    {k : Prog (TpuEff nD τ sig (Elt F) Λ₀ .tc) α} :
    iprop(ptw c (slO t) fd ∗ semVal ((c : Thread nD τ), SemLoc.dma (smO t)) 0 ∗ (a7.view.loc (c : Thread nD τ) ↦[S]{fullShare} g)) ⊢
      iprop((iprop(OFly c t ((blO t).view.write (Elt F) g ((slO t).view.read (Elt F) fd) Finset.univ)
          ∗ (a7.view.loc (c : Thread nD τ) ↦[S \ (blO t).view.set]{fullShare} ((blO t).view.write (Elt F) g ((slO t).view.read (Elt F) fd) Finset.univ)))
          -∗ W c k Ψ) -∗
      W c (if h : P then (Prog.lift (.enqueueDma (src' h) (.here (dst' h)) (.dma (sm' h)) (h1 h) (h2 h) (h3 h)) >>= fun _ => k) else B h) Ψ) := by
  iintro ⟨Hs, Hv, Ha⟩ Hk
  iapply (W_if_pos c hP)
  generalize h1 hP = h1'
  generalize h2 hP = h2'
  generalize h3 hP = h3'
  have es' := es hP
  have ed' := ed hP
  have em' := em hP
  clear h1 h2 h3
  generalize src' hP = src at *
  generalize dst' hP = dst at *
  generalize sm' hP = sm at *
  subst es'; subst ed'; subst em'
  ihave Hd := (pointsTo_split_subset (ℓ := a7.view.loc (c : Thread nD τ)) (f := g) (q := fullShare) hS).1 $$ Ha
  icases Hd with ⟨Hd, Hr⟩
  iapply (Transfers.wp_dmaLocal countersEmb 𝒱₀ (c : Thread nD τ) none (src := slO t) (dst := blO t) (via := .same) (sm := .dma (smO t)) (q := fullShare) (fs := fd)
    (Sd := (blO t).view.set) (fd := g) () (blO t).view.dmaCredit rfl (View.dmaCredit_pos _ (by decide)) (Finset.Subset.refl _)) $$ [Hs Hd Hv]
  · isplitl [Hs]; · iexact Hs
    isplitl [Hd]; · iexact Hd
    iexact Hv
  iintro HF
  iapply Hk
  isplitl [HF]
  · unfold OFly
    iexists fd
    iexact HF
  · iapply (Entails.of_eq (pointsTo_congr (ℓ := a7.view.loc (c : Thread nD τ)) (q := fullShare) (I := S \ (blO t).view.set) (f := g) (g := (blO t).view.write (Elt F) g ((slO t).view.read (Elt F) fd) Finset.univ)
      fun i hi => (View.write_of_not_mem (v := (blO t).view) g _ Finset.univ (fun h => (Finset.mem_sdiff.mp hi).2 h)).symm)) $$ Hr

theorem wp_drain {α : Type} {Ψ : α → sProp 𝕄} {t : ℕ} {g : a7.view.ty.Contents (Elt F)}
    {src' : Memref sig .tc .vmem S1x512x1024 .f32} {dst' : Memref sig .tc .hbm S1x512x1024 .f32} {sm' : DmaSem sig} {h1} {h2}
    (ed : dst' = blO t) (em : sm' = smO t) {k : PUnit → Prog (TpuEff nD τ sig (Elt F) Λ₀ .tc) α} :
    iprop(OFly c t g ∗ ∃ w, owes (c : Thread nD τ) 0 w) ⊢
      iprop((iprop(OIdle c t ∗ (a7.view.loc (c : Thread nD τ) ↦[(blO t).view.set]{fullShare} g)) -∗ (∃ w, owes (c : Thread nD τ) 0 w) -∗ W c (k ⟨⟩) Ψ) -∗
      W c (Prog.lift (.waitDma2 sm' src' dst' h1 h2) >>= k) Ψ) := by
  subst ed; subst em
  unfold OFly OIdle
  iintro ⟨⟨%fd, HF⟩, %w, HO⟩ Hk
  iapply (Transfers.wp_waitLocal countersEmb 𝒱₀ (c : Thread nD τ) none (sem := smO t) (srcw := src') (dstw := blO t) () (N := (blO t).view.dmaCredit) rfl) $$ [HF HO]
  · isplitl [HF] <;> iassumption
  iintro ⟨⟨Hd, Hs⟩, Hv, HO⟩
  iapply Hk $$ [Hd Hs Hv] [HO]
  · isplitl [Hs Hv]
    · isplitl [Hs]
      · iexists fd
        iexact Hs
      · iexact Hv
    · iexact Hd
  · iexists _
    iexact HO

end Slot

end Cert.Proof.Ffn
end
-- ==== Proof.State.lean ====
/-
  The kernel's own pipeline: its slots, semaphores and blocks under one name each, the transfers in flight at a trip's
  start as assertions, and one rule per enqueue and per wait.
-/
module

public import proofs.«01_k».proof.Proof.Pipe
public import proofs.«01_k».proof.Proof.Steps

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! # The loop's invariant -/

theorem W_bind (c : Dev nD) {α β : Type} {Ψ : β → sProp 𝕄} {p : Prog (TpuEff nD τ sig (Elt F) Λ₀ .tc) α} {k : α → Prog (TpuEff nD τ sig (Elt F) Λ₀ .tc) β} :
    W c p (fun x => W c (k x) Ψ) ⊢ W c (p >>= k) Ψ := by
  unfold W
  rw [wp_bind]

theorem W_pure (c : Dev nD) {α : Type} {Ψ : α → sProp 𝕄} {x : α} : Ψ x ⊢ W c (pure x) Ψ := fupd_intro

theorem S16_pos : 0 < S1x16x1024.numel := by decide
theorem S512_pos : 0 < S1x512x1024.numel := by decide

/-- The share of the input that goes with window `w` at tiles of `t`'s parity. -/
def qq (w t : ℕ) : PosShare TreeShare := Transfers.shareTokN fullShare (2 * w + t % 2)
theorem qq_congr {w t u : ℕ} (h : t % 2 = u % 2) : qq w t = qq w u := by unfold qq; rw [h]

section Wins
variable (c : Dev nD) (fa : a0.view.ty.Contents (Elt F)) (t : ℕ)

def IdleP : sProp 𝕄 := Idle c (qq 0 t) fa (slP t) (smP t)
def IdleC : sProp 𝕄 := Idle c (qq 1 t) fa (slC t) (smC t)
def IdleN : sProp 𝕄 := Idle c (qq 2 t) fa (slN t) (smN t)
def FlyP : sProp 𝕄 := Fly c (qq 0 t) fa (Rect.unit (s := S4x4096x1024) (oP t) S1x16x1024.size (oP_inb t)) (fun _ => rfl) (slP t) (smP t)
def FullP : sProp 𝕄 := Full c (qq 0 t) fa (Rect.unit (s := S4x4096x1024) (oP t) S1x16x1024.size (oP_inb t)) (fun _ => rfl) (slP t) (smP t)
def FlyC : sProp 𝕄 := Fly c (qq 1 t) fa (Rect.unit (s := S4x4096x1024) (oC t) S1x512x1024.size (oC_inb t)) (fun _ => rfl) (slC t) (smC t)
def FullC : sProp 𝕄 := Full c (qq 1 t) fa (Rect.unit (s := S4x4096x1024) (oC t) S1x512x1024.size (oC_inb t)) (fun _ => rfl) (slC t) (smC t)
def FlyN : sProp 𝕄 := Fly c (qq 2 t) fa (Rect.unit (s := S4x4096x1024) (oN t) S1x16x1024.size (oN_inb t)) (fun _ => rfl) (slN t) (smN t)
def FullN : sProp 𝕄 := Full c (qq 2 t) fa (Rect.unit (s := S4x4096x1024) (oN t) S1x16x1024.size (oN_inb t)) (fun _ => rfl) (slN t) (smN t)
def InP : sProp 𝕄 := if t < 32 then FlyP c fa t else IdleP c fa t
def InC : sProp 𝕄 := if t < 32 then FlyC c fa t else IdleC c fa t
def InN : sProp 𝕄 := if t < 32 then FlyN c fa t else IdleN c fa t

theorem issueP {α : Type} {Ψ : α → sProp 𝕄} {P Q : Prop} [Decidable P] [Decidable Q] (hPQ : P ↔ Q) {o3 : Fin 3 → ℕ} {o4 : Fin 4 → ℕ} {o1 : Fin 1 → ℕ}
    {i3 : P → ∀ a, o3 a + S1x16x1024.size a ≤ S4x4096x1024.size a} {i4 : P → ∀ a, o4 a + S1x1x16x1024.size a ≤ S2x1x16x1024.size a} {i1 : P → ∀ a, o1 a + S1.size a ≤ S2.size a}
    {h1 : ∀ h, View.WordExact _} {h2 : ∀ h, View.WordExact _} {h3 : ∀ h, DmaTarget.Typed (p := (.tc : Proc τ)) (nD := nD) _ _ _} (e3 : o3 = oP t) (e4 : P → o4 = oS t) (e1 : P → o1 = oM t) {k : Prog (TpuEff nD τ sig (Elt F) Λ₀ .tc) α} :
    IdleP c fa t ⊢ iprop(((if Q then FlyP c fa t else IdleP c fa t) -∗ W c k Ψ) -∗
      W c (if h : P then (Prog.lift (.enqueueDma (a0.slice (Rect.unit (s := S4x4096x1024) o3 S1x16x1024.size (i3 h)) (fun _ => rfl))
        (.here ((bP.slice (Rect.unit (s := S2x1x16x1024) o4 S1x1x16x1024.size (i4 h)) (fun _ => rfl)).squeeze S1x16x1024 squeezes_S1x1x16x1024_S1x16x1024))
        (.dma ((cc0_scoped1.slice (Rect.unit (s := S2) o1 S1.size (i1 h))).squeeze S_ squeezes_S1_S_).sem) (h1 h) (h2 h) (h3 h)) >>= fun _ => k) else k) Ψ) :=
  wp_issue_if c hPQ (r := Rect.unit (s := S4x4096x1024) (oP t) S1x16x1024.size (oP_inb t)) (hr := fun _ => rfl) (dst := slP t) (sm := smP t)
    (src' := fun h => a0.slice (Rect.unit (s := S4x4096x1024) o3 S1x16x1024.size (i3 h)) (fun _ => rfl))
    (fun h => blP_eq e3) (fun h => slP_eq (e4 h)) (fun h => sem_eq (e1 h)) S16_pos

theorem issueC {α : Type} {Ψ : α → sProp 𝕄} {P Q : Prop} [Decidable P] [Decidable Q] (hPQ : P ↔ Q) {o3 : Fin 3 → ℕ} {o4 : Fin 4 → ℕ} {o1 : Fin 1 → ℕ}
    {i3 : P → ∀ a, o3 a + S1x512x1024.size a ≤ S4x4096x1024.size a} {i4 : P → ∀ a, o4 a + S1x1x512x1024.size a ≤ S2x1x512x1024.size a} {i1 : P → ∀ a, o1 a + S1.size a ≤ S2.size a}
    {h1 : ∀ h, View.WordExact _} {h2 : ∀ h, View.WordExact _} {h3 : ∀ h, DmaTarget.Typed (p := (.tc : Proc τ)) (nD := nD) _ _ _} (e3 : o3 = oC t) (e4 : P → o4 = oS t) (e1 : P → o1 = oM t) {k : Prog (TpuEff nD τ sig (Elt F) Λ₀ .tc) α} :
    IdleC c fa t ⊢ iprop(((if Q then FlyC c fa t else IdleC c fa t) -∗ W c k Ψ) -∗
      W c (if h : P then (Prog.lift (.enqueueDma (a0.slice (Rect.unit (s := S4x4096x1024) o3 S1x512x1024.size (i3 h)) (fun _ => rfl))
        (.here ((bC.slice (Rect.unit (s := S2x1x512x1024) o4 S1x1x512x1024.size (i4 h)) (fun _ => rfl)).squeeze S1x512x1024 squeezes_S1x1x512x1024_S1x512x1024))
        (.dma ((cc0_scoped3.slice (Rect.unit (s := S2) o1 S1.size (i1 h))).squeeze S_ squeezes_S1_S_).sem) (h1 h) (h2 h) (h3 h)) >>= fun _ => k) else k) Ψ) :=
  wp_issue_if c hPQ (r := Rect.unit (s := S4x4096x1024) (oC t) S1x512x1024.size (oC_inb t)) (hr := fun _ => rfl) (dst := slC t) (sm := smC t)
    (src' := fun h => a0.slice (Rect.unit (s := S4x4096x1024) o3 S1x512x1024.size (i3 h)) (fun _ => rfl))
    (fun h => blC_eq e3) (fun h => slC_eq (e4 h)) (fun h => sem_eq (e1 h)) S512_pos

theorem issueN {α : Type} {Ψ : α → sProp 𝕄} {P Q : Prop} [Decidable P] [Decidable Q] (hPQ : P ↔ Q) {o3 : Fin 3 → ℕ} {o4 : Fin 4 → ℕ} {o1 : Fin 1 → ℕ}
    {i3 : P → ∀ a, o3 a + S1x16x1024.size a ≤ S4x4096x1024.size a} {i4 : P → ∀ a, o4 a + S1x1x16x1024.size a ≤ S2x1x16x1024.size a} {i1 : P → ∀ a, o1 a + S1.size a ≤ S2.size a}
    {h1 : ∀ h, View.WordExact _} {h2 : ∀ h, View.WordExact _} {h3 : ∀ h, DmaTarget.Typed (p := (.tc : Proc τ)) (nD := nD) _ _ _} (e3 : o3 = oN t) (e4 : P → o4 = oS t) (e1 : P → o1 = oM t) {k : Prog (TpuEff nD τ sig (Elt F) Λ₀ .tc) α} :
    IdleN c fa t ⊢ iprop(((if Q then FlyN c fa t else IdleN c fa t) -∗ W c k Ψ) -∗
      W c (if h : P then (Prog.lift (.enqueueDma (a0.slice (Rect.unit (s := S4x4096x1024) o3 S1x16x1024.size (i3 h)) (fun _ => rfl))
        (.here ((bN.slice (Rect.unit (s := S2x1x16x1024) o4 S1x1x16x1024.size (i4 h)) (fun _ => rfl)).squeeze S1x16x1024 squeezes_S1x1x16x1024_S1x16x1024))
        (.dma ((cc0_scoped5.slice (Rect.unit (s := S2) o1 S1.size (i1 h))).squeeze S_ squeezes_S1_S_).sem) (h1 h) (h2 h) (h3 h)) >>= fun _ => k) else k) Ψ) :=
  wp_issue_if c hPQ (r := Rect.unit (s := S4x4096x1024) (oN t) S1x16x1024.size (oN_inb t)) (hr := fun _ => rfl) (dst := slN t) (sm := smN t)
    (src' := fun h => a0.slice (Rect.unit (s := S4x4096x1024) o3 S1x16x1024.size (i3 h)) (fun _ => rfl))
    (fun h => blN_eq e3) (fun h => slN_eq (e4 h)) (fun h => sem_eq (e1 h)) S16_pos

theorem InP_lt {t : ℕ} (h : t < 32) : InP c fa t = FlyP c fa t := if_pos h

theorem awaitP {α : Type} {Ψ : α → sProp 𝕄} {P : Prop} [Decidable P] (hP : P) {o4 : Fin 4 → ℕ} {o1 : Fin 1 → ℕ}
    {i4 : P → ∀ a, o4 a + S1x1x16x1024.size a ≤ S2x1x16x1024.size a} {i1 : P → ∀ a, o1 a + S1.size a ≤ S2.size a}
    {src' : P → Memref sig .tc .hbm S1x16x1024 .f32} {h1 : ∀ h, View.WordExact _} {h2 : ∀ h, View.WordExact _}
    (e4 : o4 = oS t) (e1 : o1 = oM t) {k : Prog (TpuEff nD τ sig (Elt F) Λ₀ .tc) α} {B : ¬ P → Prog (TpuEff nD τ sig (Elt F) Λ₀ .tc) α} :
    iprop(FlyP c fa t ∗ ∃ w, owes (c : Thread nD τ) 0 w) ⊢ iprop((FullP c fa t -∗ (∃ w, owes (c : Thread nD τ) 0 w) -∗ W c k Ψ) -∗
      W c (if h : P then (Prog.lift (.waitDma2 ((cc0_scoped1.slice (Rect.unit (s := S2) o1 S1.size (i1 h))).squeeze S_ squeezes_S1_S_).sem (src' h)
        ((bP.slice (Rect.unit (s := S2x1x16x1024) o4 S1x1x16x1024.size (i4 h)) (fun _ => rfl)).squeeze S1x16x1024 squeezes_S1x1x16x1024_S1x16x1024) (h1 h) (h2 h)) >>= fun _ => k) else B h) Ψ) := by
  rw [dif_pos hP]
  exact wp_await c (r := Rect.unit (s := S4x4096x1024) (oP t) S1x16x1024.size (oP_inb t)) (hr := fun _ => rfl) (dst := slP t) (sm := smP t) (k := fun _ => k)
    (slP_eq e4) (sem_eq e1)

theorem InC_lt {t : ℕ} (h : t < 32) : InC c fa t = FlyC c fa t := if_pos h

theorem awaitC {α : Type} {Ψ : α → sProp 𝕄} {P : Prop} [Decidable P] (hP : P) {o4 : Fin 4 → ℕ} {o1 : Fin 1 → ℕ}
    {i4 : P → ∀ a, o4 a + S1x1x512x1024.size a ≤ S2x1x512x1024.size a} {i1 : P → ∀ a, o1 a + S1.size a ≤ S2.size a}
    {src' : P → Memref sig .tc .hbm S1x512x1024 .f32} {h1 : ∀ h, View.WordExact _} {h2 : ∀ h, View.WordExact _}
    (e4 : o4 = oS t) (e1 : o1 = oM t) {k : Prog (TpuEff nD τ sig (Elt F) Λ₀ .tc) α} {B : ¬ P → Prog (TpuEff nD τ sig (Elt F) Λ₀ .tc) α} :
    iprop(FlyC c fa t ∗ ∃ w, owes (c : Thread nD τ) 0 w) ⊢ iprop((FullC c fa t -∗ (∃ w, owes (c : Thread nD τ) 0 w) -∗ W c k Ψ) -∗
      W c (if h : P then (Prog.lift (.waitDma2 ((cc0_scoped3.slice (Rect.unit (s := S2) o1 S1.size (i1 h))).squeeze S_ squeezes_S1_S_).sem (src' h)
        ((bC.slice (Rect.unit (s := S2x1x512x1024) o4 S1x1x512x1024.size (i4 h)) (fun _ => rfl)).squeeze S1x512x1024 squeezes_S1x1x512x1024_S1x512x1024) (h1 h) (h2 h)) >>= fun _ => k) else B h) Ψ) := by
  rw [dif_pos hP]
  exact wp_await c (r := Rect.unit (s := S4x4096x1024) (oC t) S1x512x1024.size (oC_inb t)) (hr := fun _ => rfl) (dst := slC t) (sm := smC t) (k := fun _ => k)
    (slC_eq e4) (sem_eq e1)

theorem InN_lt {t : ℕ} (h : t < 32) : InN c fa t = FlyN c fa t := if_pos h

theorem awaitN {α : Type} {Ψ : α → sProp 𝕄} {P : Prop} [Decidable P] (hP : P) {o4 : Fin 4 → ℕ} {o1 : Fin 1 → ℕ}
    {i4 : P → ∀ a, o4 a + S1x1x16x1024.size a ≤ S2x1x16x1024.size a} {i1 : P → ∀ a, o1 a + S1.size a ≤ S2.size a}
    {src' : P → Memref sig .tc .hbm S1x16x1024 .f32} {h1 : ∀ h, View.WordExact _} {h2 : ∀ h, View.WordExact _}
    (e4 : o4 = oS t) (e1 : o1 = oM t) {k : Prog (TpuEff nD τ sig (Elt F) Λ₀ .tc) α} {B : ¬ P → Prog (TpuEff nD τ sig (Elt F) Λ₀ .tc) α} :
    iprop(FlyN c fa t ∗ ∃ w, owes (c : Thread nD τ) 0 w) ⊢ iprop((FullN c fa t -∗ (∃ w, owes (c : Thread nD τ) 0 w) -∗ W c k Ψ) -∗
      W c (if h : P then (Prog.lift (.waitDma2 ((cc0_scoped5.slice (Rect.unit (s := S2) o1 S1.size (i1 h))).squeeze S_ squeezes_S1_S_).sem (src' h)
        ((bN.slice (Rect.unit (s := S2x1x16x1024) o4 S1x1x16x1024.size (i4 h)) (fun _ => rfl)).squeeze S1x16x1024 squeezes_S1x1x16x1024_S1x16x1024) (h1 h) (h2 h)) >>= fun _ => k) else B h) Ψ) := by
  rw [dif_pos hP]
  exact wp_await c (r := Rect.unit (s := S4x4096x1024) (oN t) S1x16x1024.size (oN_inb t)) (hr := fun _ => rfl) (dst := slN t) (sm := smN t) (k := fun _ => k)
    (slN_eq e4) (sem_eq e1)

end Wins

theorem IdleP_congr {c : Dev nD} {fa : a0.view.ty.Contents (Elt F)} {t u : ℕ} (h : t % 2 = u % 2) : IdleP c fa t = IdleP c fa u := by
  unfold IdleP; rw [qq_congr h, slP_congr h, show smP t = smP u from sem_congr h]
theorem IdleC_congr {c : Dev nD} {fa : a0.view.ty.Contents (Elt F)} {t u : ℕ} (h : t % 2 = u % 2) : IdleC c fa t = IdleC c fa u := by
  unfold IdleC; rw [qq_congr h, slC_congr h, show smC t = smC u from sem_congr h]
theorem IdleN_congr {c : Dev nD} {fa : a0.view.ty.Contents (Elt F)} {t u : ℕ} (h : t % 2 = u % 2) : IdleN c fa t = IdleN c fa u := by
  unfold IdleN; rw [qq_congr h, slN_congr h, show smN t = smN u from sem_congr h]
theorem OIdle_congr {c : Dev nD} {t u : ℕ} (h : t % 2 = u % 2) : OIdle (F := F) c t = OIdle c u := by
  unfold OIdle; rw [slO_congr h, show smO t = smO u from sem_congr h]

/-- The blocks of two tiles do not meet. -/
theorem blO_disjoint {t u : ℕ} (ht : t < 32) (hu : u < 32) (h : t ≠ u) : Disjoint (blO t).view.set (blO u).view.set := by
  unfold blO
  refine Finset.disjoint_of_subset_left (View.set_slice a7.view _).subset (Finset.disjoint_of_subset_right (View.set_slice a7.view _).subset ((Finset.disjoint_map _).mpr ?_))
  rw [Finset.disjoint_left]
  intro i hi hj
  rw [Rect.mem_set_unit] at hi hj
  have h0 := hi 0
  have h1 := hi 1
  have k0 := hj 0
  have k1 := hj 1
  simp only [oC, S1x512x1024, Matrix.cons_val_zero, Matrix.cons_val_one] at h0 h1 k0 k1
  omega

/-- What stays fixed over the loop: the buffers, the weights' contents and the input's. -/
structure Env (F : FTy → Type) where
  c : Dev nD
  a1 : Memref sig .tc .vmem S1024x5632 .bf16
  h1 : a1.IsWhole
  a2 : Memref sig .tc .vmem S1x3x5632 .f32
  h2 : a2.IsWhole
  a3 : Memref sig .tc .vmem S1x5632 .f32
  h3 : a3.IsWhole
  a4 : Memref sig .tc .vmem S2816x1024 .bf16
  h4 : a4.IsWhole
  a5 : Memref sig .tc .vmem S1x1024 .f32
  h5 : a5.IsWhole
  a6 : Memref sig .tc .vmem S1x1024 .f32
  h6 : a6.IsWhole
  f1 : a1.view.ty.Contents (Elt F)
  f2 : a2.view.ty.Contents (Elt F)
  f3 : a3.view.ty.Contents (Elt F)
  f4 : a4.view.ty.Contents (Elt F)
  f5 : a5.view.ty.Contents (Elt F)
  f6 : a6.view.ty.Contents (Elt F)
  fa : a0.view.ty.Contents (Elt F)
  go : a7.view.ty.Contents (Elt F)

abbrev s8 : Memref sig .tc .vmem S544x1024 .bf16 := Memref.whole cc0_scratch0
abbrev s9 := Memref.whole cc0_scratch1
abbrev s10 := Memref.whole cc0_scratch2
abbrev s11 := Memref.whole cc0_scratch3
abbrev s12 := Memref.whole cc0_scratch4

/-- The tile's context: its slots, and what they hold. -/
@[reducible] def Env.ctx (E : Env F) (t : ℕ) (fhp : (slP t).view.ty.Contents (Elt F)) (fhc : (slC t).view.ty.Contents (Elt F))
    (fhn : (slN t).view.ty.Contents (Elt F)) (R : sProp 𝕄) : Ctx F where
  c := E.c
  a1 := E.a1
  a2 := E.a2
  a3 := E.a3
  a4 := E.a4
  a5 := E.a5
  a6 := E.a6
  a8 := s8
  a9 := s9
  a10 := s10
  a11 := s11
  a12 := s12
  hp := slP t
  hc := slC t
  hn := slN t
  ho := slO t
  f1 := E.f1
  f2 := E.f2
  f3 := E.f3
  f4 := E.f4
  f5 := E.f5
  f6 := E.f6
  fhp := fhp
  fhc := fhc
  fhn := fhn
  ix := Scalar.addi (cJ t) 0#32
  R := R

@[reducible] def Env.args (E : Env F) (t : ℕ) (fhp : (slP t).view.ty.Contents (Elt F)) (fhc : (slC t).view.ty.Contents (Elt F))
    (fhn : (slN t).view.ty.Contents (Elt F)) (R : sProp 𝕄) : Args (E.ctx t fhp fhc fhn R) where
  a0 := a0
  h0 := Memref.isWhole_whole _
  h1 := E.h1
  h2 := E.h2
  h3 := E.h3
  h4 := E.h4
  h5 := E.h5
  h6 := E.h6
  a7 := a7
  h7 := Memref.isWhole_whole _
  h8 := Memref.isWhole_whole _
  h9 := Memref.isWhole_whole _
  h10 := Memref.isWhole_whole _
  h11 := Memref.isWhole_whole _
  h12 := Memref.isWhole_whole _
  b0 := bP
  hb0 := Memref.isWhole_whole _
  v0 := cc0_scoped1
  b1 := bC
  hb1 := Memref.isWhole_whole _
  v1 := cc0_scoped3
  b2 := bN
  hb2 := Memref.isWhole_whole _
  v2 := cc0_scoped5
  b3 := bO
  hb3 := Memref.isWhole_whole _
  v3 := cc0_scoped7

/-- What tile `t` reads. -/
def Env.it (E : Env F) (t : ℕ) : In F where
  w1 := E.a1.view.read (Elt F) E.f1
  w2 := E.a2.view.read (Elt F) E.f2
  w3 := E.a3.view.read (Elt F) E.f3
  w4 := E.a4.view.read (Elt F) E.f4
  w5 := E.a5.view.read (Elt F) E.f5
  w6 := E.a6.view.read (Elt F) E.f6
  vp := (blP t).view.read (Elt F) E.fa
  vc := (blC t).view.read (Elt F) E.fa
  vn := (blN t).view.read (Elt F) E.fa
  ix := Scalar.addi (cJ t) 0#32

theorem Env.inp_eq (E : Env F) {t : ℕ} {fhp fhc fhn} {R : sProp 𝕄} (hp : (slP t).view.read (Elt F) fhp = (blP t).view.read (Elt F) E.fa)
    (hc : (slC t).view.read (Elt F) fhc = (blC t).view.read (Elt F) E.fa) (hn : (slN t).view.read (Elt F) fhn = (blN t).view.read (Elt F) E.fa) :
    (E.ctx t fhp fhc fhn R).inp = E.it t := by
  unfold Ctx.inp Env.it
  simp only [hp, hc, hn]

/-- The output after `k` tiles. -/
def Env.G (E : Env F) : ℕ → a7.view.ty.Contents (Elt F)
  | 0 => E.go
  | k + 1 => (blO k).view.write (Elt F) (Env.G E k) (outTile (E.it k)) Finset.univ

/-- Tile `t`'s block of the output. -/
def bSet (c : Dev nD) (t : ℕ) : Finset (Idx (a7.view.loc (c : Thread nD τ))) := (blO t).view.set

/-- What of the output is not on its way when `k` tiles have run. -/
def oSet (c : Dev nD) (k : ℕ) : Finset (Idx (a7.view.loc (c : Thread nD τ))) :=
  if k = 0 then Finset.univ else Finset.univ \ bSet c (k - 1)

/-- The output slots when `k` tiles have run: the last tile's is on its way, the other is free. -/
def Env.Out (E : Env F) (k : ℕ) : sProp 𝕄 :=
  iprop(OIdle E.c k ∗ (if 0 < k then OFly E.c (k - 1) (E.G k) else OIdle E.c (k + 1))
    ∗ (a7.view.loc (E.c : Thread nD τ) ↦[oSet E.c k]{fullShare} E.G k))

/-- Weights and scratch. -/
def Env.Buf (E : Env F) : sProp 𝕄 :=
  iprop((∃ f, ptw E.c s8 f) ∗ (∃ f, ptw E.c s9 f) ∗ (∃ f, ptw E.c s10 f) ∗ (∃ f, ptw E.c s11 f) ∗ (∃ f, ptw E.c s12 f)
    ∗ ptw E.c E.a1 E.f1 ∗ ptw E.c E.a2 E.f2 ∗ ptw E.c E.a3 E.f3 ∗ ptw E.c E.a4 E.f4 ∗ ptw E.c E.a5 E.f5 ∗ ptw E.c E.a6 E.f6)

/-- The loop's resources before trip `k`. -/
def Env.Inv (E : Env F) (k : ℕ) : sProp 𝕄 :=
  iprop((InP E.c E.fa k ∗ InC E.c E.fa k ∗ InN E.c E.fa k) ∗ (IdleP E.c E.fa (k + 1) ∗ IdleC E.c E.fa (k + 1) ∗ IdleN E.c E.fa (k + 1))
    ∗ E.Out k ∗ E.Buf ∗ (∃ w, owes (E.c : Thread nD τ) 0 w))

/-- The loop's ten counters before trip `k`. -/
def tup (k : ℕ) : BitVec 32 × BitVec 32 × BitVec 32 × BitVec 32 × BitVec 32 × BitVec 32 × BitVec 32 × BitVec 32 × BitVec 32 × BitVec 32 :=
  (cA k, cB k, cA k, cB k, cA k, cB k, cB k, cC k, cI k, cJ k)

end Cert.Proof.Ffn
end
-- ==== Proof.Tail.lean ====
module

public import proofs.«01_k».proof.Proof.State

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! # How a tile's result leaves -/

theorem bSet_disjoint (c : Dev nD) {t u : ℕ} (ht : t < 32) (hu : u < 32) (h : t ≠ u) : Disjoint (bSet c t) (bSet c u) := blO_disjoint ht hu h

theorem bSet_sub (c : Dev nD) {t : ℕ} (ht : t < 32) : bSet c t ⊆ oSet c t := by
  unfold oSet
  by_cases h : t = 0
  · rw [if_pos h]; exact Finset.subset_univ _
  · rw [if_neg h]
    intro i hi
    exact Finset.mem_sdiff.mpr ⟨Finset.mem_univ _, fun hj => Finset.disjoint_left.mp (bSet_disjoint c ht (by omega) (by omega)) hi hj⟩

variable (E : Env F)

/-- The output slot holds the tile once both halves are stored. -/
theorem Env.out_full {t : ℕ} {fhp fhc fhn} {R : sProp 𝕄} {M : Mem (E.ctx t fhp fhc fhn R)} {s : St} (hT : T (E.ctx t fhp fhc fhn R) s M)
    (hs : s.no = 2) (hp : (slP t).view.read (Elt F) fhp = (blP t).view.read (Elt F) E.fa)
    (hc : (slC t).view.read (Elt F) fhc = (blC t).view.read (Elt F) E.fa) (hn : (slN t).view.read (Elt F) fhn = (blN t).view.read (Elt F) E.fa) :
    (slO t).view.read (Elt F) M.fo = outTile (E.it t) := by
  have h := hT.o
  rw [hs, E.inp_eq hp hc hn] at h
  funext y
  refine h y ?_
  have h1 : (y 1 : ℕ) < 512 := (y 1).isLt
  omega

/-- The earlier tile's block is not touched by the later tile. -/
theorem Env.G_old (t : ℕ) (ht : t < 32) (h0 : 0 < t) : ∀ i ∈ bSet E.c (t - 1), E.G t i = E.G (t + 1) i := by
  intro i hi
  show E.G t i = (blO t).view.write (Elt F) (E.G t) (outTile (E.it t)) Finset.univ i
  exact (View.write_of_not_mem _ _ _ fun hj => Finset.disjoint_left.mp (bSet_disjoint E.c (t := t - 1) (u := t) (by omega) ht (by omega)) hi (by rw [View.setOn_univ] at hj; exact hj)).symm

theorem oSet_succ (c : Dev nD) (t : ℕ) (ht : t < 32) (h0 : 0 < t) : bSet c (t - 1) ∪ oSet c t \ bSet c t = oSet c (t + 1) := by
  unfold oSet
  rw [if_neg (by omega : ¬ t = 0), if_neg (by omega : ¬ t + 1 = 0), Nat.add_sub_cancel]
  have hd := Finset.disjoint_left.mp (bSet_disjoint c (t := t - 1) (u := t) (by omega) ht (by omega))
  ext i
  simp only [Finset.mem_union, Finset.mem_sdiff, Finset.mem_univ, true_and]
  constructor
  · rintro (h | ⟨_, h⟩)
    · exact hd h
    · exact h
  · intro h
    by_cases hi : i ∈ bSet c (t - 1)
    · exact Or.inl hi
    · exact Or.inr ⟨hi, h⟩

theorem Env.join (t : ℕ) (ht : t < 32) (h0 : 0 < t) :
    iprop((a7.view.loc (E.c : Thread nD τ) ↦[bSet E.c (t - 1)]{fullShare} E.G t)
      ∗ (a7.view.loc (E.c : Thread nD τ) ↦[oSet E.c t \ bSet E.c t]{fullShare} E.G (t + 1))) ⊢
    (a7.view.loc (E.c : Thread nD τ) ↦[oSet E.c (t + 1)]{fullShare} E.G (t + 1) : sProp 𝕄) := by
  rw [pointsTo_congr (E.G_old t ht h0), ← oSet_succ E.c t ht h0]
  refine (pointsTo_union ?_).2
  rw [Finset.disjoint_left]
  intro i hi hj
  unfold oSet at hj
  rw [if_neg (by omega : ¬ t = 0)] at hj
  exact (Finset.mem_sdiff.mp (Finset.mem_sdiff.mp hj).1).2 hi

/-- The wait for the tile before, if there is one. -/
theorem Env.drainO {α : Type} {Ψ : α → sProp 𝕄} (t : ℕ) (ht : t < 32) {P : Prop} [Decidable P] (hP : P ↔ 0 < t)
    {src' : P → Memref sig .tc .vmem S1x512x1024 .f32} {dst' : P → Memref sig .tc .hbm S1x512x1024 .f32} {sm' : P → DmaSem sig}
    {h1 : ∀ h, (src' h).view.WordExact} {h2 : ∀ h, (dst' h).view.WordExact}
    (ed : ∀ h, dst' h = blO (t - 1)) (em : ∀ h, sm' h = smO (t - 1)) {k : Prog (TpuEff nD τ sig (Elt F) Λ₀ .tc) α} :
    iprop((if 0 < t then OFly E.c (t - 1) (E.G t) else OIdle E.c (t + 1))
      ∗ (a7.view.loc (E.c : Thread nD τ) ↦[oSet E.c t \ bSet E.c t]{fullShare} E.G (t + 1)) ∗ (∃ w, owes (E.c : Thread nD τ) 0 w)) ⊢
      iprop((iprop(OIdle E.c (t + 1) ∗ (a7.view.loc (E.c : Thread nD τ) ↦[oSet E.c (t + 1)]{fullShare} E.G (t + 1)) ∗ (∃ w, owes (E.c : Thread nD τ) 0 w))
          -∗ W E.c k Ψ) -∗
      W E.c (if h : P then (Prog.lift (.waitDma2 (sm' h) (src' h) (dst' h) (h1 h) (h2 h)) >>= fun _ => k) else k) Ψ) := by
  by_cases h0 : 0 < t
  · rw [if_pos h0, ← OIdle_congr (c := E.c) (t := t - 1) (u := t + 1) (by omega)]
    iintro ⟨HF, Ha, HW⟩ Hk
    iapply (W_if_pos E.c (hP.mpr h0))
    iapply (wp_drain E.c (ed (hP.mpr h0)) (em (hP.mpr h0)) (k := fun _ => k)) $$ [HF HW]
    · isplitl [HF] <;> iassumption
    iintro ⟨HI, Hb⟩ HW
    iapply Hk
    isplitl [HI]; · iexact HI
    isplitl [Hb Ha]
    · iapply (E.join t ht h0) $$ [Hb Ha]
      isplitl [Hb]
      · iexact Hb
      · iexact Ha
    · iexact HW
  · rw [if_neg h0]
    have e : oSet E.c t \ bSet E.c t = oSet E.c (t + 1) := by
      unfold oSet
      rw [if_pos (by omega : t = 0), if_neg (by omega : ¬ t + 1 = 0), Nat.add_sub_cancel]
    rw [e]
    iintro H Hk
    iapply (W_if_neg E.c (fun h => h0 (hP.mp h)))
    iapply Hk
    iexact H

/-- The tile's result on its way, and what is left of the output. -/
theorem Env.putO {α : Type} {Ψ : α → sProp 𝕄} (t : ℕ) (ht : t < 32) {fd : (slO t).view.ty.Contents (Elt F)}
    (hfd : (slO t).view.read (Elt F) fd = outTile (E.it t))
    {P : Prop} [Decidable P] (hP : P) {B : ¬ P → Prog (TpuEff nD τ sig (Elt F) Λ₀ .tc) α}
    {src' : P → Memref sig .tc .vmem S1x512x1024 .f32} {dst' : P → Memref sig .tc .hbm S1x512x1024 .f32} {sm' : P → DmaSem sig} {h1 : ∀ h, (src' h).view.WordExact} {h2 : ∀ h, (dst' h).view.WordExact} {h3 : ∀ h, DmaTarget.Typed .vmem (.dma (sm' h)) (DmaTarget.here (nD := nD) (p := (.tc : Proc τ)) (dst' h))}
    (es : ∀ h, src' h = slO t) (ed : ∀ h, dst' h = blO t) (em : ∀ h, sm' h = smO t)
    {k : Prog (TpuEff nD τ sig (Elt F) Λ₀ .tc) α} :
    iprop(ptw E.c (slO t) fd ∗ semVal ((E.c : Thread nD τ), SemLoc.dma (smO t)) 0 ∗ (a7.view.loc (E.c : Thread nD τ) ↦[oSet E.c t]{fullShare} E.G t)) ⊢
      iprop((iprop(OFly E.c t (E.G (t + 1)) ∗ (a7.view.loc (E.c : Thread nD τ) ↦[oSet E.c t \ bSet E.c t]{fullShare} E.G (t + 1)))
          -∗ W E.c k Ψ) -∗
      W E.c (if h : P then (Prog.lift (.enqueueDma (src' h) (.here (dst' h)) (.dma (sm' h)) (h1 h) (h2 h) (h3 h)) >>= fun _ => k) else B h) Ψ) := by
  have h := wp_put (Ψ := Ψ) E.c (g := E.G t) (fd := fd) (bSet_sub E.c ht) hP (B := B) (h1 := h1) (h2 := h2) (h3 := h3) es ed em (k := k)
  rw [hfd] at h
  exact h

end Cert.Proof.Ffn
end
-- ==== Proof.Run430.lean ====
module

public import proofs.«01_k».proof.Proof.Args

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! Parts 5 to 60 of a tile: the extended tile is stored and the first blocks are projected. -/

set_option maxHeartbeats 4000000

theorem run430 (X : Ctx F) (A : Args X) (a17 a19 : BitVec 32) (hw3 : k0_chk3 a17) (hw4 : k0_chk4 a19) {p5 p3 p1 : Prop} (q5 : p5) (q3 : p3) (q1 : p1) (x105 x106 : BitVec 1) (x107 x108 x117 x118 x127 x128 x141 x144 x156 x168 x171 x174 x186 x195 x214 : BitVec 32)
    (ehc : (A.b1.slice (Rect.unit (s := S2x1x512x1024) (k0_off25 a17) S1x1x512x1024.size (k0_off25_inb a17 hw3)) (fun _ => rfl)).squeeze
        S1x512x1024 squeezes_S1x1x512x1024_S1x512x1024 = X.hc)
    (ehn : (A.b2.slice (Rect.unit (s := S2x1x16x1024) (k0_off26 a19) S1x1x16x1024.size (k0_off26_inb a19 hw4)) (fun _ => rfl)).squeeze
        S1x16x1024 squeezes_S1x1x16x1024_S1x16x1024 = X.hn)
    (v242 : FVec F S16x1024 .bf16) (h242 : v242 = k0_pay1 X.ix X.inp.vp)
    {Q : (Σ' (_ : p5) (_ : p3) (_ : p1) (x105 : BitVec 1) (x106 : BitVec 1) (x107 : BitVec 32) (x108 : BitVec 32) (x117 : BitVec 32) (x118 : BitVec 32) (x127 : BitVec 32) (x128 : BitVec 32) (x141 : BitVec 32) (x144 : BitVec 32) (x156 : BitVec 32) (x168 : BitVec 32) (x171 : BitVec 32) (x174 : BitVec 32) (x186 : BitVec 32) (x195 : BitVec 32) (x214 : BitVec 32) (v1545 : FVec F S32x128 .f32) (v1548 : FVec F S32x128 .f32) (v1551 : FVec F S32x128 .f32) (v1555 : FVec F S32x128 .f32) (v1560 : FVec F S32x128 .f32) (v1563 : FVec F S32x128 .f32) (v1566 : FVec F S32x128 .f32) (v1570 : FVec F S32x128 .f32) (v1575 : FVec F S32x128 .f32) (v1578 : FVec F S32x128 .f32) (v1581 : FVec F S32x128 .f32) (v1585 : FVec F S32x128 .f32) (v1590 : FVec F S32x128 .f32) (v1593 : FVec F S32x128 .f32) (v1596 : FVec F S32x128 .f32) (v1600 : FVec F S32x128 .f32) (v2091 : FVec F S32x128 .f32), FVec F S32x128 .f32) → sProp 𝕄} (hQ : ∀ M, T X ⟨3, 16, 22, 2, 0⟩ M → Pts X M ⊢ Q ⟨q5, q3, q1, x105, x106, x107, x108, x117, x118, x127, x128, x141, x144, x156, x168, x171, x174, x186, x195, x214, (tap0 X.inp 0 1 0), (tap1 X.inp 0 1 0), (tap2 X.inp 0 1 0), (tapb X.inp 0 1 0), (tap0 X.inp 0 1 1), (tap1 X.inp 0 1 1), (tap2 X.inp 0 1 1), (tapb X.inp 0 1 1), (tap0 X.inp 1 1 0), (tap1 X.inp 1 1 0), (tap2 X.inp 1 1 0), (tapb X.inp 1 1 0), (tap0 X.inp 1 1 1), (tap1 X.inp 1 1 1), (tap2 X.inp 1 1 1), (tapb X.inp 1 1 1), (k0_pay195 (tap1 X.inp 0 1 0) (tap2 X.inp 0 1 0) (tapb X.inp 0 1 0) (tap0 X.inp 1 1 0) (tap1 X.inp 1 1 0) (tap2 X.inp 1 1 0) (tapb X.inp 1 1 0) (k0_pay194 (tap0 X.inp 0 1 0) (upBlk X.inp 0 1 0 414)) (upBlk X.inp 0 1 0 416) (upBlk X.inp 0 1 0 418) (upBlk X.inp 1 1 0 414) (upBlk X.inp 1 1 0 416) (upBlk X.inp 1 1 0 418)), (k0_pay196 (tap0 X.inp 0 1 1) (upBlk X.inp 0 1 1 414))⟩) :
    H X ⟨0, 0, 0, 0, 0⟩ (do
        let ⟨v268, v269, v270⟩ : Σ' (v268 : FVec F S288x256 .f32) (v269 : FVec F S288x128 .f32), Vec F S1x1x288x128 .f32 ← k0_part5 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 a17 a19 hw4 hw3 X.ix v242
        let ⟨v293, v296, v299, v303⟩ : Σ' (v293 : FVec F S32x128 .f32) (v296 : FVec F S32x128 .f32) (v299 : FVec F S32x128 .f32), FVec F S32x128 .f32 ← k0_part6 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v268 v269 v270
        let ⟨v308, v311, v314, v318, v323, v326, v329, v333, v338, v341, v344, v348⟩ : Σ' (v308 : FVec F S32x128 .f32) (v311 : FVec F S32x128 .f32) (v314 : FVec F S32x128 .f32) (v318 : FVec F S32x128 .f32) (v323 : FVec F S32x128 .f32) (v326 : FVec F S32x128 .f32) (v329 : FVec F S32x128 .f32) (v333 : FVec F S32x128 .f32) (v338 : FVec F S32x128 .f32) (v341 : FVec F S32x128 .f32) (v344 : FVec F S32x128 .f32), FVec F S32x128 .f32 ← k0_part7 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3
        let v375 : FVec F S32x128 .f32 ← k0_part8 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v293
        let ⟨v405, v408⟩ : Σ' (v405 : FVec F S32x128 .f32), FVec F S32x128 .f32 ← k0_part9 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v296 v299 v303 v308 v323 v326 v329 v333 v375
        let v440 : FVec F S32x256 .bf16 ← k0_part10 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v311 v314 v318 v338 v341 v344 v348 v405 v408
        let ⟨v455, v467, v474⟩ : Σ' (v455 : FVec F S32x128 .f32) (v467 : FVec F S32x128 .f32), FVec F S32x128 .f32 ← k0_part11 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v293 v296 v299 v303 v323 v326 v329 v333 v440
        let ⟨v476, v488, v500, v507⟩ : Σ' (v476 : FVec F S32x128 .f32) (v488 : FVec F S32x128 .f32) (v500 : FVec F S32x128 .f32), FVec F S32x128 .f32 ← k0_part12 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v308 v311 v314 v318 v338 v341 v344 v348 v455 v467 v474
        let ⟨v526, v538, cst_408⟩ : Σ' (v526 : FVec F S32x128 .f32) (v538 : FVec F S32x128 .f32), F .f32 ← k0_part13 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v293 v296 v299 v303 v323 v326 v329 v333 v476 v488 v500 v507
        let ⟨v547, v559, v571, cst_435⟩ : Σ' (v547 : FVec F S32x128 .f32) (v559 : FVec F S32x128 .f32) (v571 : FVec F S32x128 .f32), F .f32 ← k0_part14 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v308 v311 v314 v318 v338 v341 v344 v348 v526 v538 cst_408
        let ⟨v597, v604⟩ : Σ' (v597 : FVec F S32x128 .f32), FVec F S32x128 .f32 ← k0_part15 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v293 v296 v299 v303 v323 v326 v547 v559 v571 cst_435
        let ⟨v618, v630, v637⟩ : Σ' (v618 : FVec F S32x128 .f32) (v630 : FVec F S32x128 .f32), FVec F S32x128 .f32 ← k0_part16 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v308 v311 v314 v318 v329 v333 v338 v341 v597 v604
        let ⟨v668, v671⟩ : Σ' (v668 : FVec F S32x128 .f32), FVec F S32x128 .f32 ← k0_part17 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v293 v296 v299 v303 v323 v344 v348 v618 v630 v637
        let ⟨v689, v701, v704⟩ : Σ' (v689 : FVec F S32x128 .f32) (v701 : FVec F S32x128 .f32), FVec F S32x128 .f32 ← k0_part18 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v308 v311 v314 v318 v326 v329 v333 v338 v668 v671
        let ⟨v734, v737⟩ : Σ' (v734 : FVec F S32x128 .f32), FVec F S32x128 .f32 ← k0_part19 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v293 v296 v299 v341 v344 v348 v689 v701 v704
        let ⟨v760, v767, v770⟩ : Σ' (v760 : FVec F S32x128 .f32) (v767 : FVec F S32x128 .f32), FVec F S32x128 .f32 ← k0_part20 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v303 v308 v311 v314 v323 v326 v329 v333 v734 v737
        let ⟨v801, v803⟩ : Σ' (v801 : FVec F S32x128 .f32), FVec F S32x128 .f32 ← k0_part21 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v293 v318 v338 v341 v344 v348 v760 v767 v770
        let ⟨v831, v834, v836⟩ : Σ' (v831 : FVec F S32x128 .f32) (v834 : FVec F S32x128 .f32), FVec F S32x128 .f32 ← k0_part22 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v296 v299 v303 v308 v323 v326 v329 v333 v801 v803
        k0_part23 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v311 v314 v318 v338 v341 v344 v348 v831 v834 v836
        let v902 : FVec F S32x128 .f32 ← k0_part24 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v293 v296 v299 v303 v323 v326 v329 v333
        let v937 : FVec F S32x256 .bf16 ← k0_part25 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v308 v311 v314 v318 v338 v341 v344 v348 v902
        k0_part26 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v937
        let v997 : FVec F S32x128 .f32 ← k0_part27 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v293 v296 v299 v303 v323 v326 v329 v333
        let v1031 : FVec F S32x256 .f32 ← k0_part28 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v308 v311 v314 v318 v338 v341 v344 v348 v997
        let ⟨v1047, v1059, v1062⟩ : Σ' (v1047 : FVec F S32x128 .f32) (v1059 : FVec F S32x128 .f32), FVec F S32x128 .f32 ← k0_part29 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v293 v296 v299 v303 v323 v326 v329 v333 v1031
        let ⟨v1068, v1080, v1092, v1095⟩ : Σ' (v1068 : FVec F S32x128 .f32) (v1080 : FVec F S32x128 .f32) (v1092 : FVec F S32x128 .f32), FVec F S32x128 .f32 ← k0_part30 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v308 v311 v314 v318 v338 v341 v344 v348 v1047 v1059 v1062
        let ⟨v1118, v1125⟩ : Σ' (v1118 : FVec F S32x128 .f32), FVec F S32x128 .f32 ← k0_part31 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v293 v296 v299 v303 v323 v326 v1068 v1080 v1092 v1095
        let ⟨v1139, v1151, v1158⟩ : Σ' (v1139 : FVec F S32x128 .f32) (v1151 : FVec F S32x128 .f32), FVec F S32x128 .f32 ← k0_part32 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v308 v311 v314 v318 v329 v333 v338 v341 v1118 v1125
        let ⟨v1189, v1192⟩ : Σ' (v1189 : FVec F S32x128 .f32), FVec F S32x128 .f32 ← k0_part33 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v293 v296 v299 v303 v323 v344 v348 v1139 v1151 v1158
        let ⟨v1210, v1222, v1225⟩ : Σ' (v1210 : FVec F S32x128 .f32) (v1222 : FVec F S32x128 .f32), FVec F S32x128 .f32 ← k0_part34 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v308 v311 v314 v318 v326 v329 v333 v338 v1189 v1192
        let v1259 : FVec F S32x128 .f32 ← k0_part35 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v293 v341 v344 v348 v1210 v1222 v1225
        let ⟨v1289, v1292⟩ : Σ' (v1289 : FVec F S32x128 .f32), FVec F S32x128 .f32 ← k0_part36 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v296 v299 v303 v308 v323 v326 v329 v333 v1259
        let v1327 : FVec F S1x32x256 .bf16 ← k0_part37 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v311 v314 v318 v338 v341 v344 v348 v1289 v1292
        let ⟨v1351, v1359⟩ : Σ' (v1351 : FVec F S32x128 .f32), FVec F S32x128 .f32 ← k0_part38 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v293 v296 v299 v303 v323 v326 v329 v333 v1327
        let ⟨v1360, v1384, v1392⟩ : Σ' (v1360 : FVec F S32x128 .f32) (v1384 : FVec F S32x128 .f32), FVec F S32x128 .f32 ← k0_part39 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v308 v311 v314 v318 v338 v341 v344 v348 v1351 v1359
        let ⟨v1410, v1422, v1423⟩ : Σ' (v1410 : FVec F S32x128 .f32) (v1422 : FVec F S32x128 .f32), FVec F S32x128 .f32 ← k0_part40 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v293 v296 v299 v303 v323 v326 v329 v333 v1360 v1384 v1392
        let ⟨v1431, v1443, v1455, v1456⟩ : Σ' (v1431 : FVec F S32x128 .f32) (v1443 : FVec F S32x128 .f32) (v1455 : FVec F S32x128 .f32), FVec F S32x128 .f32 ← k0_part41 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v308 v311 v314 v318 v338 v341 v344 v348 v1410 v1422 v1423
        let ⟨v1481, v1488⟩ : Σ' (v1481 : FVec F S32x128 .f32), FVec F S32x128 .f32 ← k0_part42 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v293 v296 v299 v303 v323 v326 v1431 v1443 v1455 v1456
        let ⟨v1502, v1514, v1521⟩ : Σ' (v1502 : FVec F S32x128 .f32) (v1514 : FVec F S32x128 .f32), FVec F S32x128 .f32 ← k0_part43 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v308 v311 v314 v318 v329 v333 v338 v341 v1481 v1488
        let ⟨v1545, v1548, v1551, v1555, v1560, v1563, v1564⟩ : Σ' (v1545 : FVec F S32x128 .f32) (v1548 : FVec F S32x128 .f32) (v1551 : FVec F S32x128 .f32) (v1555 : FVec F S32x128 .f32) (v1560 : FVec F S32x128 .f32) (v1563 : FVec F S32x128 .f32), FVec F S1x128 .f32 ← k0_part44 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v344 v348 v1502 v1514 v1521
        let ⟨v1566, v1570, v1575, v1578, v1581, v1585, v1590, v1593, v1596, v1600, v1604, v1605⟩ : Σ' (v1566 : FVec F S32x128 .f32) (v1570 : FVec F S32x128 .f32) (v1575 : FVec F S32x128 .f32) (v1578 : FVec F S32x128 .f32) (v1581 : FVec F S32x128 .f32) (v1585 : FVec F S32x128 .f32) (v1590 : FVec F S32x128 .f32) (v1593 : FVec F S32x128 .f32) (v1596 : FVec F S32x128 .f32) (v1600 : FVec F S32x128 .f32) (v1604 : FVec F S256x256 .f32), FVec F S256x128 .f32 ← k0_part45 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v1564
        let v1631 : FVec F S32x128 .f32 ← k0_part46 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v1545 v1548 v1604 v1605
        let ⟨v1657, v1664⟩ : Σ' (v1657 : FVec F S32x128 .f32), FVec F S32x128 .f32 ← k0_part47 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v1551 v1555 v1560 v1563 v1575 v1578 v1581 v1585 v1631
        let v1698 : FVec F S32x128 .f32 ← k0_part48 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v1545 v1566 v1570 v1590 v1593 v1596 v1600 v1657 v1664
        let ⟨v1728, v1731⟩ : Σ' (v1728 : FVec F S32x128 .f32), FVec F S32x128 .f32 ← k0_part49 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v1548 v1551 v1555 v1560 v1575 v1578 v1581 v1585 v1698
        k0_part50 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v1563 v1566 v1570 v1590 v1593 v1596 v1600 v1728 v1731
        let v1799 : FVec F S32x128 .f32 ← k0_part51 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v1545 v1548 v1551 v1555 v1575 v1578 v1581 v1585
        let v1832 : FVec F S32x128 .f32 ← k0_part52 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v1560 v1563 v1566 v1570 v1590 v1593 v1596 v1600
        let ⟨v1849, v1861, v1863⟩ : Σ' (v1849 : FVec F S32x128 .f32) (v1861 : FVec F S32x128 .f32), FVec F S32x128 .f32 ← k0_part53 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v1545 v1548 v1551 v1555 v1575 v1578 v1581 v1585 v1799 v1832
        let ⟨v1870, v1882, v1894, v1896⟩ : Σ' (v1870 : FVec F S32x128 .f32) (v1882 : FVec F S32x128 .f32) (v1894 : FVec F S32x128 .f32), FVec F S32x128 .f32 ← k0_part54 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v1560 v1563 v1566 v1570 v1590 v1593 v1596 v1600 v1849 v1861 v1863
        let v1928 : FVec F S32x128 .f32 ← k0_part55 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v1545 v1548 v1551 v1555 v1870 v1882 v1894 v1896
        let ⟨v1949, v1961⟩ : Σ' (v1949 : FVec F S32x128 .f32), FVec F S32x128 .f32 ← k0_part56 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v1560 v1563 v1566 v1570 v1575 v1578 v1581 v1585 v1928
        let v1994 : FVec F S32x128 .f32 ← k0_part57 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v1545 v1548 v1590 v1593 v1596 v1600 v1949 v1961
        let ⟨v2020, v2027⟩ : Σ' (v2020 : FVec F S32x128 .f32), FVec F S32x128 .f32 ← k0_part58 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v1551 v1555 v1560 v1563 v1575 v1578 v1581 v1585 v1994
        let v2061 : FVec F S32x128 .f32 ← k0_part59 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v1545 v1566 v1570 v1590 v1593 v1596 v1600 v2020 v2027
        let ⟨v2091, v2094⟩ : Σ' (v2091 : FVec F S32x128 .f32), FVec F S32x128 .f32 ← k0_part60 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 v1548 v1551 v1555 v1560 v1575 v1578 v1581 v1585 v2061
        pure ⟨q5, q3, q1, x105, x106, x107, x108, x117, x118, x127, x128, x141, x144, x156, x168, x171, x174, x186, x195, x214, v1545, v1548, v1551, v1555, v1560, v1563, v1566, v1570, v1575, v1578, v1581, v1585, v1590, v1593, v1596, v1600, v2091, v2094⟩ : Prog (EE F) (Σ' (_ : p5) (_ : p3) (_ : p1) (x105 : BitVec 1) (x106 : BitVec 1) (x107 : BitVec 32) (x108 : BitVec 32) (x117 : BitVec 32) (x118 : BitVec 32) (x127 : BitVec 32) (x128 : BitVec 32) (x141 : BitVec 32) (x144 : BitVec 32) (x156 : BitVec 32) (x168 : BitVec 32) (x171 : BitVec 32) (x174 : BitVec 32) (x186 : BitVec 32) (x195 : BitVec 32) (x214 : BitVec 32) (v1545 : FVec F S32x128 .f32) (v1548 : FVec F S32x128 .f32) (v1551 : FVec F S32x128 .f32) (v1555 : FVec F S32x128 .f32) (v1560 : FVec F S32x128 .f32) (v1563 : FVec F S32x128 .f32) (v1566 : FVec F S32x128 .f32) (v1570 : FVec F S32x128 .f32) (v1575 : FVec F S32x128 .f32) (v1578 : FVec F S32x128 .f32) (v1581 : FVec F S32x128 .f32) (v1585 : FVec F S32x128 .f32) (v1590 : FVec F S32x128 .f32) (v1593 : FVec F S32x128 .f32) (v1596 : FVec F S32x128 .f32) (v1600 : FVec F S32x128 .f32) (v2091 : FVec F S32x128 .f32), FVec F S32x128 .f32)) Q := by
    subst h242
    repeat first
      | (with_reducible refine H.ld9 ?_ ?_); rfl
      | (with_reducible refine H.ld10 ?_ ?_); rfl
      | with_reducible refine H.any9 fun _ => ?_
      | with_reducible refine H.any10 fun _ => ?_
      | (with_reducible refine H.st11 ?_ ?_ ?_); rfl; rfl
      | (with_reducible refine H.ld11 ?_ ?_); rfl
      | with_reducible refine H.any11 fun _ => ?_
      | (with_reducible refine H.ld12 ?_ ?_); rfl
      | with_reducible refine H.any12 fun _ => ?_
      | with_reducible refine H.ld1 ?_
      | with_reducible refine H.ld2 ?_
      | with_reducible refine H.ld3 ?_
      | with_reducible refine H.ld4 ?_
      | with_reducible refine H.ld8a ?_
      | with_reducible refine H.ld8b ?_
      | (with_reducible refine H.st9a ?_ ?_ ?_); rfl; rfl
      | (with_reducible refine H.st9b ?_ ?_ ?_); rfl; rfl
      | (with_reducible refine H.st10a ?_ ?_ ?_); rfl; rfl
      | (with_reducible refine H.st10b ?_ ?_ ?_); rfl; rfl
      | (with_reducible refine H.st12 ?_ ?_ ?_); rfl; rfl
      | with_reducible refine H.pure_wp ?_
      | with_reducible refine H.tail ?_
      | with_reducible refine H.ldhcE ehc ?_
      | with_reducible refine H.ldhnE ehn ?_
      | with_reducible refine H.any8 fun _ => ?_
      | (with_reducible refine H.st8a ?_ ?_); rfl
      | (with_reducible refine H.st8b ?_ ?_); rfl
      | (with_reducible refine H.st8c ?_ ?_); rfl
      | (refine H.bind ?_; rw [k0_part5_eq_skeleton]; unfold k0_part5_skel )
      | (refine H.bind ?_; rw [k0_part6_eq_skeleton]; unfold k0_part6_skel)
      | (refine H.bind ?_; rw [k0_part7_eq_skeleton]; unfold k0_part7_skel)
      | (refine H.bind ?_; rw [k0_part8_eq_skeleton]; unfold k0_part8_skel)
      | (refine H.bind ?_; rw [k0_part9_eq_skeleton]; unfold k0_part9_skel)
      | (refine H.bind ?_; rw [k0_part10_eq_skeleton]; unfold k0_part10_skel)
      | (refine H.bind ?_; rw [k0_part11_eq_skeleton]; unfold k0_part11_skel)
      | (refine H.bind ?_; rw [k0_part12_eq_skeleton]; unfold k0_part12_skel)
      | (refine H.bind ?_; rw [k0_part13_eq_skeleton]; unfold k0_part13_skel)
      | (refine H.bind ?_; rw [k0_part14_eq_skeleton]; unfold k0_part14_skel)
      | (refine H.bind ?_; rw [k0_part15_eq_skeleton]; unfold k0_part15_skel)
      | (refine H.bind ?_; rw [k0_part16_eq_skeleton]; unfold k0_part16_skel)
      | (refine H.bind ?_; rw [k0_part17_eq_skeleton]; unfold k0_part17_skel)
      | (refine H.bind ?_; rw [k0_part18_eq_skeleton]; unfold k0_part18_skel)
      | (refine H.bind ?_; rw [k0_part19_eq_skeleton]; unfold k0_part19_skel)
      | (refine H.bind ?_; rw [k0_part20_eq_skeleton]; unfold k0_part20_skel)
      | (refine H.bind ?_; rw [k0_part21_eq_skeleton]; unfold k0_part21_skel)
      | (refine H.bind ?_; rw [k0_part22_eq_skeleton]; unfold k0_part22_skel)
      | (refine H.bind ?_; rw [k0_part23_eq_skeleton]; unfold k0_part23_skel)
      | (refine H.bind ?_; rw [k0_part24_eq_skeleton]; unfold k0_part24_skel)
      | (refine H.bind ?_; rw [k0_part25_eq_skeleton]; unfold k0_part25_skel)
      | (refine H.bind ?_; rw [k0_part26_eq_skeleton]; unfold k0_part26_skel)
      | (refine H.bind ?_; rw [k0_part27_eq_skeleton]; unfold k0_part27_skel)
      | (refine H.bind ?_; rw [k0_part28_eq_skeleton]; unfold k0_part28_skel)
      | (refine H.bind ?_; rw [k0_part29_eq_skeleton]; unfold k0_part29_skel)
      | (refine H.bind ?_; rw [k0_part30_eq_skeleton]; unfold k0_part30_skel)
      | (refine H.bind ?_; rw [k0_part31_eq_skeleton]; unfold k0_part31_skel)
      | (refine H.bind ?_; rw [k0_part32_eq_skeleton]; unfold k0_part32_skel)
      | (refine H.bind ?_; rw [k0_part33_eq_skeleton]; unfold k0_part33_skel)
      | (refine H.bind ?_; rw [k0_part34_eq_skeleton]; unfold k0_part34_skel)
      | (refine H.bind ?_; rw [k0_part35_eq_skeleton]; unfold k0_part35_skel)
      | (refine H.bind ?_; rw [k0_part36_eq_skeleton]; unfold k0_part36_skel)
      | (refine H.bind ?_; rw [k0_part37_eq_skeleton]; unfold k0_part37_skel)
      | (refine H.bind ?_; rw [k0_part38_eq_skeleton]; unfold k0_part38_skel)
      | (refine H.bind ?_; rw [k0_part39_eq_skeleton]; unfold k0_part39_skel)
      | (refine H.bind ?_; rw [k0_part40_eq_skeleton]; unfold k0_part40_skel)
      | (refine H.bind ?_; rw [k0_part41_eq_skeleton]; unfold k0_part41_skel)
      | (refine H.bind ?_; rw [k0_part42_eq_skeleton]; unfold k0_part42_skel)
      | (refine H.bind ?_; rw [k0_part43_eq_skeleton]; unfold k0_part43_skel)
      | (refine H.bind ?_; rw [k0_part44_eq_skeleton]; unfold k0_part44_skel)
      | (refine H.bind ?_; rw [k0_part45_eq_skeleton]; unfold k0_part45_skel)
      | (refine H.bind ?_; rw [k0_part46_eq_skeleton]; unfold k0_part46_skel)
      | (refine H.bind ?_; rw [k0_part47_eq_skeleton]; unfold k0_part47_skel)
      | (refine H.bind ?_; rw [k0_part48_eq_skeleton]; unfold k0_part48_skel)
      | (refine H.bind ?_; rw [k0_part49_eq_skeleton]; unfold k0_part49_skel)
      | (refine H.bind ?_; rw [k0_part50_eq_skeleton]; unfold k0_part50_skel)
      | (refine H.bind ?_; rw [k0_part51_eq_skeleton]; unfold k0_part51_skel)
      | (refine H.bind ?_; rw [k0_part52_eq_skeleton]; unfold k0_part52_skel)
      | (refine H.bind ?_; rw [k0_part53_eq_skeleton]; unfold k0_part53_skel)
      | (refine H.bind ?_; rw [k0_part54_eq_skeleton]; unfold k0_part54_skel)
      | (refine H.bind ?_; rw [k0_part55_eq_skeleton]; unfold k0_part55_skel)
      | (refine H.bind ?_; rw [k0_part56_eq_skeleton]; unfold k0_part56_skel)
      | (refine H.bind ?_; rw [k0_part57_eq_skeleton]; unfold k0_part57_skel)
      | (refine H.bind ?_; rw [k0_part58_eq_skeleton]; unfold k0_part58_skel)
      | (refine H.bind ?_; rw [k0_part59_eq_skeleton]; unfold k0_part59_skel)
      | (refine H.bind ?_; rw [k0_part60_eq_skeleton]; unfold k0_part60_skel)
    exact H.pure hQ

end Cert.Proof.Ffn
end
-- ==== Proof.Run431.lean ====
module

public import proofs.«01_k».proof.Proof.Args

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! Parts 61 to 120 of a tile. -/

set_option maxHeartbeats 4000000

theorem run431 (X : Ctx F) (A : Args X) {Q : _ → sProp 𝕄}
    (hQ : ∀ M, T X ⟨3, 28, 48, 5, 0⟩ M → Pts X M ⊢ Q ⟨(k0_pay393 (blk3 X.inp.w2 1 3 128 0 0 768)), (k0_pay394 (blk3 X.inp.w2 1 3 128 0 0 768))⟩) :
    H X ⟨3, 16, 22, 2, 0⟩ (k0_part431 (F := F) A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 (tap0 X.inp 0 1 0) (tap1 X.inp 0 1 0) (tap2 X.inp 0 1 0) (tapb X.inp 0 1 0) (tap0 X.inp 0 1 1) (tap1 X.inp 0 1 1) (tap2 X.inp 0 1 1) (tapb X.inp 0 1 1) (tap0 X.inp 1 1 0) (tap1 X.inp 1 1 0) (tap2 X.inp 1 1 0) (tapb X.inp 1 1 0) (tap0 X.inp 1 1 1) (tap1 X.inp 1 1 1) (tap2 X.inp 1 1 1) (tapb X.inp 1 1 1) (k0_pay195 (tap1 X.inp 0 1 0) (tap2 X.inp 0 1 0) (tapb X.inp 0 1 0) (tap0 X.inp 1 1 0) (tap1 X.inp 1 1 0) (tap2 X.inp 1 1 0) (tapb X.inp 1 1 0) (k0_pay194 (tap0 X.inp 0 1 0) (upBlk X.inp 0 1 0 414)) (upBlk X.inp 0 1 0 416) (upBlk X.inp 0 1 0 418) (upBlk X.inp 1 1 0 414) (upBlk X.inp 1 1 0 416) (upBlk X.inp 1 1 0 418)) (k0_pay196 (tap0 X.inp 0 1 1) (upBlk X.inp 0 1 1 414))) Q := by
    rw [k0_part431_eq_skeleton]
    unfold k0_part431_skel
    repeat first
      | (with_reducible refine H.ld9 ?_ ?_); rfl
      | (with_reducible refine H.ld10 ?_ ?_); rfl
      | with_reducible refine H.any9 fun _ => ?_
      | with_reducible refine H.any10 fun _ => ?_
      | (with_reducible refine H.st11 ?_ ?_ ?_); rfl; rfl
      | (with_reducible refine H.ld11 ?_ ?_); rfl
      | with_reducible refine H.any11 fun _ => ?_
      | (with_reducible refine H.ld12 ?_ ?_); rfl
      | with_reducible refine H.any12 fun _ => ?_
      | with_reducible refine H.ld1 ?_
      | with_reducible refine H.ld2 ?_
      | with_reducible refine H.ld3 ?_
      | with_reducible refine H.ld4 ?_
      | with_reducible refine H.ld8a ?_
      | with_reducible refine H.ld8b ?_
      | (with_reducible refine H.st9a ?_ ?_ ?_); rfl; rfl
      | (with_reducible refine H.st9b ?_ ?_ ?_); rfl; rfl
      | (with_reducible refine H.st10a ?_ ?_ ?_); rfl; rfl
      | (with_reducible refine H.st10b ?_ ?_ ?_); rfl; rfl
      | (with_reducible refine H.st12 ?_ ?_ ?_); rfl; rfl
      | with_reducible refine H.pure_wp ?_
      | with_reducible refine H.tail ?_
      | (refine H.bind ?_; rw [k0_part61_eq_skeleton]; unfold k0_part61_skel)
      | (refine H.bind ?_; rw [k0_part62_eq_skeleton]; unfold k0_part62_skel)
      | (refine H.bind ?_; rw [k0_part63_eq_skeleton]; unfold k0_part63_skel)
      | (refine H.bind ?_; rw [k0_part64_eq_skeleton]; unfold k0_part64_skel)
      | (refine H.bind ?_; rw [k0_part65_eq_skeleton]; unfold k0_part65_skel)
      | (refine H.bind ?_; rw [k0_part66_eq_skeleton]; unfold k0_part66_skel)
      | (refine H.bind ?_; rw [k0_part67_eq_skeleton]; unfold k0_part67_skel)
      | (refine H.bind ?_; rw [k0_part68_eq_skeleton]; unfold k0_part68_skel)
      | (refine H.bind ?_; rw [k0_part69_eq_skeleton]; unfold k0_part69_skel)
      | (refine H.bind ?_; rw [k0_part70_eq_skeleton]; unfold k0_part70_skel)
      | (refine H.bind ?_; rw [k0_part71_eq_skeleton]; unfold k0_part71_skel)
      | (refine H.bind ?_; rw [k0_part72_eq_skeleton]; unfold k0_part72_skel)
      | (refine H.bind ?_; rw [k0_part73_eq_skeleton]; unfold k0_part73_skel)
      | (refine H.bind ?_; rw [k0_part74_eq_skeleton]; unfold k0_part74_skel)
      | (refine H.bind ?_; rw [k0_part75_eq_skeleton]; unfold k0_part75_skel)
      | (refine H.bind ?_; rw [k0_part76_eq_skeleton]; unfold k0_part76_skel)
      | (refine H.bind ?_; rw [k0_part77_eq_skeleton]; unfold k0_part77_skel)
      | (refine H.bind ?_; rw [k0_part78_eq_skeleton]; unfold k0_part78_skel)
      | (refine H.bind ?_; rw [k0_part79_eq_skeleton]; unfold k0_part79_skel)
      | (refine H.bind ?_; rw [k0_part80_eq_skeleton]; unfold k0_part80_skel)
      | (refine H.bind ?_; rw [k0_part81_eq_skeleton]; unfold k0_part81_skel)
      | (refine H.bind ?_; rw [k0_part82_eq_skeleton]; unfold k0_part82_skel)
      | (refine H.bind ?_; rw [k0_part83_eq_skeleton]; unfold k0_part83_skel)
      | (refine H.bind ?_; rw [k0_part84_eq_skeleton]; unfold k0_part84_skel)
      | (refine H.bind ?_; rw [k0_part85_eq_skeleton]; unfold k0_part85_skel)
      | (refine H.bind ?_; rw [k0_part86_eq_skeleton]; unfold k0_part86_skel)
      | (refine H.bind ?_; rw [k0_part87_eq_skeleton]; unfold k0_part87_skel)
      | (refine H.bind ?_; rw [k0_part88_eq_skeleton]; unfold k0_part88_skel)
      | (refine H.bind ?_; rw [k0_part89_eq_skeleton]; unfold k0_part89_skel)
      | (refine H.bind ?_; rw [k0_part90_eq_skeleton]; unfold k0_part90_skel)
      | (refine H.bind ?_; rw [k0_part91_eq_skeleton]; unfold k0_part91_skel)
      | (refine H.bind ?_; rw [k0_part92_eq_skeleton]; unfold k0_part92_skel)
      | (refine H.bind ?_; rw [k0_part93_eq_skeleton]; unfold k0_part93_skel)
      | (refine H.bind ?_; rw [k0_part94_eq_skeleton]; unfold k0_part94_skel)
      | (refine H.bind ?_; rw [k0_part95_eq_skeleton]; unfold k0_part95_skel)
      | (refine H.bind ?_; rw [k0_part96_eq_skeleton]; unfold k0_part96_skel)
      | (refine H.bind ?_; rw [k0_part97_eq_skeleton]; unfold k0_part97_skel)
      | (refine H.bind ?_; rw [k0_part98_eq_skeleton]; unfold k0_part98_skel)
      | (refine H.bind ?_; rw [k0_part99_eq_skeleton]; unfold k0_part99_skel)
      | (refine H.bind ?_; rw [k0_part100_eq_skeleton]; unfold k0_part100_skel)
      | (refine H.bind ?_; rw [k0_part101_eq_skeleton]; unfold k0_part101_skel)
      | (refine H.bind ?_; rw [k0_part102_eq_skeleton]; unfold k0_part102_skel)
      | (refine H.bind ?_; rw [k0_part103_eq_skeleton]; unfold k0_part103_skel)
      | (refine H.bind ?_; rw [k0_part104_eq_skeleton]; unfold k0_part104_skel)
      | (refine H.bind ?_; rw [k0_part105_eq_skeleton]; unfold k0_part105_skel)
      | (refine H.bind ?_; rw [k0_part106_eq_skeleton]; unfold k0_part106_skel)
      | (refine H.bind ?_; rw [k0_part107_eq_skeleton]; unfold k0_part107_skel)
      | (refine H.bind ?_; rw [k0_part108_eq_skeleton]; unfold k0_part108_skel)
      | (refine H.bind ?_; rw [k0_part109_eq_skeleton]; unfold k0_part109_skel)
      | (refine H.bind ?_; rw [k0_part110_eq_skeleton]; unfold k0_part110_skel)
      | (refine H.bind ?_; rw [k0_part111_eq_skeleton]; unfold k0_part111_skel)
      | (refine H.bind ?_; rw [k0_part112_eq_skeleton]; unfold k0_part112_skel)
      | (refine H.bind ?_; rw [k0_part113_eq_skeleton]; unfold k0_part113_skel)
      | (refine H.bind ?_; rw [k0_part114_eq_skeleton]; unfold k0_part114_skel)
      | (refine H.bind ?_; rw [k0_part115_eq_skeleton]; unfold k0_part115_skel)
      | (refine H.bind ?_; rw [k0_part116_eq_skeleton]; unfold k0_part116_skel)
      | (refine H.bind ?_; rw [k0_part117_eq_skeleton]; unfold k0_part117_skel)
      | (refine H.bind ?_; rw [k0_part118_eq_skeleton]; unfold k0_part118_skel)
      | (refine H.bind ?_; rw [k0_part119_eq_skeleton]; unfold k0_part119_skel)
      | (refine H.bind ?_; rw [k0_part120_eq_skeleton]; unfold k0_part120_skel)
    exact H.pure hQ

end Cert.Proof.Ffn
end
-- ==== Proof.Run432.lean ====
module

public import proofs.«01_k».proof.Proof.Args

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! Parts 121 to 180 of a tile. -/

set_option maxHeartbeats 4000000

theorem run432 (X : Ctx F) (A : Args X) {Q : _ → sProp 𝕄}
    (hQ : ∀ M, T X ⟨3, 44, 72, 8, 0⟩ M → Pts X M ⊢ Q ⟨(tap0 X.inp 0 4 0), (tap1 X.inp 0 4 0), (tap2 X.inp 0 4 0), (tapb X.inp 0 4 0), (tap0 X.inp 0 4 1), (tap1 X.inp 0 4 1), (tap2 X.inp 0 4 1), (tapb X.inp 0 4 1), (tap0 X.inp 1 4 0), (tap1 X.inp 1 4 0), (tap2 X.inp 1 4 0), (tapb X.inp 1 4 0), (tap0 X.inp 1 4 1), (tap1 X.inp 1 4 1), (tap2 X.inp 1 4 1), (tapb X.inp 1 4 1), (k0_pay601 (tap1 X.inp 0 4 0) (tap2 X.inp 0 4 0) (tapb X.inp 0 4 0) (tap0 X.inp 1 4 0) (tap1 X.inp 1 4 0) (tap2 X.inp 1 4 0) (tapb X.inp 1 4 0) (k0_pay599 (tap0 X.inp 0 4 0) (upBlk X.inp 0 4 0 542)) (k0_pay600 (upBlk X.inp 0 4 0 544)) (upBlk X.inp 0 4 0 546) (upBlk X.inp 1 4 0 542) (upBlk X.inp 1 4 0 544) (upBlk X.inp 1 4 0 546)), (k0_pay602 (tap0 X.inp 0 4 1) (upBlk X.inp 0 4 1 542)), (k0_pay603 (upBlk X.inp 0 4 1 544))⟩) :
    H X ⟨3, 28, 48, 5, 0⟩ (k0_part432 (F := F) A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 (k0_pay393 (blk3 X.inp.w2 1 3 128 0 0 768)) (k0_pay394 (blk3 X.inp.w2 1 3 128 0 0 768))) Q := by
    rw [k0_part432_eq_skeleton]
    unfold k0_part432_skel
    repeat first
      | (with_reducible refine H.ld9 ?_ ?_); rfl
      | (with_reducible refine H.ld10 ?_ ?_); rfl
      | with_reducible refine H.any9 fun _ => ?_
      | with_reducible refine H.any10 fun _ => ?_
      | (with_reducible refine H.st11 ?_ ?_ ?_); rfl; rfl
      | (with_reducible refine H.ld11 ?_ ?_); rfl
      | with_reducible refine H.any11 fun _ => ?_
      | (with_reducible refine H.ld12 ?_ ?_); rfl
      | with_reducible refine H.any12 fun _ => ?_
      | with_reducible refine H.ld1 ?_
      | with_reducible refine H.ld2 ?_
      | with_reducible refine H.ld3 ?_
      | with_reducible refine H.ld4 ?_
      | with_reducible refine H.ld8a ?_
      | with_reducible refine H.ld8b ?_
      | (with_reducible refine H.st9a ?_ ?_ ?_); rfl; rfl
      | (with_reducible refine H.st9b ?_ ?_ ?_); rfl; rfl
      | (with_reducible refine H.st10a ?_ ?_ ?_); rfl; rfl
      | (with_reducible refine H.st10b ?_ ?_ ?_); rfl; rfl
      | (with_reducible refine H.st12 ?_ ?_ ?_); rfl; rfl
      | with_reducible refine H.pure_wp ?_
      | with_reducible refine H.tail ?_
      | (refine H.bind ?_; rw [k0_part121_eq_skeleton]; unfold k0_part121_skel)
      | (refine H.bind ?_; rw [k0_part122_eq_skeleton]; unfold k0_part122_skel)
      | (refine H.bind ?_; rw [k0_part123_eq_skeleton]; unfold k0_part123_skel)
      | (refine H.bind ?_; rw [k0_part124_eq_skeleton]; unfold k0_part124_skel)
      | (refine H.bind ?_; rw [k0_part125_eq_skeleton]; unfold k0_part125_skel)
      | (refine H.bind ?_; rw [k0_part126_eq_skeleton]; unfold k0_part126_skel)
      | (refine H.bind ?_; rw [k0_part127_eq_skeleton]; unfold k0_part127_skel)
      | (refine H.bind ?_; rw [k0_part128_eq_skeleton]; unfold k0_part128_skel)
      | (refine H.bind ?_; rw [k0_part129_eq_skeleton]; unfold k0_part129_skel)
      | (refine H.bind ?_; rw [k0_part130_eq_skeleton]; unfold k0_part130_skel)
      | (refine H.bind ?_; rw [k0_part131_eq_skeleton]; unfold k0_part131_skel)
      | (refine H.bind ?_; rw [k0_part132_eq_skeleton]; unfold k0_part132_skel)
      | (refine H.bind ?_; rw [k0_part133_eq_skeleton]; unfold k0_part133_skel)
      | (refine H.bind ?_; rw [k0_part134_eq_skeleton]; unfold k0_part134_skel)
      | (refine H.bind ?_; rw [k0_part135_eq_skeleton]; unfold k0_part135_skel)
      | (refine H.bind ?_; rw [k0_part136_eq_skeleton]; unfold k0_part136_skel)
      | (refine H.bind ?_; rw [k0_part137_eq_skeleton]; unfold k0_part137_skel)
      | (refine H.bind ?_; rw [k0_part138_eq_skeleton]; unfold k0_part138_skel)
      | (refine H.bind ?_; rw [k0_part139_eq_skeleton]; unfold k0_part139_skel)
      | (refine H.bind ?_; rw [k0_part140_eq_skeleton]; unfold k0_part140_skel)
      | (refine H.bind ?_; rw [k0_part141_eq_skeleton]; unfold k0_part141_skel)
      | (refine H.bind ?_; rw [k0_part142_eq_skeleton]; unfold k0_part142_skel)
      | (refine H.bind ?_; rw [k0_part143_eq_skeleton]; unfold k0_part143_skel)
      | (refine H.bind ?_; rw [k0_part144_eq_skeleton]; unfold k0_part144_skel)
      | (refine H.bind ?_; rw [k0_part145_eq_skeleton]; unfold k0_part145_skel)
      | (refine H.bind ?_; rw [k0_part146_eq_skeleton]; unfold k0_part146_skel)
      | (refine H.bind ?_; rw [k0_part147_eq_skeleton]; unfold k0_part147_skel)
      | (refine H.bind ?_; rw [k0_part148_eq_skeleton]; unfold k0_part148_skel)
      | (refine H.bind ?_; rw [k0_part149_eq_skeleton]; unfold k0_part149_skel)
      | (refine H.bind ?_; rw [k0_part150_eq_skeleton]; unfold k0_part150_skel)
      | (refine H.bind ?_; rw [k0_part151_eq_skeleton]; unfold k0_part151_skel)
      | (refine H.bind ?_; rw [k0_part152_eq_skeleton]; unfold k0_part152_skel)
      | (refine H.bind ?_; rw [k0_part153_eq_skeleton]; unfold k0_part153_skel)
      | (refine H.bind ?_; rw [k0_part154_eq_skeleton]; unfold k0_part154_skel)
      | (refine H.bind ?_; rw [k0_part155_eq_skeleton]; unfold k0_part155_skel)
      | (refine H.bind ?_; rw [k0_part156_eq_skeleton]; unfold k0_part156_skel)
      | (refine H.bind ?_; rw [k0_part157_eq_skeleton]; unfold k0_part157_skel)
      | (refine H.bind ?_; rw [k0_part158_eq_skeleton]; unfold k0_part158_skel)
      | (refine H.bind ?_; rw [k0_part159_eq_skeleton]; unfold k0_part159_skel)
      | (refine H.bind ?_; rw [k0_part160_eq_skeleton]; unfold k0_part160_skel)
      | (refine H.bind ?_; rw [k0_part161_eq_skeleton]; unfold k0_part161_skel)
      | (refine H.bind ?_; rw [k0_part162_eq_skeleton]; unfold k0_part162_skel)
      | (refine H.bind ?_; rw [k0_part163_eq_skeleton]; unfold k0_part163_skel)
      | (refine H.bind ?_; rw [k0_part164_eq_skeleton]; unfold k0_part164_skel)
      | (refine H.bind ?_; rw [k0_part165_eq_skeleton]; unfold k0_part165_skel)
      | (refine H.bind ?_; rw [k0_part166_eq_skeleton]; unfold k0_part166_skel)
      | (refine H.bind ?_; rw [k0_part167_eq_skeleton]; unfold k0_part167_skel)
      | (refine H.bind ?_; rw [k0_part168_eq_skeleton]; unfold k0_part168_skel)
      | (refine H.bind ?_; rw [k0_part169_eq_skeleton]; unfold k0_part169_skel)
      | (refine H.bind ?_; rw [k0_part170_eq_skeleton]; unfold k0_part170_skel)
      | (refine H.bind ?_; rw [k0_part171_eq_skeleton]; unfold k0_part171_skel)
      | (refine H.bind ?_; rw [k0_part172_eq_skeleton]; unfold k0_part172_skel)
      | (refine H.bind ?_; rw [k0_part173_eq_skeleton]; unfold k0_part173_skel)
      | (refine H.bind ?_; rw [k0_part174_eq_skeleton]; unfold k0_part174_skel)
      | (refine H.bind ?_; rw [k0_part175_eq_skeleton]; unfold k0_part175_skel)
      | (refine H.bind ?_; rw [k0_part176_eq_skeleton]; unfold k0_part176_skel)
      | (refine H.bind ?_; rw [k0_part177_eq_skeleton]; unfold k0_part177_skel)
      | (refine H.bind ?_; rw [k0_part178_eq_skeleton]; unfold k0_part178_skel)
      | (refine H.bind ?_; rw [k0_part179_eq_skeleton]; unfold k0_part179_skel)
      | (refine H.bind ?_; rw [k0_part180_eq_skeleton]; unfold k0_part180_skel)
    exact H.pure hQ

end Cert.Proof.Ffn
end
-- ==== Proof.Run433.lean ====
module

public import proofs.«01_k».proof.Proof.Args

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! Parts 181 to 240 of a tile. -/

set_option maxHeartbeats 4000000

theorem run433 (X : Ctx F) (A : Args X) {Q : _ → sProp 𝕄}
    (hQ : ∀ M, T X ⟨3, 56, 97, 11, 0⟩ M → Pts X M ⊢ Q ⟨(tap0 X.inp 0 6 0), (tap1 X.inp 0 6 0), (tap2 X.inp 0 6 0), (tapb X.inp 0 6 0), (tap0 X.inp 0 6 1), (tap1 X.inp 0 6 1), (tap2 X.inp 0 6 1), (tapb X.inp 0 6 1), (tap0 X.inp 1 6 0), (tap1 X.inp 1 6 0), (tap2 X.inp 1 6 0), (tapb X.inp 1 6 0), (tap0 X.inp 1 6 1), (tap1 X.inp 1 6 1), (tap2 X.inp 1 6 1), (tapb X.inp 1 6 1), (k0_pay796 (tap0 X.inp 0 6 0) (tap1 X.inp 0 6 0) (tap2 X.inp 0 6 0) (tapb X.inp 0 6 0) (tap0 X.inp 1 6 0) (tap1 X.inp 1 6 0) (tap2 X.inp 1 6 0) (tapb X.inp 1 6 0) (upBlk X.inp 0 6 0 94) (upBlk X.inp 0 6 0 96) (upBlk X.inp 0 6 0 98) (upBlk X.inp 1 6 0 94) (upBlk X.inp 1 6 0 96) (upBlk X.inp 1 6 0 98))⟩) :
    H X ⟨3, 44, 72, 8, 0⟩ (k0_part433 (F := F) A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 (tap0 X.inp 0 4 0) (tap1 X.inp 0 4 0) (tap2 X.inp 0 4 0) (tapb X.inp 0 4 0) (tap0 X.inp 0 4 1) (tap1 X.inp 0 4 1) (tap2 X.inp 0 4 1) (tapb X.inp 0 4 1) (tap0 X.inp 1 4 0) (tap1 X.inp 1 4 0) (tap2 X.inp 1 4 0) (tapb X.inp 1 4 0) (tap0 X.inp 1 4 1) (tap1 X.inp 1 4 1) (tap2 X.inp 1 4 1) (tapb X.inp 1 4 1) (k0_pay601 (tap1 X.inp 0 4 0) (tap2 X.inp 0 4 0) (tapb X.inp 0 4 0) (tap0 X.inp 1 4 0) (tap1 X.inp 1 4 0) (tap2 X.inp 1 4 0) (tapb X.inp 1 4 0) (k0_pay599 (tap0 X.inp 0 4 0) (upBlk X.inp 0 4 0 542)) (k0_pay600 (upBlk X.inp 0 4 0 544)) (upBlk X.inp 0 4 0 546) (upBlk X.inp 1 4 0 542) (upBlk X.inp 1 4 0 544) (upBlk X.inp 1 4 0 546)) (k0_pay602 (tap0 X.inp 0 4 1) (upBlk X.inp 0 4 1 542)) (k0_pay603 (upBlk X.inp 0 4 1 544))) Q := by
    rw [k0_part433_eq_skeleton]
    unfold k0_part433_skel
    repeat first
      | (with_reducible refine H.ld9 ?_ ?_); rfl
      | (with_reducible refine H.ld10 ?_ ?_); rfl
      | with_reducible refine H.any9 fun _ => ?_
      | with_reducible refine H.any10 fun _ => ?_
      | (with_reducible refine H.st11 ?_ ?_ ?_); rfl; rfl
      | (with_reducible refine H.ld11 ?_ ?_); rfl
      | with_reducible refine H.any11 fun _ => ?_
      | (with_reducible refine H.ld12 ?_ ?_); rfl
      | with_reducible refine H.any12 fun _ => ?_
      | with_reducible refine H.ld1 ?_
      | with_reducible refine H.ld2 ?_
      | with_reducible refine H.ld3 ?_
      | with_reducible refine H.ld4 ?_
      | with_reducible refine H.ld8a ?_
      | with_reducible refine H.ld8b ?_
      | (with_reducible refine H.st9a ?_ ?_ ?_); rfl; rfl
      | (with_reducible refine H.st9b ?_ ?_ ?_); rfl; rfl
      | (with_reducible refine H.st10a ?_ ?_ ?_); rfl; rfl
      | (with_reducible refine H.st10b ?_ ?_ ?_); rfl; rfl
      | (with_reducible refine H.st12 ?_ ?_ ?_); rfl; rfl
      | with_reducible refine H.pure_wp ?_
      | with_reducible refine H.tail ?_
      | (refine H.bind ?_; rw [k0_part181_eq_skeleton]; unfold k0_part181_skel)
      | (refine H.bind ?_; rw [k0_part182_eq_skeleton]; unfold k0_part182_skel)
      | (refine H.bind ?_; rw [k0_part183_eq_skeleton]; unfold k0_part183_skel)
      | (refine H.bind ?_; rw [k0_part184_eq_skeleton]; unfold k0_part184_skel)
      | (refine H.bind ?_; rw [k0_part185_eq_skeleton]; unfold k0_part185_skel)
      | (refine H.bind ?_; rw [k0_part186_eq_skeleton]; unfold k0_part186_skel)
      | (refine H.bind ?_; rw [k0_part187_eq_skeleton]; unfold k0_part187_skel)
      | (refine H.bind ?_; rw [k0_part188_eq_skeleton]; unfold k0_part188_skel)
      | (refine H.bind ?_; rw [k0_part189_eq_skeleton]; unfold k0_part189_skel)
      | (refine H.bind ?_; rw [k0_part190_eq_skeleton]; unfold k0_part190_skel)
      | (refine H.bind ?_; rw [k0_part191_eq_skeleton]; unfold k0_part191_skel)
      | (refine H.bind ?_; rw [k0_part192_eq_skeleton]; unfold k0_part192_skel)
      | (refine H.bind ?_; rw [k0_part193_eq_skeleton]; unfold k0_part193_skel)
      | (refine H.bind ?_; rw [k0_part194_eq_skeleton]; unfold k0_part194_skel)
      | (refine H.bind ?_; rw [k0_part195_eq_skeleton]; unfold k0_part195_skel)
      | (refine H.bind ?_; rw [k0_part196_eq_skeleton]; unfold k0_part196_skel)
      | (refine H.bind ?_; rw [k0_part197_eq_skeleton]; unfold k0_part197_skel)
      | (refine H.bind ?_; rw [k0_part198_eq_skeleton]; unfold k0_part198_skel)
      | (refine H.bind ?_; rw [k0_part199_eq_skeleton]; unfold k0_part199_skel)
      | (refine H.bind ?_; rw [k0_part200_eq_skeleton]; unfold k0_part200_skel)
      | (refine H.bind ?_; rw [k0_part201_eq_skeleton]; unfold k0_part201_skel)
      | (refine H.bind ?_; rw [k0_part202_eq_skeleton]; unfold k0_part202_skel)
      | (refine H.bind ?_; rw [k0_part203_eq_skeleton]; unfold k0_part203_skel)
      | (refine H.bind ?_; rw [k0_part204_eq_skeleton]; unfold k0_part204_skel)
      | (refine H.bind ?_; rw [k0_part205_eq_skeleton]; unfold k0_part205_skel)
      | (refine H.bind ?_; rw [k0_part206_eq_skeleton]; unfold k0_part206_skel)
      | (refine H.bind ?_; rw [k0_part207_eq_skeleton]; unfold k0_part207_skel)
      | (refine H.bind ?_; rw [k0_part208_eq_skeleton]; unfold k0_part208_skel)
      | (refine H.bind ?_; rw [k0_part209_eq_skeleton]; unfold k0_part209_skel)
      | (refine H.bind ?_; rw [k0_part210_eq_skeleton]; unfold k0_part210_skel)
      | (refine H.bind ?_; rw [k0_part211_eq_skeleton]; unfold k0_part211_skel)
      | (refine H.bind ?_; rw [k0_part212_eq_skeleton]; unfold k0_part212_skel)
      | (refine H.bind ?_; rw [k0_part213_eq_skeleton]; unfold k0_part213_skel)
      | (refine H.bind ?_; rw [k0_part214_eq_skeleton]; unfold k0_part214_skel)
      | (refine H.bind ?_; rw [k0_part215_eq_skeleton]; unfold k0_part215_skel)
      | (refine H.bind ?_; rw [k0_part216_eq_skeleton]; unfold k0_part216_skel)
      | (refine H.bind ?_; rw [k0_part217_eq_skeleton]; unfold k0_part217_skel)
      | (refine H.bind ?_; rw [k0_part218_eq_skeleton]; unfold k0_part218_skel)
      | (refine H.bind ?_; rw [k0_part219_eq_skeleton]; unfold k0_part219_skel)
      | (refine H.bind ?_; rw [k0_part220_eq_skeleton]; unfold k0_part220_skel)
      | (refine H.bind ?_; rw [k0_part221_eq_skeleton]; unfold k0_part221_skel)
      | (refine H.bind ?_; rw [k0_part222_eq_skeleton]; unfold k0_part222_skel)
      | (refine H.bind ?_; rw [k0_part223_eq_skeleton]; unfold k0_part223_skel)
      | (refine H.bind ?_; rw [k0_part224_eq_skeleton]; unfold k0_part224_skel)
      | (refine H.bind ?_; rw [k0_part225_eq_skeleton]; unfold k0_part225_skel)
      | (refine H.bind ?_; rw [k0_part226_eq_skeleton]; unfold k0_part226_skel)
      | (refine H.bind ?_; rw [k0_part227_eq_skeleton]; unfold k0_part227_skel)
      | (refine H.bind ?_; rw [k0_part228_eq_skeleton]; unfold k0_part228_skel)
      | (refine H.bind ?_; rw [k0_part229_eq_skeleton]; unfold k0_part229_skel)
      | (refine H.bind ?_; rw [k0_part230_eq_skeleton]; unfold k0_part230_skel)
      | (refine H.bind ?_; rw [k0_part231_eq_skeleton]; unfold k0_part231_skel)
      | (refine H.bind ?_; rw [k0_part232_eq_skeleton]; unfold k0_part232_skel)
      | (refine H.bind ?_; rw [k0_part233_eq_skeleton]; unfold k0_part233_skel)
      | (refine H.bind ?_; rw [k0_part234_eq_skeleton]; unfold k0_part234_skel)
      | (refine H.bind ?_; rw [k0_part235_eq_skeleton]; unfold k0_part235_skel)
      | (refine H.bind ?_; rw [k0_part236_eq_skeleton]; unfold k0_part236_skel)
      | (refine H.bind ?_; rw [k0_part237_eq_skeleton]; unfold k0_part237_skel)
      | (refine H.bind ?_; rw [k0_part238_eq_skeleton]; unfold k0_part238_skel)
      | (refine H.bind ?_; rw [k0_part239_eq_skeleton]; unfold k0_part239_skel)
      | (refine H.bind ?_; rw [k0_part240_eq_skeleton]; unfold k0_part240_skel)
    exact H.pure hQ

end Cert.Proof.Ffn
end
-- ==== Proof.Run434.lean ====
module

public import proofs.«01_k».proof.Proof.Args

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! Parts 241 to 300 of a tile. -/

set_option maxHeartbeats 4000000

theorem run434 (X : Ctx F) (A : Args X) {Q : _ → sProp 𝕄}
    (hQ : ∀ M, T X ⟨3, 68, 123, 14, 0⟩ M → Pts X M ⊢ Q ⟨(tap0 X.inp 0 7 0), (tap1 X.inp 0 7 0), (tap2 X.inp 0 7 0), (tapb X.inp 0 7 0), (tap0 X.inp 0 7 1), (tap1 X.inp 0 7 1), (tap2 X.inp 0 7 1), (tapb X.inp 0 7 1), (tap0 X.inp 1 7 0), (tap1 X.inp 1 7 0), (tap2 X.inp 1 7 0), (tapb X.inp 1 7 0), (tap0 X.inp 1 7 1), (tap1 X.inp 1 7 1), (tap2 X.inp 1 7 1), (tapb X.inp 1 7 1)⟩) :
    H X ⟨3, 56, 97, 11, 0⟩ (k0_part434 (F := F) A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 (tap0 X.inp 0 6 0) (tap1 X.inp 0 6 0) (tap2 X.inp 0 6 0) (tapb X.inp 0 6 0) (tap0 X.inp 0 6 1) (tap1 X.inp 0 6 1) (tap2 X.inp 0 6 1) (tapb X.inp 0 6 1) (tap0 X.inp 1 6 0) (tap1 X.inp 1 6 0) (tap2 X.inp 1 6 0) (tapb X.inp 1 6 0) (tap0 X.inp 1 6 1) (tap1 X.inp 1 6 1) (tap2 X.inp 1 6 1) (tapb X.inp 1 6 1) (k0_pay796 (tap0 X.inp 0 6 0) (tap1 X.inp 0 6 0) (tap2 X.inp 0 6 0) (tapb X.inp 0 6 0) (tap0 X.inp 1 6 0) (tap1 X.inp 1 6 0) (tap2 X.inp 1 6 0) (tapb X.inp 1 6 0) (upBlk X.inp 0 6 0 94) (upBlk X.inp 0 6 0 96) (upBlk X.inp 0 6 0 98) (upBlk X.inp 1 6 0 94) (upBlk X.inp 1 6 0 96) (upBlk X.inp 1 6 0 98))) Q := by
    rw [k0_part434_eq_skeleton]
    unfold k0_part434_skel
    repeat first
      | (with_reducible refine H.ld9 ?_ ?_); rfl
      | (with_reducible refine H.ld10 ?_ ?_); rfl
      | with_reducible refine H.any9 fun _ => ?_
      | with_reducible refine H.any10 fun _ => ?_
      | (with_reducible refine H.st11 ?_ ?_ ?_); rfl; rfl
      | (with_reducible refine H.ld11 ?_ ?_); rfl
      | with_reducible refine H.any11 fun _ => ?_
      | (with_reducible refine H.ld12 ?_ ?_); rfl
      | with_reducible refine H.any12 fun _ => ?_
      | with_reducible refine H.ld1 ?_
      | with_reducible refine H.ld2 ?_
      | with_reducible refine H.ld3 ?_
      | with_reducible refine H.ld4 ?_
      | with_reducible refine H.ld8a ?_
      | with_reducible refine H.ld8b ?_
      | (with_reducible refine H.st9a ?_ ?_ ?_); rfl; rfl
      | (with_reducible refine H.st9b ?_ ?_ ?_); rfl; rfl
      | (with_reducible refine H.st10a ?_ ?_ ?_); rfl; rfl
      | (with_reducible refine H.st10b ?_ ?_ ?_); rfl; rfl
      | (with_reducible refine H.st12 ?_ ?_ ?_); rfl; rfl
      | with_reducible refine H.pure_wp ?_
      | with_reducible refine H.tail ?_
      | (refine H.bind ?_; rw [k0_part241_eq_skeleton]; unfold k0_part241_skel)
      | (refine H.bind ?_; rw [k0_part242_eq_skeleton]; unfold k0_part242_skel)
      | (refine H.bind ?_; rw [k0_part243_eq_skeleton]; unfold k0_part243_skel)
      | (refine H.bind ?_; rw [k0_part244_eq_skeleton]; unfold k0_part244_skel)
      | (refine H.bind ?_; rw [k0_part245_eq_skeleton]; unfold k0_part245_skel)
      | (refine H.bind ?_; rw [k0_part246_eq_skeleton]; unfold k0_part246_skel)
      | (refine H.bind ?_; rw [k0_part247_eq_skeleton]; unfold k0_part247_skel)
      | (refine H.bind ?_; rw [k0_part248_eq_skeleton]; unfold k0_part248_skel)
      | (refine H.bind ?_; rw [k0_part249_eq_skeleton]; unfold k0_part249_skel)
      | (refine H.bind ?_; rw [k0_part250_eq_skeleton]; unfold k0_part250_skel)
      | (refine H.bind ?_; rw [k0_part251_eq_skeleton]; unfold k0_part251_skel)
      | (refine H.bind ?_; rw [k0_part252_eq_skeleton]; unfold k0_part252_skel)
      | (refine H.bind ?_; rw [k0_part253_eq_skeleton]; unfold k0_part253_skel)
      | (refine H.bind ?_; rw [k0_part254_eq_skeleton]; unfold k0_part254_skel)
      | (refine H.bind ?_; rw [k0_part255_eq_skeleton]; unfold k0_part255_skel)
      | (refine H.bind ?_; rw [k0_part256_eq_skeleton]; unfold k0_part256_skel)
      | (refine H.bind ?_; rw [k0_part257_eq_skeleton]; unfold k0_part257_skel)
      | (refine H.bind ?_; rw [k0_part258_eq_skeleton]; unfold k0_part258_skel)
      | (refine H.bind ?_; rw [k0_part259_eq_skeleton]; unfold k0_part259_skel)
      | (refine H.bind ?_; rw [k0_part260_eq_skeleton]; unfold k0_part260_skel)
      | (refine H.bind ?_; rw [k0_part261_eq_skeleton]; unfold k0_part261_skel)
      | (refine H.bind ?_; rw [k0_part262_eq_skeleton]; unfold k0_part262_skel)
      | (refine H.bind ?_; rw [k0_part263_eq_skeleton]; unfold k0_part263_skel)
      | (refine H.bind ?_; rw [k0_part264_eq_skeleton]; unfold k0_part264_skel)
      | (refine H.bind ?_; rw [k0_part265_eq_skeleton]; unfold k0_part265_skel)
      | (refine H.bind ?_; rw [k0_part266_eq_skeleton]; unfold k0_part266_skel)
      | (refine H.bind ?_; rw [k0_part267_eq_skeleton]; unfold k0_part267_skel)
      | (refine H.bind ?_; rw [k0_part268_eq_skeleton]; unfold k0_part268_skel)
      | (refine H.bind ?_; rw [k0_part269_eq_skeleton]; unfold k0_part269_skel)
      | (refine H.bind ?_; rw [k0_part270_eq_skeleton]; unfold k0_part270_skel)
      | (refine H.bind ?_; rw [k0_part271_eq_skeleton]; unfold k0_part271_skel)
      | (refine H.bind ?_; rw [k0_part272_eq_skeleton]; unfold k0_part272_skel)
      | (refine H.bind ?_; rw [k0_part273_eq_skeleton]; unfold k0_part273_skel)
      | (refine H.bind ?_; rw [k0_part274_eq_skeleton]; unfold k0_part274_skel)
      | (refine H.bind ?_; rw [k0_part275_eq_skeleton]; unfold k0_part275_skel)
      | (refine H.bind ?_; rw [k0_part276_eq_skeleton]; unfold k0_part276_skel)
      | (refine H.bind ?_; rw [k0_part277_eq_skeleton]; unfold k0_part277_skel)
      | (refine H.bind ?_; rw [k0_part278_eq_skeleton]; unfold k0_part278_skel)
      | (refine H.bind ?_; rw [k0_part279_eq_skeleton]; unfold k0_part279_skel)
      | (refine H.bind ?_; rw [k0_part280_eq_skeleton]; unfold k0_part280_skel)
      | (refine H.bind ?_; rw [k0_part281_eq_skeleton]; unfold k0_part281_skel)
      | (refine H.bind ?_; rw [k0_part282_eq_skeleton]; unfold k0_part282_skel)
      | (refine H.bind ?_; rw [k0_part283_eq_skeleton]; unfold k0_part283_skel)
      | (refine H.bind ?_; rw [k0_part284_eq_skeleton]; unfold k0_part284_skel)
      | (refine H.bind ?_; rw [k0_part285_eq_skeleton]; unfold k0_part285_skel)
      | (refine H.bind ?_; rw [k0_part286_eq_skeleton]; unfold k0_part286_skel)
      | (refine H.bind ?_; rw [k0_part287_eq_skeleton]; unfold k0_part287_skel)
      | (refine H.bind ?_; rw [k0_part288_eq_skeleton]; unfold k0_part288_skel)
      | (refine H.bind ?_; rw [k0_part289_eq_skeleton]; unfold k0_part289_skel)
      | (refine H.bind ?_; rw [k0_part290_eq_skeleton]; unfold k0_part290_skel)
      | (refine H.bind ?_; rw [k0_part291_eq_skeleton]; unfold k0_part291_skel)
      | (refine H.bind ?_; rw [k0_part292_eq_skeleton]; unfold k0_part292_skel)
      | (refine H.bind ?_; rw [k0_part293_eq_skeleton]; unfold k0_part293_skel)
      | (refine H.bind ?_; rw [k0_part294_eq_skeleton]; unfold k0_part294_skel)
      | (refine H.bind ?_; rw [k0_part295_eq_skeleton]; unfold k0_part295_skel)
      | (refine H.bind ?_; rw [k0_part296_eq_skeleton]; unfold k0_part296_skel)
      | (refine H.bind ?_; rw [k0_part297_eq_skeleton]; unfold k0_part297_skel)
      | (refine H.bind ?_; rw [k0_part298_eq_skeleton]; unfold k0_part298_skel)
      | (refine H.bind ?_; rw [k0_part299_eq_skeleton]; unfold k0_part299_skel)
      | (refine H.bind ?_; rw [k0_part300_eq_skeleton]; unfold k0_part300_skel)
    exact H.pure hQ

end Cert.Proof.Ffn
end
-- ==== Proof.Run435.lean ====
module

public import proofs.«01_k».proof.Proof.Args

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! Parts 301 to 360 of a tile. -/

set_option maxHeartbeats 4000000

theorem run435 (X : Ctx F) (A : Args X) {Q : _ → sProp 𝕄}
    (hQ : ∀ M, T X ⟨3, 80, 147, 17, 0⟩ M → Pts X M ⊢ Q ⟨(tap0 X.inp 0 9 0), (tap1 X.inp 0 9 0), (tap2 X.inp 0 9 0), (tapb X.inp 0 9 0), (tap0 X.inp 0 9 1), (tap1 X.inp 0 9 1), (tap2 X.inp 0 9 1), (tapb X.inp 0 9 1), (tap0 X.inp 1 9 0), (tap1 X.inp 1 9 0), (tap2 X.inp 1 9 0), (tapb X.inp 1 9 0), (tap0 X.inp 1 9 1), (tap1 X.inp 1 9 1), (tap2 X.inp 1 9 1), (tapb X.inp 1 9 1), (k0_pay1191 (tap0 X.inp 0 9 1) (tap1 X.inp 0 9 1) (tap2 X.inp 0 9 1) (tapb X.inp 0 9 1) (tap0 X.inp 1 9 1) (tap1 X.inp 1 9 1) (tap2 X.inp 1 9 1) (tapb X.inp 1 9 1) (k0_pay1190 (tap0 X.inp 0 9 0) (tap1 X.inp 0 9 0) (tap2 X.inp 0 9 0) (tapb X.inp 0 9 0) (tap0 X.inp 1 9 0) (tap1 X.inp 1 9 0) (tap2 X.inp 1 9 0) (tapb X.inp 1 9 0) (upBlk X.inp 0 9 0 222) (upBlk X.inp 0 9 0 224) (upBlk X.inp 0 9 0 226) (upBlk X.inp 1 9 0 222) (upBlk X.inp 1 9 0 224) (upBlk X.inp 1 9 0 226)) (upBlk X.inp 0 9 1 222) (upBlk X.inp 0 9 1 224) (upBlk X.inp 0 9 1 226) (upBlk X.inp 1 9 1 222) (upBlk X.inp 1 9 1 224) (upBlk X.inp 1 9 1 226))⟩) :
    H X ⟨3, 68, 123, 14, 0⟩ (k0_part435 (F := F) A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 (tap0 X.inp 0 7 0) (tap1 X.inp 0 7 0) (tap2 X.inp 0 7 0) (tapb X.inp 0 7 0) (tap0 X.inp 0 7 1) (tap1 X.inp 0 7 1) (tap2 X.inp 0 7 1) (tapb X.inp 0 7 1) (tap0 X.inp 1 7 0) (tap1 X.inp 1 7 0) (tap2 X.inp 1 7 0) (tapb X.inp 1 7 0) (tap0 X.inp 1 7 1) (tap1 X.inp 1 7 1) (tap2 X.inp 1 7 1) (tapb X.inp 1 7 1)) Q := by
    rw [k0_part435_eq_skeleton]
    unfold k0_part435_skel
    repeat first
      | (with_reducible refine H.ld9 ?_ ?_); rfl
      | (with_reducible refine H.ld10 ?_ ?_); rfl
      | with_reducible refine H.any9 fun _ => ?_
      | with_reducible refine H.any10 fun _ => ?_
      | (with_reducible refine H.st11 ?_ ?_ ?_); rfl; rfl
      | (with_reducible refine H.ld11 ?_ ?_); rfl
      | with_reducible refine H.any11 fun _ => ?_
      | (with_reducible refine H.ld12 ?_ ?_); rfl
      | with_reducible refine H.any12 fun _ => ?_
      | with_reducible refine H.ld1 ?_
      | with_reducible refine H.ld2 ?_
      | with_reducible refine H.ld3 ?_
      | with_reducible refine H.ld4 ?_
      | with_reducible refine H.ld8a ?_
      | with_reducible refine H.ld8b ?_
      | (with_reducible refine H.st9a ?_ ?_ ?_); rfl; rfl
      | (with_reducible refine H.st9b ?_ ?_ ?_); rfl; rfl
      | (with_reducible refine H.st10a ?_ ?_ ?_); rfl; rfl
      | (with_reducible refine H.st10b ?_ ?_ ?_); rfl; rfl
      | (with_reducible refine H.st12 ?_ ?_ ?_); rfl; rfl
      | with_reducible refine H.pure_wp ?_
      | with_reducible refine H.tail ?_
      | (refine H.bind ?_; rw [k0_part301_eq_skeleton]; unfold k0_part301_skel)
      | (refine H.bind ?_; rw [k0_part302_eq_skeleton]; unfold k0_part302_skel)
      | (refine H.bind ?_; rw [k0_part303_eq_skeleton]; unfold k0_part303_skel)
      | (refine H.bind ?_; rw [k0_part304_eq_skeleton]; unfold k0_part304_skel)
      | (refine H.bind ?_; rw [k0_part305_eq_skeleton]; unfold k0_part305_skel)
      | (refine H.bind ?_; rw [k0_part306_eq_skeleton]; unfold k0_part306_skel)
      | (refine H.bind ?_; rw [k0_part307_eq_skeleton]; unfold k0_part307_skel)
      | (refine H.bind ?_; rw [k0_part308_eq_skeleton]; unfold k0_part308_skel)
      | (refine H.bind ?_; rw [k0_part309_eq_skeleton]; unfold k0_part309_skel)
      | (refine H.bind ?_; rw [k0_part310_eq_skeleton]; unfold k0_part310_skel)
      | (refine H.bind ?_; rw [k0_part311_eq_skeleton]; unfold k0_part311_skel)
      | (refine H.bind ?_; rw [k0_part312_eq_skeleton]; unfold k0_part312_skel)
      | (refine H.bind ?_; rw [k0_part313_eq_skeleton]; unfold k0_part313_skel)
      | (refine H.bind ?_; rw [k0_part314_eq_skeleton]; unfold k0_part314_skel)
      | (refine H.bind ?_; rw [k0_part315_eq_skeleton]; unfold k0_part315_skel)
      | (refine H.bind ?_; rw [k0_part316_eq_skeleton]; unfold k0_part316_skel)
      | (refine H.bind ?_; rw [k0_part317_eq_skeleton]; unfold k0_part317_skel)
      | (refine H.bind ?_; rw [k0_part318_eq_skeleton]; unfold k0_part318_skel)
      | (refine H.bind ?_; rw [k0_part319_eq_skeleton]; unfold k0_part319_skel)
      | (refine H.bind ?_; rw [k0_part320_eq_skeleton]; unfold k0_part320_skel)
      | (refine H.bind ?_; rw [k0_part321_eq_skeleton]; unfold k0_part321_skel)
      | (refine H.bind ?_; rw [k0_part322_eq_skeleton]; unfold k0_part322_skel)
      | (refine H.bind ?_; rw [k0_part323_eq_skeleton]; unfold k0_part323_skel)
      | (refine H.bind ?_; rw [k0_part324_eq_skeleton]; unfold k0_part324_skel)
      | (refine H.bind ?_; rw [k0_part325_eq_skeleton]; unfold k0_part325_skel)
      | (refine H.bind ?_; rw [k0_part326_eq_skeleton]; unfold k0_part326_skel)
      | (refine H.bind ?_; rw [k0_part327_eq_skeleton]; unfold k0_part327_skel)
      | (refine H.bind ?_; rw [k0_part328_eq_skeleton]; unfold k0_part328_skel)
      | (refine H.bind ?_; rw [k0_part329_eq_skeleton]; unfold k0_part329_skel)
      | (refine H.bind ?_; rw [k0_part330_eq_skeleton]; unfold k0_part330_skel)
      | (refine H.bind ?_; rw [k0_part331_eq_skeleton]; unfold k0_part331_skel)
      | (refine H.bind ?_; rw [k0_part332_eq_skeleton]; unfold k0_part332_skel)
      | (refine H.bind ?_; rw [k0_part333_eq_skeleton]; unfold k0_part333_skel)
      | (refine H.bind ?_; rw [k0_part334_eq_skeleton]; unfold k0_part334_skel)
      | (refine H.bind ?_; rw [k0_part335_eq_skeleton]; unfold k0_part335_skel)
      | (refine H.bind ?_; rw [k0_part336_eq_skeleton]; unfold k0_part336_skel)
      | (refine H.bind ?_; rw [k0_part337_eq_skeleton]; unfold k0_part337_skel)
      | (refine H.bind ?_; rw [k0_part338_eq_skeleton]; unfold k0_part338_skel)
      | (refine H.bind ?_; rw [k0_part339_eq_skeleton]; unfold k0_part339_skel)
      | (refine H.bind ?_; rw [k0_part340_eq_skeleton]; unfold k0_part340_skel)
      | (refine H.bind ?_; rw [k0_part341_eq_skeleton]; unfold k0_part341_skel)
      | (refine H.bind ?_; rw [k0_part342_eq_skeleton]; unfold k0_part342_skel)
      | (refine H.bind ?_; rw [k0_part343_eq_skeleton]; unfold k0_part343_skel)
      | (refine H.bind ?_; rw [k0_part344_eq_skeleton]; unfold k0_part344_skel)
      | (refine H.bind ?_; rw [k0_part345_eq_skeleton]; unfold k0_part345_skel)
      | (refine H.bind ?_; rw [k0_part346_eq_skeleton]; unfold k0_part346_skel)
      | (refine H.bind ?_; rw [k0_part347_eq_skeleton]; unfold k0_part347_skel)
      | (refine H.bind ?_; rw [k0_part348_eq_skeleton]; unfold k0_part348_skel)
      | (refine H.bind ?_; rw [k0_part349_eq_skeleton]; unfold k0_part349_skel)
      | (refine H.bind ?_; rw [k0_part350_eq_skeleton]; unfold k0_part350_skel)
      | (refine H.bind ?_; rw [k0_part351_eq_skeleton]; unfold k0_part351_skel)
      | (refine H.bind ?_; rw [k0_part352_eq_skeleton]; unfold k0_part352_skel)
      | (refine H.bind ?_; rw [k0_part353_eq_skeleton]; unfold k0_part353_skel)
      | (refine H.bind ?_; rw [k0_part354_eq_skeleton]; unfold k0_part354_skel)
      | (refine H.bind ?_; rw [k0_part355_eq_skeleton]; unfold k0_part355_skel)
      | (refine H.bind ?_; rw [k0_part356_eq_skeleton]; unfold k0_part356_skel)
      | (refine H.bind ?_; rw [k0_part357_eq_skeleton]; unfold k0_part357_skel)
      | (refine H.bind ?_; rw [k0_part358_eq_skeleton]; unfold k0_part358_skel)
      | (refine H.bind ?_; rw [k0_part359_eq_skeleton]; unfold k0_part359_skel)
      | (refine H.bind ?_; rw [k0_part360_eq_skeleton]; unfold k0_part360_skel)
    exact H.pure hQ

end Cert.Proof.Ffn
end
-- ==== Proof.Run436.lean ====
module

public import proofs.«01_k».proof.Proof.Args

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! Parts 361 to 420 of a tile. -/

set_option maxHeartbeats 4000000

theorem run436 (X : Ctx F) (A : Args X) {Q : _ → sProp 𝕄}
    (hQ : ∀ M, T X ⟨3, 88, 173, 21, 0⟩ M → Pts X M ⊢ Q ⟨(tap0 X.inp 0 10 0), (tap1 X.inp 0 10 0), (tap2 X.inp 0 10 0), (tapb X.inp 0 10 0), (tap0 X.inp 0 10 1), (tap1 X.inp 0 10 1), (tap2 X.inp 0 10 1), (tapb X.inp 0 10 1), (tap0 X.inp 1 10 0), (tap1 X.inp 1 10 0), (tap2 X.inp 1 10 0), (tapb X.inp 1 10 0), (tap0 X.inp 1 10 1), (tap1 X.inp 1 10 1), (tap2 X.inp 1 10 1), (tapb X.inp 1 10 1), (k0_pay1380 (tap1 X.inp 1 10 0) (tap2 X.inp 1 10 0) (tapb X.inp 1 10 0) (k0_pay1377 (tap0 X.inp 0 10 0) (tap1 X.inp 0 10 0) (tap2 X.inp 0 10 0) (tapb X.inp 0 10 0) (upBlk X.inp 0 10 0 862) (upBlk X.inp 0 10 0 864) (upBlk X.inp 0 10 0 866)) (k0_pay1378 (tap0 X.inp 1 10 0) (upBlk X.inp 1 10 0 862)) (k0_pay1379 (upBlk X.inp 1 10 0 864)) (upBlk X.inp 1 10 0 866)), (k0_pay1381 (tap0 X.inp 0 10 1) (tap1 X.inp 0 10 1) (tap2 X.inp 0 10 1) (tapb X.inp 0 10 1) (upBlk X.inp 0 10 1 862) (upBlk X.inp 0 10 1 864) (upBlk X.inp 0 10 1 866)), (k0_pay1382 (tap0 X.inp 1 10 1) (upBlk X.inp 1 10 1 862)), (k0_pay1383 (upBlk X.inp 1 10 1 864))⟩) :
    H X ⟨3, 80, 147, 17, 0⟩ (k0_part436 (F := F) A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 (tap0 X.inp 0 9 0) (tap1 X.inp 0 9 0) (tap2 X.inp 0 9 0) (tapb X.inp 0 9 0) (tap0 X.inp 0 9 1) (tap1 X.inp 0 9 1) (tap2 X.inp 0 9 1) (tapb X.inp 0 9 1) (tap0 X.inp 1 9 0) (tap1 X.inp 1 9 0) (tap2 X.inp 1 9 0) (tapb X.inp 1 9 0) (tap0 X.inp 1 9 1) (tap1 X.inp 1 9 1) (tap2 X.inp 1 9 1) (tapb X.inp 1 9 1) (k0_pay1191 (tap0 X.inp 0 9 1) (tap1 X.inp 0 9 1) (tap2 X.inp 0 9 1) (tapb X.inp 0 9 1) (tap0 X.inp 1 9 1) (tap1 X.inp 1 9 1) (tap2 X.inp 1 9 1) (tapb X.inp 1 9 1) (k0_pay1190 (tap0 X.inp 0 9 0) (tap1 X.inp 0 9 0) (tap2 X.inp 0 9 0) (tapb X.inp 0 9 0) (tap0 X.inp 1 9 0) (tap1 X.inp 1 9 0) (tap2 X.inp 1 9 0) (tapb X.inp 1 9 0) (upBlk X.inp 0 9 0 222) (upBlk X.inp 0 9 0 224) (upBlk X.inp 0 9 0 226) (upBlk X.inp 1 9 0 222) (upBlk X.inp 1 9 0 224) (upBlk X.inp 1 9 0 226)) (upBlk X.inp 0 9 1 222) (upBlk X.inp 0 9 1 224) (upBlk X.inp 0 9 1 226) (upBlk X.inp 1 9 1 222) (upBlk X.inp 1 9 1 224) (upBlk X.inp 1 9 1 226))) Q := by
    rw [k0_part436_eq_skeleton]
    unfold k0_part436_skel
    repeat first
      | (with_reducible refine H.ld9 ?_ ?_); rfl
      | (with_reducible refine H.ld10 ?_ ?_); rfl
      | with_reducible refine H.any9 fun _ => ?_
      | with_reducible refine H.any10 fun _ => ?_
      | (with_reducible refine H.st11 ?_ ?_ ?_); rfl; rfl
      | (with_reducible refine H.ld11 ?_ ?_); rfl
      | with_reducible refine H.any11 fun _ => ?_
      | (with_reducible refine H.ld12 ?_ ?_); rfl
      | with_reducible refine H.any12 fun _ => ?_
      | with_reducible refine H.ld1 ?_
      | with_reducible refine H.ld2 ?_
      | with_reducible refine H.ld3 ?_
      | with_reducible refine H.ld4 ?_
      | with_reducible refine H.ld8a ?_
      | with_reducible refine H.ld8b ?_
      | (with_reducible refine H.st9a ?_ ?_ ?_); rfl; rfl
      | (with_reducible refine H.st9b ?_ ?_ ?_); rfl; rfl
      | (with_reducible refine H.st10a ?_ ?_ ?_); rfl; rfl
      | (with_reducible refine H.st10b ?_ ?_ ?_); rfl; rfl
      | (with_reducible refine H.st12 ?_ ?_ ?_); rfl; rfl
      | with_reducible refine H.pure_wp ?_
      | with_reducible refine H.tail ?_
      | (refine H.bind ?_; rw [k0_part361_eq_skeleton]; unfold k0_part361_skel)
      | (refine H.bind ?_; rw [k0_part362_eq_skeleton]; unfold k0_part362_skel)
      | (refine H.bind ?_; rw [k0_part363_eq_skeleton]; unfold k0_part363_skel)
      | (refine H.bind ?_; rw [k0_part364_eq_skeleton]; unfold k0_part364_skel)
      | (refine H.bind ?_; rw [k0_part365_eq_skeleton]; unfold k0_part365_skel)
      | (refine H.bind ?_; rw [k0_part366_eq_skeleton]; unfold k0_part366_skel)
      | (refine H.bind ?_; rw [k0_part367_eq_skeleton]; unfold k0_part367_skel)
      | (refine H.bind ?_; rw [k0_part368_eq_skeleton]; unfold k0_part368_skel)
      | (refine H.bind ?_; rw [k0_part369_eq_skeleton]; unfold k0_part369_skel)
      | (refine H.bind ?_; rw [k0_part370_eq_skeleton]; unfold k0_part370_skel)
      | (refine H.bind ?_; rw [k0_part371_eq_skeleton]; unfold k0_part371_skel)
      | (refine H.bind ?_; rw [k0_part372_eq_skeleton]; unfold k0_part372_skel)
      | (refine H.bind ?_; rw [k0_part373_eq_skeleton]; unfold k0_part373_skel)
      | (refine H.bind ?_; rw [k0_part374_eq_skeleton]; unfold k0_part374_skel)
      | (refine H.bind ?_; rw [k0_part375_eq_skeleton]; unfold k0_part375_skel)
      | (refine H.bind ?_; rw [k0_part376_eq_skeleton]; unfold k0_part376_skel)
      | (refine H.bind ?_; rw [k0_part377_eq_skeleton]; unfold k0_part377_skel)
      | (refine H.bind ?_; rw [k0_part378_eq_skeleton]; unfold k0_part378_skel)
      | (refine H.bind ?_; rw [k0_part379_eq_skeleton]; unfold k0_part379_skel)
      | (refine H.bind ?_; rw [k0_part380_eq_skeleton]; unfold k0_part380_skel)
      | (refine H.bind ?_; rw [k0_part381_eq_skeleton]; unfold k0_part381_skel)
      | (refine H.bind ?_; rw [k0_part382_eq_skeleton]; unfold k0_part382_skel)
      | (refine H.bind ?_; rw [k0_part383_eq_skeleton]; unfold k0_part383_skel)
      | (refine H.bind ?_; rw [k0_part384_eq_skeleton]; unfold k0_part384_skel)
      | (refine H.bind ?_; rw [k0_part385_eq_skeleton]; unfold k0_part385_skel)
      | (refine H.bind ?_; rw [k0_part386_eq_skeleton]; unfold k0_part386_skel)
      | (refine H.bind ?_; rw [k0_part387_eq_skeleton]; unfold k0_part387_skel)
      | (refine H.bind ?_; rw [k0_part388_eq_skeleton]; unfold k0_part388_skel)
      | (refine H.bind ?_; rw [k0_part389_eq_skeleton]; unfold k0_part389_skel)
      | (refine H.bind ?_; rw [k0_part390_eq_skeleton]; unfold k0_part390_skel)
      | (refine H.bind ?_; rw [k0_part391_eq_skeleton]; unfold k0_part391_skel)
      | (refine H.bind ?_; rw [k0_part392_eq_skeleton]; unfold k0_part392_skel)
      | (refine H.bind ?_; rw [k0_part393_eq_skeleton]; unfold k0_part393_skel)
      | (refine H.bind ?_; rw [k0_part394_eq_skeleton]; unfold k0_part394_skel)
      | (refine H.bind ?_; rw [k0_part395_eq_skeleton]; unfold k0_part395_skel)
      | (refine H.bind ?_; rw [k0_part396_eq_skeleton]; unfold k0_part396_skel)
      | (refine H.bind ?_; rw [k0_part397_eq_skeleton]; unfold k0_part397_skel)
      | (refine H.bind ?_; rw [k0_part398_eq_skeleton]; unfold k0_part398_skel)
      | (refine H.bind ?_; rw [k0_part399_eq_skeleton]; unfold k0_part399_skel)
      | (refine H.bind ?_; rw [k0_part400_eq_skeleton]; unfold k0_part400_skel)
      | (refine H.bind ?_; rw [k0_part401_eq_skeleton]; unfold k0_part401_skel)
      | (refine H.bind ?_; rw [k0_part402_eq_skeleton]; unfold k0_part402_skel)
      | (refine H.bind ?_; rw [k0_part403_eq_skeleton]; unfold k0_part403_skel)
      | (refine H.bind ?_; rw [k0_part404_eq_skeleton]; unfold k0_part404_skel)
      | (refine H.bind ?_; rw [k0_part405_eq_skeleton]; unfold k0_part405_skel)
      | (refine H.bind ?_; rw [k0_part406_eq_skeleton]; unfold k0_part406_skel)
      | (refine H.bind ?_; rw [k0_part407_eq_skeleton]; unfold k0_part407_skel)
      | (refine H.bind ?_; rw [k0_part408_eq_skeleton]; unfold k0_part408_skel)
      | (refine H.bind ?_; rw [k0_part409_eq_skeleton]; unfold k0_part409_skel)
      | (refine H.bind ?_; rw [k0_part410_eq_skeleton]; unfold k0_part410_skel)
      | (refine H.bind ?_; rw [k0_part411_eq_skeleton]; unfold k0_part411_skel)
      | (refine H.bind ?_; rw [k0_part412_eq_skeleton]; unfold k0_part412_skel)
      | (refine H.bind ?_; rw [k0_part413_eq_skeleton]; unfold k0_part413_skel)
      | (refine H.bind ?_; rw [k0_part414_eq_skeleton]; unfold k0_part414_skel)
      | (refine H.bind ?_; rw [k0_part415_eq_skeleton]; unfold k0_part415_skel)
      | (refine H.bind ?_; rw [k0_part416_eq_skeleton]; unfold k0_part416_skel)
      | (refine H.bind ?_; rw [k0_part417_eq_skeleton]; unfold k0_part417_skel)
      | (refine H.bind ?_; rw [k0_part418_eq_skeleton]; unfold k0_part418_skel)
      | (refine H.bind ?_; rw [k0_part419_eq_skeleton]; unfold k0_part419_skel)
      | (refine H.bind ?_; rw [k0_part420_eq_skeleton]; unfold k0_part420_skel)
    exact H.pure hQ

end Cert.Proof.Ffn
end
-- ==== Proof.Run421.lean ====
module

public import proofs.«01_k».proof.Proof.Args

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! Parts 421 to 427 of a tile: the last activations, and the first half of the result. -/

set_option maxHeartbeats 4000000

theorem run421 (X : Ctx F) (A : Args X) (a17 a20 : BitVec 32) (hw3 : k0_chk3 a17) (hw5 : k0_chk5 a20) {α : Type}
    (ehc : (A.b1.slice (Rect.unit (s := S2x1x512x1024) (k0_off25 a17) S1x1x512x1024.size (k0_off25_inb a17 hw3)) (fun _ => rfl)).squeeze
        S1x512x1024 squeezes_S1x1x512x1024_S1x512x1024 = X.hc)
    (ehc' : (A.b1.slice (Rect.unit (s := S2x1x512x1024) (k0_off28 a17) S1x1x512x1024.size (k0_off28_inb a17 hw3)) (fun _ => rfl)).squeeze
        S1x512x1024 squeezes_S1x1x512x1024_S1x512x1024 = X.hc)
    (eho : (A.b3.slice (Rect.unit (s := S2x1x512x1024) (k0_off27 a20) S1x1x512x1024.size (k0_off27_inb a20 hw5)) (fun _ => rfl)).squeeze
        S1x512x1024 squeezes_S1x1x512x1024_S1x512x1024 = X.ho)
    (K : FVec F S1x1024 .f32 → FVec F S256x1024 .f32 → FVec F S256x1024 .f32 → α)
    {Q : α → sProp 𝕄} (hQ : ∀ M, T X ⟨3, 88, 176, 22, 1⟩ M → Pts X M ⊢ Q (K (k0_pay1397 (blk2 X.inp.w6 1 1024 0 0)) (k0_pay1398 (blk3 X.inp.vc 1 256 1024 0 256 0) (accUp X.inp 1 10)) (k0_pay1399 (blk2 X.inp.w5 1 1024 0 0)))) :
    H X ⟨3, 88, 173, 21, 0⟩ (do
        let v14024 : FVec F S32x128 .f32 ← k0_part421 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 (tap0 X.inp 0 10 0) (tap1 X.inp 0 10 0) (tap2 X.inp 0 10 0) (tapb X.inp 0 10 0) (tap1 X.inp 1 10 1) (tap2 X.inp 1 10 1) (tapb X.inp 1 10 1) (k0_pay1380 (tap1 X.inp 1 10 0) (tap2 X.inp 1 10 0) (tapb X.inp 1 10 0) (k0_pay1377 (tap0 X.inp 0 10 0) (tap1 X.inp 0 10 0) (tap2 X.inp 0 10 0) (tapb X.inp 0 10 0) (upBlk X.inp 0 10 0 862) (upBlk X.inp 0 10 0 864) (upBlk X.inp 0 10 0 866)) (k0_pay1378 (tap0 X.inp 1 10 0) (upBlk X.inp 1 10 0 862)) (k0_pay1379 (upBlk X.inp 1 10 0 864)) (upBlk X.inp 1 10 0 866)) (k0_pay1381 (tap0 X.inp 0 10 1) (tap1 X.inp 0 10 1) (tap2 X.inp 0 10 1) (tapb X.inp 0 10 1) (upBlk X.inp 0 10 1 862) (upBlk X.inp 0 10 1 864) (upBlk X.inp 0 10 1 866)) (k0_pay1382 (tap0 X.inp 1 10 1) (upBlk X.inp 1 10 1 862)) (k0_pay1383 (upBlk X.inp 1 10 1 864))
        let ⟨v14045, v14057⟩ : Σ' (v14045 : FVec F S32x128 .f32), FVec F S32x128 .f32 ← k0_part422 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 (tap0 X.inp 0 10 1) (tap1 X.inp 0 10 1) (tap2 X.inp 0 10 1) (tapb X.inp 0 10 1) (tap0 X.inp 1 10 0) (tap1 X.inp 1 10 0) (tap2 X.inp 1 10 0) (tapb X.inp 1 10 0) v14024
        let v14090 : FVec F S32x128 .f32 ← k0_part423 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 (tap0 X.inp 0 10 0) (tap1 X.inp 0 10 0) (tap0 X.inp 1 10 1) (tap1 X.inp 1 10 1) (tap2 X.inp 1 10 1) (tapb X.inp 1 10 1) v14045 v14057
        let ⟨v14116, v14123⟩ : Σ' (v14116 : FVec F S32x128 .f32), FVec F S32x128 .f32 ← k0_part424 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 (tap2 X.inp 0 10 0) (tapb X.inp 0 10 0) (tap0 X.inp 0 10 1) (tap1 X.inp 0 10 1) (tap0 X.inp 1 10 0) (tap1 X.inp 1 10 0) (tap2 X.inp 1 10 0) (tapb X.inp 1 10 0) v14090
        let v14158 : FVec F S256x1024 .f32 ← k0_part425 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 a17 hw3 (tap2 X.inp 0 10 1) (tapb X.inp 0 10 1) (tap0 X.inp 1 10 1) (tap1 X.inp 1 10 1) (tap2 X.inp 1 10 1) (tapb X.inp 1 10 1) v14116 v14123
        let ⟨v14193, v14194⟩ : Σ' (v14193 : FVec F S256x256 .bf16), Vec F S256x1024 .bf16 ← k0_part426 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 a20 hw5 v14158
        let ⟨v14213, v14229, v14230⟩ : Σ' (v14213 : FVec F S1x1024 .f32) (v14229 : FVec F S256x1024 .f32), FVec F S256x1024 .f32 ← k0_part427 A.a0 A.h0 X.a1 A.h1 X.a2 A.h2 X.a3 A.h3 X.a4 A.h4 X.a5 A.h5 X.a6 A.h6 A.a7 A.h7 X.a8 A.h8 X.a9 A.h9 X.a10 A.h10 X.a11 A.h11 X.a12 A.h12 A.b0 A.hb0 A.v0 A.b1 A.hb1 A.v1 A.b2 A.hb2 A.v2 A.b3 A.hb3 A.v3 a17 hw3 v14193 v14194
        pure (K v14213 v14229 v14230) : Prog (EE F) α) Q := by
    repeat first
      | (with_reducible refine H.ld9 ?_ ?_); rfl
      | (with_reducible refine H.ld10 ?_ ?_); rfl
      | with_reducible refine H.any9 fun _ => ?_
      | with_reducible refine H.any10 fun _ => ?_
      | (with_reducible refine H.st11 ?_ ?_ ?_); rfl; rfl
      | (with_reducible refine H.ld11 ?_ ?_); rfl
      | with_reducible refine H.any11 fun _ => ?_
      | (with_reducible refine H.ld12 ?_ ?_); rfl
      | with_reducible refine H.any12 fun _ => ?_
      | with_reducible refine H.ld1 ?_
      | with_reducible refine H.ld2 ?_
      | with_reducible refine H.ld3 ?_
      | with_reducible refine H.ld4 ?_
      | with_reducible refine H.ld8a ?_
      | with_reducible refine H.ld8b ?_
      | (with_reducible refine H.st9a ?_ ?_ ?_); rfl; rfl
      | (with_reducible refine H.st9b ?_ ?_ ?_); rfl; rfl
      | (with_reducible refine H.st10a ?_ ?_ ?_); rfl; rfl
      | (with_reducible refine H.st10b ?_ ?_ ?_); rfl; rfl
      | (with_reducible refine H.st12 ?_ ?_ ?_); rfl; rfl
      | with_reducible refine H.pure_wp ?_
      | with_reducible refine H.tail ?_
      | with_reducible refine H.ld5 ?_
      | with_reducible refine H.ld6 ?_
      | with_reducible refine H.ldhcE' ehc ?_
      | with_reducible refine H.ldhcE' ehc' ?_
      | with_reducible refine H.anyoE eho fun _ => ?_
      | (with_reducible refine H.stoE eho ?_ ?_ ?_); rfl; rfl
      | (refine H.bind ?_; rw [k0_part421_eq_skeleton]; unfold k0_part421_skel)
      | (refine H.bind ?_; rw [k0_part422_eq_skeleton]; unfold k0_part422_skel)
      | (refine H.bind ?_; rw [k0_part423_eq_skeleton]; unfold k0_part423_skel)
      | (refine H.bind ?_; rw [k0_part424_eq_skeleton]; unfold k0_part424_skel)
      | (refine H.bind ?_; rw [k0_part425_eq_skeleton]; unfold k0_part425_skel)
      | (refine H.bind ?_; rw [k0_part426_eq_skeleton]; unfold k0_part426_skel)
      | (refine H.bind ?_; rw [k0_part427_eq_skeleton]; unfold k0_part427_skel)
    exact H.pure hQ

end Cert.Proof.Ffn
end
-- ==== Proof.Trip.lean ====
module

public import proofs.«01_k».proof.Proof.Tail
public import proofs.«01_k».proof.Proof.Run430
public import proofs.«01_k».proof.Proof.Run431
public import proofs.«01_k».proof.Proof.Run432
public import proofs.«01_k».proof.Proof.Run433
public import proofs.«01_k».proof.Proof.Run434
public import proofs.«01_k».proof.Proof.Run435
public import proofs.«01_k».proof.Proof.Run436
public import proofs.«01_k».proof.Proof.Run421

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! # One trip of the loop -/

theorem cond_iff {b : BitVec 1} {t : ℕ} (h : b = if t < 31 then 1#1 else 0#1) : b = 1#1 ↔ t + 1 < 32 := by
  rw [h]
  by_cases ht : t < 31
  · rw [if_pos ht]; exact ⟨fun _ => by omega, fun _ => rfl⟩
  · rw [if_neg ht]; exact ⟨fun e => absurd e (by decide), fun e => by omega⟩

theorem cond_pos {b : BitVec 1} {t : ℕ} (h : b = if 0 < t then 1#1 else 0#1) : b = 1#1 ↔ 0 < t := by
  rw [h]
  by_cases ht : 0 < t
  · rw [if_pos ht]; exact ⟨fun _ => ht, fun _ => rfl⟩
  · rw [if_neg ht]; exact ⟨fun e => absurd e (by decide), fun e => absurd e ht⟩

set_option maxHeartbeats 4000000
set_option maxRecDepth 65536

variable (E : Env F)

/-- What the tile leaves alone. -/
def Env.Rest (t : ℕ) : sProp 𝕄 :=
  iprop((semVal ((E.c : Thread nD τ), SemLoc.dma (smP t)) 0 ∗ (a0.view.loc (E.c : Thread nD τ) ↦[Finset.univ]{qq 0 t} E.fa))
    ∗ (semVal ((E.c : Thread nD τ), SemLoc.dma (smC t)) 0 ∗ (a0.view.loc (E.c : Thread nD τ) ↦[Finset.univ]{qq 1 t} E.fa))
    ∗ (semVal ((E.c : Thread nD τ), SemLoc.dma (smN t)) 0 ∗ (a0.view.loc (E.c : Thread nD τ) ↦[Finset.univ]{qq 2 t} E.fa))
    ∗ InP E.c E.fa (t + 1) ∗ InC E.c E.fa (t + 1) ∗ InN E.c E.fa (t + 1) ∗ semVal ((E.c : Thread nD τ), SemLoc.dma (smO t)) 0
    ∗ ((if 0 < t then OFly E.c (t - 1) (E.G t) else OIdle E.c (t + 1)) ∗ (a7.view.loc (E.c : Thread nD τ) ↦[oSet E.c t]{fullShare} E.G t))
    ∗ (∃ w, owes (E.c : Thread nD τ) 0 w))

theorem Env.rest_open (t : ℕ) : E.Rest t ⊢ iprop((semVal ((E.c : Thread nD τ), SemLoc.dma (smP t)) 0 ∗ (a0.view.loc (E.c : Thread nD τ) ↦[Finset.univ]{qq 0 t} E.fa))
    ∗ (semVal ((E.c : Thread nD τ), SemLoc.dma (smC t)) 0 ∗ (a0.view.loc (E.c : Thread nD τ) ↦[Finset.univ]{qq 1 t} E.fa))
    ∗ (semVal ((E.c : Thread nD τ), SemLoc.dma (smN t)) 0 ∗ (a0.view.loc (E.c : Thread nD τ) ↦[Finset.univ]{qq 2 t} E.fa))
    ∗ InP E.c E.fa (t + 1) ∗ InC E.c E.fa (t + 1) ∗ InN E.c E.fa (t + 1) ∗ semVal ((E.c : Thread nD τ), SemLoc.dma (smO t)) 0
    ∗ ((if 0 < t then OFly E.c (t - 1) (E.G t) else OIdle E.c (t + 1)) ∗ (a7.view.loc (E.c : Thread nD τ) ↦[oSet E.c t]{fullShare} E.G t))
    ∗ (∃ w, owes (E.c : Thread nD τ) 0 w)) := .rfl

theorem Env.idle_back (t : ℕ) (fhp : (slP t).view.ty.Contents (Elt F)) (fhc : (slC t).view.ty.Contents (Elt F))
    (fhn : (slN t).view.ty.Contents (Elt F)) :
    iprop((ptw E.c (slP t) fhp ∗ (semVal ((E.c : Thread nD τ), SemLoc.dma (smP t)) 0 ∗ (a0.view.loc (E.c : Thread nD τ) ↦[Finset.univ]{qq 0 t} E.fa)))
    ∗ (ptw E.c (slC t) fhc ∗ (semVal ((E.c : Thread nD τ), SemLoc.dma (smC t)) 0 ∗ (a0.view.loc (E.c : Thread nD τ) ↦[Finset.univ]{qq 1 t} E.fa)))
    ∗ (ptw E.c (slN t) fhn ∗ (semVal ((E.c : Thread nD τ), SemLoc.dma (smN t)) 0 ∗ (a0.view.loc (E.c : Thread nD τ) ↦[Finset.univ]{qq 2 t} E.fa))))
    ⊢ iprop(IdleP E.c E.fa (t + 1 + 1) ∗ IdleC E.c E.fa (t + 1 + 1) ∗ IdleN E.c E.fa (t + 1 + 1)) := by
  rw [IdleP_congr (c := E.c) (fa := E.fa) (t := t + 1 + 1) (u := t) (by omega), IdleC_congr (c := E.c) (fa := E.fa) (t := t + 1 + 1) (u := t) (by omega),
    IdleN_congr (c := E.c) (fa := E.fa) (t := t + 1 + 1) (u := t) (by omega)]
  unfold IdleP IdleC IdleN Idle
  iintro ⟨⟨HP, SP⟩, ⟨HC, SC⟩, ⟨HN, SN⟩⟩
  isplitl [HP SP]
  · isplitl [HP]
    · iexists fhp; iexact HP
    · iexact SP
  isplitl [HC SC]
  · isplitl [HC]
    · iexists fhc; iexact HC
    · iexact SC
  · isplitl [HN]
    · iexists fhn; iexact HN
    · iexact SN

theorem Env.fly_back (t : ℕ) : OFly E.c t (E.G (t + 1)) ⊢ iprop(if 0 < t + 1 then OFly E.c (t + 1 - 1) (E.G (t + 1)) else OIdle E.c (t + 1 + 1)) := by
  rw [if_pos (Nat.succ_pos t), Nat.add_sub_cancel]

theorem OIdle_open (c : Dev nD) (t : ℕ) : OIdle (F := F) c t ⊢ iprop((∃ fd : (slO t).view.ty.Contents (Elt F), ptw c (slO t) fd)
    ∗ semVal ((c : Thread nD τ), SemLoc.dma (smO t)) 0) := .rfl

theorem Env.pts_intro (t : ℕ) (fhp : (slP t).view.ty.Contents (Elt F)) (fhc : (slC t).view.ty.Contents (Elt F))
    (fhn : (slN t).view.ty.Contents (Elt F)) (M : Mem (E.ctx t fhp fhc fhn (E.Rest t))) :
    iprop(ptw E.c s9 M.f9 ∗ ptw E.c s10 M.f10 ∗ ptw E.c s11 M.f11 ∗ ptw E.c s12 M.f12 ∗ ptw E.c s8 M.f8
      ∗ ptw E.c (slO t) M.fo ∗ ptw E.c E.a1 E.f1 ∗ ptw E.c E.a2 E.f2 ∗ ptw E.c E.a3 E.f3 ∗ ptw E.c E.a4 E.f4
      ∗ ptw E.c E.a5 E.f5 ∗ ptw E.c E.a6 E.f6 ∗ ptw E.c (slP t) fhp ∗ ptw E.c (slC t) fhc ∗ ptw E.c (slN t) fhn ∗ E.Rest t)
      ⊣⊢ Pts (E.ctx t fhp fhc fhn (E.Rest t)) M := .rfl

section
variable {X : Ctx F} {s : St} {α β : Type}

theorem H.enter {p : Prog (EE F) α} {Ψ : α → sProp 𝕄} {M : Mem X} (hT : T X s M) (h : H X s p Ψ) : Pts X M ⊢ W X.c p Ψ := h M hT

theorem H.of {p : Prog (EE F) α} {Ψ : α → sProp 𝕄} (h : H X s p Ψ) : ∀ M, T X s M → Pts X M ⊢ W X.c p Ψ := h

theorem T.start (X : Ctx F) (M : Mem X) : T X ⟨0, 0, 0, 0, 0⟩ M where
  h := fun y h => absurd h (by simp [hrows])
  a := fun q row y h => absurd h (by simp [ucnt]; omega)
  u := fun q row y h => absurd h (by simp [ucnt]; omega)
  g := fun g y h => absurd h (Nat.not_lt_zero _)
  d := fun y h => absurd h (by simp)
  o := fun y h => absurd h (Nat.not_lt_zero _)

theorem H.ldhpE {Post : β → sProp 𝕄} {m : Memref sig .tc .vmem S1x16x1024 .f32} (e : m = X.hp) {inb hl} {k : Vec F S1x16x1024 .f32 → Prog (EE F) β}
    (hk : H X s (k X.inp.vp) Post) :
    H X s (Prog.lift (.load m (Rect.unit (s := S1x16x1024) ![0, 0, 0] S1x16x1024.size inb).toLoadRect hl) >>= k) Post := by
  subst e
  exact H.ldhp hk

end

theorem trip (t : Fin 32) (v38 v45 v54 c0 : BitVec 32) :
    E.Inv t ⊢ W E.c (k0_t1_body a0 (Memref.isWhole_whole _) E.a1 E.h1 E.a2 E.h2 E.a3 E.h3 E.a4 E.h4 E.a5 E.h5 E.a6 E.h6 a7 (Memref.isWhole_whole _)
      s8 (Memref.isWhole_whole _) s9 (Memref.isWhole_whole _) s10 (Memref.isWhole_whole _) s11 (Memref.isWhole_whole _) s12 (Memref.isWhole_whole _)
      bP (Memref.isWhole_whole _) cc0_scoped1 bC (Memref.isWhole_whole _) cc0_scoped3 bN (Memref.isWhole_whole _) cc0_scoped5 bO (Memref.isWhole_whole _) cc0_scoped7
      v38 v45 v54 c0 t (tup t)) (fun r => iprop(⌜r = tup (t + 1)⌝ ∗ E.Inv (t + 1))) := by
  unfold k0_t1_body k0_part430 tup
  rw [k0_part1_eq_skeleton, k0_part2_eq_skeleton, k0_part3_eq_skeleton, k0_part4_eq_skeleton]
  unfold k0_part1_skel k0_part2_skel k0_part3_skel k0_part4_skel
  unfold Env.Inv
  rw [InP_lt E.c E.fa t.isLt, InC_lt E.c E.fa t.isLt, InN_lt E.c E.fa t.isLt]
  iintro ⟨⟨HP, HC, HN⟩, ⟨JP, JC, JN⟩, HO, HB, HW⟩
  iapply W_bind
  -- the checks
  iapply W_bind
  iapply (W_assume E.c (chk5 t))
  iapply (W_assume E.c (chk4 t))
  iapply (W_assume E.c (chk3 t))
  iapply (W_assume E.c (chk2 t))
  iapply (W_assume E.c (chk1 t))
  iapply W_pure
  -- the next tile's fetches
  iapply W_bind
  iapply (issueP E.c E.fa (t + 1) (cond_iff (cond1 t)) (off8 t)
    (fun h => (off7 t).trans (by rw [Nat.min_eq_left]; exact ((cond_iff (cond1 t)).mp h).le))
    (fun h => (off6 t).trans (by rw [Nat.min_eq_left]; exact ((cond_iff (cond1 t)).mp h).le))) $$ JP
  iintro JP
  iapply (issueC E.c E.fa (t + 1) (cond_iff (cond2 t)) (off11 t)
    (fun h => (off10 t).trans (by rw [Nat.min_eq_left]; exact ((cond_iff (cond2 t)).mp h).le))
    (fun h => (off9 t).trans (by rw [Nat.min_eq_left]; exact ((cond_iff (cond2 t)).mp h).le))) $$ JC
  iintro JC
  iapply W_pure
  iapply W_bind
  iapply (issueN E.c E.fa (t + 1) (cond_iff (cond3 t)) (off14 t)
    (fun h => (off13 t).trans (by rw [Nat.min_eq_left]; exact ((cond_iff (cond3 t)).mp h).le))
    (fun h => (off12 t).trans (by rw [Nat.min_eq_left]; exact ((cond_iff (cond3 t)).mp h).le))) $$ JN
  iintro JN
  -- the tile's own fetches
  iapply (awaitP E.c E.fa t (cond4 t) (off16 t) (off15 t)) $$ [HP HW]
  · isplitl [HP] <;> iassumption
  iintro HP HW
  iapply W_pure
  iapply W_bind
  iapply (awaitC E.c E.fa t (cond5 t) (off19 t) (off18 t)) $$ [HC HW]
  · isplitl [HC] <;> iassumption
  iintro HC HW
  iapply (awaitN E.c E.fa t (cond6 t) (off22 t) (off21 t)) $$ [HN HW]
  · isplitl [HN] <;> iassumption
  iintro HN HW
  iapply (W_ite_self E.c)
  unfold FullP FullC FullN Full Env.Buf Env.Out
  icases HP with ⟨⟨%fhp, %ep, HP⟩, SP⟩
  icases HC with ⟨⟨%fhc, %ec, HC⟩, SC⟩
  icases HN with ⟨⟨%fhn, %en, HN⟩, SN⟩
  icases HB with ⟨⟨%f8, H8⟩, ⟨%f9, H9⟩, ⟨%f10, H10⟩, ⟨%f11, H11⟩, ⟨%f12, H12⟩, H1, H2, H3, H4, H5, H6⟩
  icases HO with ⟨HO, PO⟩
  ihave HO := (OIdle_open E.c t) $$ HO
  icases HO with ⟨⟨%fo, Hd⟩, SO⟩
  iapply (H.enter (X := E.ctx t fhp fhc fhn (E.Rest t)) (M := ⟨f8, f9, f10, f11, f12, fo⟩) (T.start _ _) ?_)
  · refine H.ldhpE (slP_eq (off24 t)) ?_
    refine H.pure_wp ?_
    beta_reduce
    refine run430 _ (E.args t fhp fhc fhn (E.Rest t)) _ _ (chk3 t) (chk4 t) _ _ _ _ _ _ _ _ _ _ _ _ _ _ _ _ _ _ _ _ (slC_eq (off25 t)) (slN_eq (off26 t)) _ ?_ ?_
    · rfl
    refine H.of ?_
    refine H.bind (run431 _ (E.args t fhp fhc fhn (E.Rest t)) ?_)
    refine H.of ?_
    refine H.bind (run432 _ (E.args t fhp fhc fhn (E.Rest t)) ?_)
    refine H.of ?_
    refine H.bind (run433 _ (E.args t fhp fhc fhn (E.Rest t)) ?_)
    refine H.of ?_
    refine H.bind (run434 _ (E.args t fhp fhc fhn (E.Rest t)) ?_)
    refine H.of ?_
    refine H.bind (run435 _ (E.args t fhp fhc fhn (E.Rest t)) ?_)
    refine H.of ?_
    refine H.bind (run436 _ (E.args t fhp fhc fhn (E.Rest t)) ?_)
    refine H.of ?_
    beta_reduce
    repeat first
      | (with_reducible refine H.ld9 ?_ ?_); rfl
      | (with_reducible refine H.ld10 ?_ ?_); rfl
      | with_reducible refine H.any9 fun _ => ?_
      | with_reducible refine H.any10 fun _ => ?_
      | (with_reducible refine H.st11 ?_ ?_ ?_); rfl; rfl
      | (with_reducible refine H.ld11 ?_ ?_); rfl
      | with_reducible refine H.any11 fun _ => ?_
      | (with_reducible refine H.ld12 ?_ ?_); rfl
      | with_reducible refine H.any12 fun _ => ?_
      | with_reducible refine H.ld1 ?_
      | with_reducible refine H.ld2 ?_
      | with_reducible refine H.ld3 ?_
      | with_reducible refine H.ld4 ?_
      | with_reducible refine H.ld8a ?_
      | with_reducible refine H.ld8b ?_
      | (with_reducible refine H.st9a ?_ ?_ ?_); rfl; rfl
      | (with_reducible refine H.st9b ?_ ?_ ?_); rfl; rfl
      | (with_reducible refine H.st10a ?_ ?_ ?_); rfl; rfl
      | (with_reducible refine H.st10b ?_ ?_ ?_); rfl; rfl
      | (with_reducible refine H.st12 ?_ ?_ ?_); rfl; rfl
      | with_reducible refine H.pure_wp ?_
      | with_reducible refine H.tail ?_
      | with_reducible refine H.ld5 ?_
      | with_reducible refine H.ld6 ?_
      | with_reducible refine H.ldhcE' (slC_eq (off25 t)) ?_
      | with_reducible refine H.ldhcE' (slC_eq (off28 t)) ?_
      | with_reducible refine H.anyoE (slO_eq (off27 t)) fun _ => ?_
      | (with_reducible refine H.stoE (slO_eq (off27 t)) ?_ ?_ ?_); rfl; rfl
      | (refine H.bind ?_; rw [k0_part421_eq_skeleton]; unfold k0_part421_skel)
      | (refine H.bind ?_; rw [k0_part422_eq_skeleton]; unfold k0_part422_skel)
      | (refine H.bind ?_; rw [k0_part423_eq_skeleton]; unfold k0_part423_skel)
      | (refine H.bind ?_; rw [k0_part424_eq_skeleton]; unfold k0_part424_skel)
      | (refine H.bind ?_; rw [k0_part425_eq_skeleton]; unfold k0_part425_skel)
      | (refine H.bind ?_; rw [k0_part426_eq_skeleton]; unfold k0_part426_skel)
      | (refine H.bind ?_; rw [k0_part427_eq_skeleton]; unfold k0_part427_skel)
    refine H.bind ?_
    rw [k0_part428_eq_skeleton, k0_part429_eq_skeleton]
    unfold k0_part428_skel k0_part429_skel
    refine H.anyoE (slO_eq (off27 t)) fun _ => ?_
    refine H.stoE (slO_eq (off27 t)) ?_ ?_ ?_
    · rfl
    · rfl
    intro M hT
    have ho := E.out_full hT rfl ep ec en
    iintro HP
    ihave HP := (E.pts_intro t fhp fhc fhn M).2 $$ HP
    icases HP with ⟨H9, H10, H11, H12, H8, HO, H1, H2, H3, H4, H5, H6, HP, HC, HN, HR⟩
    ihave HR := (E.rest_open t) $$ HR
    icases HR with ⟨SP, SC, SN, IP, IC, IN, SO, ⟨PO, HA⟩, HW⟩
    iapply (W_ite_self E.c)
    iapply (W_ite_self E.c)
    iapply (W_ite_self E.c)
    iapply (E.putO t t.isLt ho (cond11 t) (fun _ => slO_eq (off31 t)) (fun _ => blO_eq (off30 t)) (fun _ => sem_eq (off29 t))) $$ [HO SO HA]
    · isplitl [HO]; · iexact HO
      isplitl [SO] <;> iassumption
    iintro ⟨HF, HA⟩
    iapply W_pure
    iapply W_bind
    iapply (W_ite_self E.c)
    iapply (W_ite_self E.c)
    iapply (W_ite_self E.c)
    iapply (E.drainO t t.isLt (cond_pos (cond15 t)) (fun h => blO_eq (off33 t ((cond_pos (cond15 t)).mp h))) (fun _ => sem_eq (off32 t))) $$ [PO HA HW]
    · isplitl [PO]; · iexact PO
      isplitl [HA] <;> iassumption
    iintro ⟨OI, HA, HW⟩
    iapply W_pure
    iapply W_pure
    isplitr
    · ipureintro
      clear * - t
      iterate 9
        refine Prod.ext ?_ ?_
        · revert t; decide +kernel
      revert t; decide +kernel
    · isplitl [IP IC IN]
      · isplitl [IP]; · iexact IP
        isplitl [IC] <;> iassumption
      isplitl [HP HC HN SP SC SN]
      · iapply (E.idle_back t fhp fhc fhn) $$ [HP HC HN SP SC SN]
        isplitl [HP SP]
        · isplitl [HP] <;> iassumption
        isplitl [HC SC]
        · isplitl [HC] <;> iassumption
        · isplitl [HN] <;> iassumption
      isplitl [OI HF HA]
      · isplitl [OI]; · iexact OI
        isplitl [HF]
        · iapply (E.fly_back t) $$ HF
        · iexact HA
      isplitl [H8 H9 H10 H11 H12 H1 H2 H3 H4 H5 H6]
      · isplitl [H8]; · iexists M.f8; iexact H8
        isplitl [H9]; · iexists M.f9; iexact H9
        isplitl [H10]; · iexists M.f10; iexact H10
        isplitl [H11]; · iexists M.f11; iexact H11
        isplitl [H12]; · iexists M.f12; iexact H12
        isplitl [H1]; · iexact H1
        isplitl [H2]; · iexact H2
        isplitl [H3]; · iexact H3
        isplitl [H4]; · iexact H4
        isplitl [H5] <;> iassumption
      · iexact HW
  · iapply (E.pts_intro t fhp fhc fhn _).1
    iframe
    unfold Env.Rest InP InC InN
    iframe

end Cert.Proof.Ffn
end
-- ==== Proof.Body.lean ====
module

public import proofs.«01_k».proof.Proof.Trip

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! # The whole kernel: the first fetches, the loop, the last write -/

theorem off1 : k0_off1 = oM 0 := by decide +kernel
theorem off2 : k0_off2 = oS 0 := by decide +kernel
theorem off3 : k0_off3 = oP 0 := by decide +kernel
theorem off4 : k0_off4 = oS 0 := by decide +kernel
theorem off5 : k0_off5 = oN 0 := by decide +kernel
theorem off0 : (![0, 0, 0] : Fin 3 → ℕ) = oC 0 := by decide +kernel
theorem off35 : k0_off35 (cC 32) = oM 31 := by decide +kernel
theorem off36 : k0_off36 (cJ 32) (cI 32) = oC 31 := by decide +kernel
theorem chk6 : k0_chk6 (cC 32) := by decide +kernel
theorem chk7 : k0_chk7 (cJ 32) (cI 32) := by decide +kernel

section Wins
variable (c : Dev nD) (fa : a0.view.ty.Contents (Elt F)) (t : ℕ)

theorem startP {α : Type} {Ψ : α → sProp 𝕄} {o3 : Fin 3 → ℕ} {o4 : Fin 4 → ℕ} {o1 : Fin 1 → ℕ}
    {i3 : ∀ a, o3 a + S1x16x1024.size a ≤ S4x4096x1024.size a} {i4 : ∀ a, o4 a + S1x1x16x1024.size a ≤ S2x1x16x1024.size a} {i1 : ∀ a, o1 a + S1.size a ≤ S2.size a}
    {h1 : View.WordExact _} {h2 : View.WordExact _} {h3 : DmaTarget.Typed (p := (.tc : Proc τ)) (nD := nD) _ _ _} (e3 : o3 = oP t) (e4 : o4 = oS t) (e1 : o1 = oM t)
    {k : PUnit → Prog (TpuEff nD τ sig (Elt F) Λ₀ .tc) α} :
    IdleP c fa t ⊢ iprop((FlyP c fa t -∗ W c (k ⟨⟩) Ψ) -∗
      W c (Prog.lift (.enqueueDma (a0.slice (Rect.unit (s := S4x4096x1024) o3 S1x16x1024.size i3) (fun _ => rfl))
        (.here ((bP.slice (Rect.unit (s := S2x1x16x1024) o4 S1x1x16x1024.size i4) (fun _ => rfl)).squeeze S1x16x1024 squeezes_S1x1x16x1024_S1x16x1024))
        (.dma ((cc0_scoped1.slice (Rect.unit (s := S2) o1 S1.size i1)).squeeze S_ squeezes_S1_S_).sem) h1 h2 h3) >>= k) Ψ) :=
  wp_issue c (r := Rect.unit (s := S4x4096x1024) (oP t) S1x16x1024.size (oP_inb t)) (hr := fun _ => rfl) (dst := slP t) (sm := smP t)
    (src' := a0.slice (Rect.unit (s := S4x4096x1024) o3 S1x16x1024.size i3) (fun _ => rfl))
    (blP_eq e3) (slP_eq e4) (sem_eq e1) S16_pos

theorem startC {α : Type} {Ψ : α → sProp 𝕄} {o3 : Fin 3 → ℕ} {o4 : Fin 4 → ℕ} {o1 : Fin 1 → ℕ}
    {i3 : ∀ a, o3 a + S1x512x1024.size a ≤ S4x4096x1024.size a} {i4 : ∀ a, o4 a + S1x1x512x1024.size a ≤ S2x1x512x1024.size a} {i1 : ∀ a, o1 a + S1.size a ≤ S2.size a}
    {h1 : View.WordExact _} {h2 : View.WordExact _} {h3 : DmaTarget.Typed (p := (.tc : Proc τ)) (nD := nD) _ _ _} (e3 : o3 = oC t) (e4 : o4 = oS t) (e1 : o1 = oM t)
    {k : PUnit → Prog (TpuEff nD τ sig (Elt F) Λ₀ .tc) α} :
    IdleC c fa t ⊢ iprop((FlyC c fa t -∗ W c (k ⟨⟩) Ψ) -∗
      W c (Prog.lift (.enqueueDma (a0.slice (Rect.unit (s := S4x4096x1024) o3 S1x512x1024.size i3) (fun _ => rfl))
        (.here ((bC.slice (Rect.unit (s := S2x1x512x1024) o4 S1x1x512x1024.size i4) (fun _ => rfl)).squeeze S1x512x1024 squeezes_S1x1x512x1024_S1x512x1024))
        (.dma ((cc0_scoped3.slice (Rect.unit (s := S2) o1 S1.size i1)).squeeze S_ squeezes_S1_S_).sem) h1 h2 h3) >>= k) Ψ) :=
  wp_issue c (r := Rect.unit (s := S4x4096x1024) (oC t) S1x512x1024.size (oC_inb t)) (hr := fun _ => rfl) (dst := slC t) (sm := smC t)
    (src' := a0.slice (Rect.unit (s := S4x4096x1024) o3 S1x512x1024.size i3) (fun _ => rfl))
    (blC_eq e3) (slC_eq e4) (sem_eq e1) S512_pos

theorem startN {α : Type} {Ψ : α → sProp 𝕄} {o3 : Fin 3 → ℕ} {o4 : Fin 4 → ℕ} {o1 : Fin 1 → ℕ}
    {i3 : ∀ a, o3 a + S1x16x1024.size a ≤ S4x4096x1024.size a} {i4 : ∀ a, o4 a + S1x1x16x1024.size a ≤ S2x1x16x1024.size a} {i1 : ∀ a, o1 a + S1.size a ≤ S2.size a}
    {h1 : View.WordExact _} {h2 : View.WordExact _} {h3 : DmaTarget.Typed (p := (.tc : Proc τ)) (nD := nD) _ _ _} (e3 : o3 = oN t) (e4 : o4 = oS t) (e1 : o1 = oM t)
    {k : PUnit → Prog (TpuEff nD τ sig (Elt F) Λ₀ .tc) α} :
    IdleN c fa t ⊢ iprop((FlyN c fa t -∗ W c (k ⟨⟩) Ψ) -∗
      W c (Prog.lift (.enqueueDma (a0.slice (Rect.unit (s := S4x4096x1024) o3 S1x16x1024.size i3) (fun _ => rfl))
        (.here ((bN.slice (Rect.unit (s := S2x1x16x1024) o4 S1x1x16x1024.size i4) (fun _ => rfl)).squeeze S1x16x1024 squeezes_S1x1x16x1024_S1x16x1024))
        (.dma ((cc0_scoped5.slice (Rect.unit (s := S2) o1 S1.size i1)).squeeze S_ squeezes_S1_S_).sem) h1 h2 h3) >>= k) Ψ) :=
  wp_issue c (r := Rect.unit (s := S4x4096x1024) (oN t) S1x16x1024.size (oN_inb t)) (hr := fun _ => rfl) (dst := slN t) (sm := smN t)
    (src' := a0.slice (Rect.unit (s := S4x4096x1024) o3 S1x16x1024.size i3) (fun _ => rfl))
    (blN_eq e3) (slN_eq e4) (sem_eq e1) S16_pos

end Wins

variable (E : Env F)

/-- What the kernel holds before its first step and after its last, with the output at `g`. -/
def Env.Res (g : a7.view.ty.Contents (Elt F)) : sProp 𝕄 :=
  iprop((IdleP E.c E.fa 0 ∗ IdleC E.c E.fa 0 ∗ IdleN E.c E.fa 0) ∗ (IdleP E.c E.fa 1 ∗ IdleC E.c E.fa 1 ∗ IdleN E.c E.fa 1)
    ∗ (OIdle E.c 0 ∗ OIdle E.c 1 ∗ (a7.view.loc (E.c : Thread nD τ) ↦[Finset.univ]{fullShare} g)) ∗ E.Buf ∗ (∃ w, owes (E.c : Thread nD τ) 0 w))

theorem Env.inv_zero : iprop((FlyP E.c E.fa 0 ∗ FlyC E.c E.fa 0 ∗ FlyN E.c E.fa 0) ∗ (IdleP E.c E.fa 1 ∗ IdleC E.c E.fa 1 ∗ IdleN E.c E.fa 1)
    ∗ (OIdle E.c 0 ∗ OIdle E.c 1 ∗ (a7.view.loc (E.c : Thread nD τ) ↦[Finset.univ]{fullShare} E.go)) ∗ E.Buf ∗ (∃ w, owes (E.c : Thread nD τ) 0 w)) ⊢ E.Inv 0 := by
  unfold Env.Inv Env.Out oSet
  rw [InP_lt E.c E.fa (by decide : 0 < 32), InC_lt E.c E.fa (by decide : 0 < 32), InN_lt E.c E.fa (by decide : 0 < 32), if_neg (by decide : ¬ 0 < 0), if_pos rfl]
  exact .rfl

theorem Env.inv_last : E.Inv 32 ⊢ iprop((IdleP E.c E.fa 0 ∗ IdleC E.c E.fa 0 ∗ IdleN E.c E.fa 0) ∗ (IdleP E.c E.fa 1 ∗ IdleC E.c E.fa 1 ∗ IdleN E.c E.fa 1)
    ∗ (OIdle E.c 0 ∗ OFly E.c 31 (E.G 32) ∗ (a7.view.loc (E.c : Thread nD τ) ↦[Finset.univ \ bSet E.c 31]{fullShare} E.G 32)) ∗ E.Buf ∗ (∃ w, owes (E.c : Thread nD τ) 0 w)) := by
  unfold Env.Inv Env.Out oSet InP InC InN
  rw [if_neg (by decide : ¬ 32 < 32), if_neg (by decide : ¬ 32 < 32), if_neg (by decide : ¬ 32 < 32), if_pos (by decide : 0 < 32), if_neg (by decide : ¬ 32 = 0),
    IdleP_congr (c := E.c) (fa := E.fa) (t := 32) (u := 0) rfl, IdleC_congr (c := E.c) (fa := E.fa) (t := 32) (u := 0) rfl, IdleN_congr (c := E.c) (fa := E.fa) (t := 32) (u := 0) rfl,
    IdleP_congr (c := E.c) (fa := E.fa) (t := 32 + 1) (u := 1) rfl, IdleC_congr (c := E.c) (fa := E.fa) (t := 32 + 1) (u := 1) rfl, IdleN_congr (c := E.c) (fa := E.fa) (t := 32 + 1) (u := 1) rfl,
    OIdle_congr (c := E.c) (t := 32) (u := 0) rfl]

theorem Env.last_join : iprop((a7.view.loc (E.c : Thread nD τ) ↦[(blO 31).view.set]{fullShare} E.G 32) ∗ (a7.view.loc (E.c : Thread nD τ) ↦[Finset.univ \ bSet E.c 31]{fullShare} E.G 32))
    ⊢ (a7.view.loc (E.c : Thread nD τ) ↦[Finset.univ]{fullShare} E.G 32 : sProp 𝕄) :=
  (pointsTo_split_subset (ℓ := a7.view.loc (E.c : Thread nD τ)) (f := E.G 32) (q := fullShare) (Finset.subset_univ (bSet E.c 31))).2

theorem trips_eq : Scf.trips k0_t1_loop.lb k0_t1_loop.ub k0_t1_loop.st = 32 := by decide +kernel

theorem Env.inv_trips : E.Inv (Scf.trips k0_t1_loop.lb k0_t1_loop.ub k0_t1_loop.st) ⊢ iprop((IdleP E.c E.fa 0 ∗ IdleC E.c E.fa 0 ∗ IdleN E.c E.fa 0) ∗ (IdleP E.c E.fa 1 ∗ IdleC E.c E.fa 1 ∗ IdleN E.c E.fa 1)
    ∗ (OIdle E.c 0 ∗ OFly E.c 31 (E.G 32) ∗ (a7.view.loc (E.c : Thread nD τ) ↦[Finset.univ \ bSet E.c 31]{fullShare} E.G 32)) ∗ E.Buf ∗ (∃ w, owes (E.c : Thread nD τ) 0 w)) := by
  rw [trips_eq]
  exact E.inv_last

theorem Env.idle_last : OIdle (F := F) E.c 31 ⊢ OIdle E.c 1 := by rw [OIdle_congr (c := E.c) (t := 31) (u := 1) rfl]

set_option maxHeartbeats 4000000
set_option maxRecDepth 65536

theorem body : E.Res E.go ⊢ W E.c (cc0_ffn a0 (Memref.isWhole_whole _) E.a1 E.h1 E.a2 E.h2 E.a3 E.h3 E.a4 E.h4 E.a5 E.h5 E.a6 E.h6 a7 (Memref.isWhole_whole _)
      s8 (Memref.isWhole_whole _) s9 (Memref.isWhole_whole _) s10 (Memref.isWhole_whole _) s11 (Memref.isWhole_whole _) s12 (Memref.isWhole_whole _)
      bP (Memref.isWhole_whole _) cc0_scoped1 bC (Memref.isWhole_whole _) cc0_scoped3 bN (Memref.isWhole_whole _) cc0_scoped5 bO (Memref.isWhole_whole _) cc0_scoped7)
      (fun _ => E.Res (E.G 32)) := by
  rw [cc0_ffn_eq_skeleton]
  unfold cc0_ffn_skel
  rw [k0_part437_eq_skeleton, k0_part438_eq_skeleton, k0_part439_eq_skeleton]
  unfold k0_part437_skel k0_part438_skel k0_part439_skel Env.Res
  iintro ⟨⟨HP, HC, HN⟩, HI, HO, HB, HW⟩
  iapply W_bind
  iapply W_pure
  iapply W_bind
  iapply (startP E.c E.fa 0 off3 off2 off1) $$ HP
  iintro HP
  iapply (startC E.c E.fa 0 off0 off4 off1) $$ HC
  iintro HC
  iapply (startN E.c E.fa 0 off5 off2 off1) $$ HN
  iintro HN
  iapply W_pure
  iapply W_bind
  ihave HI := (E.inv_zero) $$ [HP HC HN HI HO HB HW]
  · isplitl [HP HC HN]
    · isplitl [HP]; · iexact HP
      isplitl [HC] <;> iassumption
    isplitl [HI]; · iexact HI
    isplitl [HO]; · iexact HO
    isplitl [HB] <;> iassumption
  iapply (Scf.wp_for_bind Idealize.ShloMosaic.frame (wpE (defs₀ (F := F)) 𝒱₀ (E.c : Thread nD τ) none) Set.univ k0_t1_loop.lb k0_t1_loop.ub k0_t1_loop.st k0_t1_ok _ _
    (fun k r => iprop(⌜r = tup k⌝ ∗ E.Inv k)) ?_) $$ [HI]
  · intro t r
    iintro ⟨%hr, HI⟩
    subst hr
    iapply (trip E t) $$ HI
  · isplitr
    · ipureintro
      rfl
    · iexact HI
  iintro %r ⟨%hr, HI⟩
  have hr2 : r = tup 32 := hr.trans (congrArg tup trips_eq)
  subst hr2
  unfold tup
  iapply (W_assume E.c chk7)
  iapply (W_assume E.c chk6)
  iapply W_pure
  ihave HI := (E.inv_trips) $$ HI
  icases HI with ⟨HP, HI, ⟨HO, HF, HA⟩, HB, HW⟩
  iapply (wp_drain E.c (blO_eq off36) (sem_eq off35) (t := 31)) $$ [HF HW]
  · isplitl [HF] <;> iassumption
  iintro ⟨HO', Ha⟩ HW
  ihave HA := (E.last_join) $$ [Ha HA]
  · isplitl [Ha] <;> iassumption
  iapply W_pure
  isplitl [HP]; · iexact HP
  isplitl [HI]; · iexact HI
  isplitl [HO HO' HA]
  · isplitl [HO]; · iexact HO
    isplitl [HO']
    · iapply (E.idle_last) $$ HO'
    · iexact HA
  isplitl [HB] <;> iassumption

end Cert.Proof.Ffn
end
-- ==== Proof.Launch.lean ====
/-
  The launch: from the machine's first state to the kernel and back. One run, over any float values.
-/
module

public import proofs.«01_k».proof.Proof.Body
public import proofs.«01_k».proof.Proof.Gen.KernelIdeal.Frame
public import proofs.«01_k».proof.Proof.Gen.KernelIdeal.Points
public import Idealize.ShloMosaic.Lib.Pipeline.KitQuiescent
public import Idealize.ShloMosaic.Lib.Ring

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## The kernel's semaphores -/

abbrev osem : Fin 8 → SemLoc sig :=
  ![.dma (smP 0), .dma (smC 0), .dma (smN 0), .dma (smO 0), .dma (smP 1), .dma (smC 1), .dma (smN 1), .dma (smO 1)]

theorem ownSemFacts : Pipeline.OwnSemFacts spec0 osem := by decide +kernel

theorem ownSems0_eq (c : Dev nD) : (Pipeline.ownSems0 (Ix := Unit) (Name := ℕ) (U := UU nD τ) (Lvl := ℕ) (Val := Elt F) (τ := τ) osem c : sProp 𝕄)
    = iprop(semVal ((c : Thread nD τ), SemLoc.dma (smP 0)) 0 ∗ semVal ((c : Thread nD τ), SemLoc.dma (smC 0)) 0
      ∗ semVal ((c : Thread nD τ), SemLoc.dma (smN 0)) 0 ∗ semVal ((c : Thread nD τ), SemLoc.dma (smO 0)) 0
      ∗ semVal ((c : Thread nD τ), SemLoc.dma (smP 1)) 0 ∗ semVal ((c : Thread nD τ), SemLoc.dma (smC 1)) 0
      ∗ semVal ((c : Thread nD τ), SemLoc.dma (smN 1)) 0 ∗ semVal ((c : Thread nD τ), SemLoc.dma (smO 1)) 0) := by
  unfold Pipeline.ownSems0
  exact bigSep_univ_eq_bigSepL [(0 : Fin 8), 1, 2, 3, 4, 5, 6, 7] (by decide) (by decide) _

/-! ## The double buffers and their two slots -/

theorem mem_slot16 (s : ℕ) (y : S2x1x16x1024.Idx) :
    y ∈ (Rect.unit (s := S2x1x16x1024) (oS s) S1x1x16x1024.size (oS_inb s)).set ↔ (y 0).val = s % 2 := by
  rw [Rect.mem_set_unit]
  have h1 : (y 1).val < 1 := (y 1).isLt
  have h2 : (y 2).val < 16 := (y 2).isLt
  have h3 : (y 3).val < 1024 := (y 3).isLt
  constructor
  · intro H; have a0 : s % 2 ≤ (y 0).val ∧ (y 0).val < s % 2 + 1 := H 0; omega
  · intro H i; fin_cases i
    · show s % 2 ≤ (y 0).val ∧ (y 0).val < s % 2 + 1; omega
    · show 0 ≤ (y 1).val ∧ (y 1).val < 0 + 1; omega
    · show 0 ≤ (y 2).val ∧ (y 2).val < 0 + 16; omega
    · show 0 ≤ (y 3).val ∧ (y 3).val < 0 + 1024; omega

theorem mem_slot512 (s : ℕ) (y : S2x1x512x1024.Idx) :
    y ∈ (Rect.unit (s := S2x1x512x1024) (oS s) S1x1x512x1024.size (oS_inb' s)).set ↔ (y 0).val = s % 2 := by
  rw [Rect.mem_set_unit]
  have h1 : (y 1).val < 1 := (y 1).isLt
  have h2 : (y 2).val < 512 := (y 2).isLt
  have h3 : (y 3).val < 1024 := (y 3).isLt
  constructor
  · intro H; have a0 : s % 2 ≤ (y 0).val ∧ (y 0).val < s % 2 + 1 := H 0; omega
  · intro H i; fin_cases i
    · show s % 2 ≤ (y 0).val ∧ (y 0).val < s % 2 + 1; omega
    · show 0 ≤ (y 1).val ∧ (y 1).val < 0 + 1; omega
    · show 0 ≤ (y 2).val ∧ (y 2).val < 0 + 512; omega
    · show 0 ≤ (y 3).val ∧ (y 3).val < 0 + 1024; omega

theorem slP_set (s : ℕ) : (slP s).view.set = (Rect.unit (s := S2x1x16x1024) (oS s) S1x1x16x1024.size (oS_inb s)).set :=
  (View.set_reshape _ _).trans (View.set_slice_whole _ _)
theorem slC_set (s : ℕ) : (slC s).view.set = (Rect.unit (s := S2x1x512x1024) (oS s) S1x1x512x1024.size (oS_inb' s)).set :=
  (View.set_reshape _ _).trans (View.set_slice_whole _ _)
theorem slN_set (s : ℕ) : (slN s).view.set = (Rect.unit (s := S2x1x16x1024) (oS s) S1x1x16x1024.size (oS_inb s)).set :=
  (View.set_reshape _ _).trans (View.set_slice_whole _ _)
theorem slO_set (s : ℕ) : (slO s).view.set = (Rect.unit (s := S2x1x512x1024) (oS s) S1x1x512x1024.size (oS_inb' s)).set :=
  (View.set_reshape _ _).trans (View.set_slice_whole _ _)

abbrev I16 (s : Fin 2) : Finset S2x1x16x1024.Idx := (Rect.unit (s := S2x1x16x1024) (oS s.val) S1x1x16x1024.size (oS_inb s.val)).set
abbrev I512 (s : Fin 2) : Finset S2x1x512x1024.Idx := (Rect.unit (s := S2x1x512x1024) (oS s.val) S1x1x512x1024.size (oS_inb' s.val)).set

theorem I16_disjoint : ∀ s u : Fin 2, s ≠ u → Disjoint (I16 s) (I16 u) := by
  intro s u h; rw [Finset.disjoint_left]; intro y hy hz; rw [mem_slot16] at hy hz; apply h; ext; omega
theorem I512_disjoint : ∀ s u : Fin 2, s ≠ u → Disjoint (I512 s) (I512 u) := by
  intro s u h; rw [Finset.disjoint_left]; intro y hy hz; rw [mem_slot512] at hy hz; apply h; ext; omega
theorem I16_cover : (Finset.univ : Finset (Fin 2)).biUnion I16 = Finset.univ := by
  ext y
  simp only [Finset.mem_biUnion, Finset.mem_univ, true_and, iff_true]
  have h : (y 0).val < 2 := (y 0).isLt
  exact ⟨⟨(y 0).val, h⟩, by rw [mem_slot16]; show (y 0).val = (y 0).val % 2; omega⟩
theorem I512_cover : (Finset.univ : Finset (Fin 2)).biUnion I512 = Finset.univ := by
  ext y
  simp only [Finset.mem_biUnion, Finset.mem_univ, true_and, iff_true]
  have h : (y 0).val < 2 := (y 0).isLt
  exact ⟨⟨(y 0).val, h⟩, by rw [mem_slot512]; show (y 0).val = (y 0).val % 2; omega⟩

omit [FloatOps F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

theorem of_eq {P Q : sProp 𝕄} (h : P = Q) : P ⊢ Q := h ▸ .rfl

/-- A buffer whole, as two slots, -/
theorem split2 {ℓ : Loc nD τ sig} (I : Fin 2 → Finset (Idx ℓ)) (hd : ∀ s u, s ≠ u → Disjoint (I s) (I u)) (hc : Finset.univ.biUnion I = Finset.univ) :
    iprop(∃ f : Buf (Elt F) ℓ, ℓ ↦{fullShare} f) ⊢ (iprop((∃ f : Buf (Elt F) ℓ, ℓ ↦[I 0]{fullShare} f) ∗ (∃ f : Buf (Elt F) ℓ, ℓ ↦[I 1]{fullShare} f)) : sProp 𝕄) := by
  iintro ⟨%f, H⟩
  ihave H2 := (of_eq ((Ring.pointsTo_blocks (Ix := Unit) (Name := ℕ) (U := UU nD τ) (Lvl := ℕ) (q := fullShare) (ℓ := ℓ) I hd hc f).trans (bigSep_fin2 _))) $$ H
  icases H2 with ⟨H0, H1⟩
  isplitl [H0] <;> iexists f <;> iassumption

/-- and back. -/
theorem join2 {ℓ : Loc nD τ sig} (I : Fin 2 → Finset (Idx ℓ)) (hd : ∀ s u, s ≠ u → Disjoint (I s) (I u)) (hc : Finset.univ.biUnion I = Finset.univ) :
    (iprop((∃ f : Buf (Elt F) ℓ, ℓ ↦[I 0]{fullShare} f) ∗ (∃ f : Buf (Elt F) ℓ, ℓ ↦[I 1]{fullShare} f)) : sProp 𝕄) ⊢ iprop(∃ f : Buf (Elt F) ℓ, ℓ ↦{fullShare} f) := by
  iintro ⟨⟨%f0, H0⟩, H1⟩
  iapply (Ring.pointsTo_blocks_join_exists (ℓ := ℓ) I hd hc f0)
  irw [bigSep_fin2]
  isplitl [H0]
  · iexists f0; iexact H0
  · iexact H1

/-- The two slots of each buffer, at anything. -/
def TwoP (c : Dev nD) : sProp 𝕄 := iprop((∃ f : (slP 0).view.ty.Contents (Elt F), ptw c (slP 0) f) ∗ (∃ f : (slP 1).view.ty.Contents (Elt F), ptw c (slP 1) f))
def TwoC (c : Dev nD) : sProp 𝕄 := iprop((∃ f : (slC 0).view.ty.Contents (Elt F), ptw c (slC 0) f) ∗ (∃ f : (slC 1).view.ty.Contents (Elt F), ptw c (slC 1) f))
def TwoN (c : Dev nD) : sProp 𝕄 := iprop((∃ f : (slN 0).view.ty.Contents (Elt F), ptw c (slN 0) f) ∗ (∃ f : (slN 1).view.ty.Contents (Elt F), ptw c (slN 1) f))
def TwoO (c : Dev nD) : sProp 𝕄 := iprop((∃ f : (slO 0).view.ty.Contents (Elt F), ptw c (slO 0) f) ∗ (∃ f : (slO 1).view.ty.Contents (Elt F), ptw c (slO 1) f))

theorem twoP_eq (c : Dev nD) : (TwoP c : sProp 𝕄) = iprop((∃ f : Buf (Elt F) ((c : Thread nD τ).loc cc0_scoped0), ((c : Thread nD τ).loc cc0_scoped0) ↦[I16 0]{fullShare} f) ∗ (∃ f : Buf (Elt F) ((c : Thread nD τ).loc cc0_scoped0), ((c : Thread nD τ).loc cc0_scoped0) ↦[I16 1]{fullShare} f)) := by
  unfold TwoP ptw; rw [slP_set, slP_set]; rfl
theorem twoC_eq (c : Dev nD) : (TwoC c : sProp 𝕄) = iprop((∃ f : Buf (Elt F) ((c : Thread nD τ).loc cc0_scoped2), ((c : Thread nD τ).loc cc0_scoped2) ↦[I512 0]{fullShare} f) ∗ (∃ f : Buf (Elt F) ((c : Thread nD τ).loc cc0_scoped2), ((c : Thread nD τ).loc cc0_scoped2) ↦[I512 1]{fullShare} f)) := by
  unfold TwoC ptw; rw [slC_set, slC_set]; rfl
theorem twoN_eq (c : Dev nD) : (TwoN c : sProp 𝕄) = iprop((∃ f : Buf (Elt F) ((c : Thread nD τ).loc cc0_scoped4), ((c : Thread nD τ).loc cc0_scoped4) ↦[I16 0]{fullShare} f) ∗ (∃ f : Buf (Elt F) ((c : Thread nD τ).loc cc0_scoped4), ((c : Thread nD τ).loc cc0_scoped4) ↦[I16 1]{fullShare} f)) := by
  unfold TwoN ptw; rw [slN_set, slN_set]; rfl
theorem twoO_eq (c : Dev nD) : (TwoO c : sProp 𝕄) = iprop((∃ f : Buf (Elt F) ((c : Thread nD τ).loc cc0_scoped6), ((c : Thread nD τ).loc cc0_scoped6) ↦[I512 0]{fullShare} f) ∗ (∃ f : Buf (Elt F) ((c : Thread nD τ).loc cc0_scoped6), ((c : Thread nD τ).loc cc0_scoped6) ↦[I512 1]{fullShare} f)) := by
  unfold TwoO ptw; rw [slO_set, slO_set]; rfl

theorem splitP (c : Dev nD) : iprop(∃ f : Buf (Elt F) ((c : Thread nD τ).loc cc0_scoped0), ((c : Thread nD τ).loc cc0_scoped0) ↦{fullShare} f) ⊢ (TwoP c : sProp 𝕄) := by
  rw [twoP_eq]
  exact split2 (ℓ := (c : Thread nD τ).loc cc0_scoped0) I16 I16_disjoint I16_cover
theorem joinP (c : Dev nD) : (TwoP c : sProp 𝕄) ⊢ iprop(∃ f : Buf (Elt F) ((c : Thread nD τ).loc cc0_scoped0), ((c : Thread nD τ).loc cc0_scoped0) ↦{fullShare} f) := by
  rw [twoP_eq]
  exact join2 (ℓ := (c : Thread nD τ).loc cc0_scoped0) I16 I16_disjoint I16_cover
theorem splitC (c : Dev nD) : iprop(∃ f : Buf (Elt F) ((c : Thread nD τ).loc cc0_scoped2), ((c : Thread nD τ).loc cc0_scoped2) ↦{fullShare} f) ⊢ (TwoC c : sProp 𝕄) := by
  rw [twoC_eq]
  exact split2 (ℓ := (c : Thread nD τ).loc cc0_scoped2) I512 I512_disjoint I512_cover
theorem joinC (c : Dev nD) : (TwoC c : sProp 𝕄) ⊢ iprop(∃ f : Buf (Elt F) ((c : Thread nD τ).loc cc0_scoped2), ((c : Thread nD τ).loc cc0_scoped2) ↦{fullShare} f) := by
  rw [twoC_eq]
  exact join2 (ℓ := (c : Thread nD τ).loc cc0_scoped2) I512 I512_disjoint I512_cover
theorem splitN (c : Dev nD) : iprop(∃ f : Buf (Elt F) ((c : Thread nD τ).loc cc0_scoped4), ((c : Thread nD τ).loc cc0_scoped4) ↦{fullShare} f) ⊢ (TwoN c : sProp 𝕄) := by
  rw [twoN_eq]
  exact split2 (ℓ := (c : Thread nD τ).loc cc0_scoped4) I16 I16_disjoint I16_cover
theorem joinN (c : Dev nD) : (TwoN c : sProp 𝕄) ⊢ iprop(∃ f : Buf (Elt F) ((c : Thread nD τ).loc cc0_scoped4), ((c : Thread nD τ).loc cc0_scoped4) ↦{fullShare} f) := by
  rw [twoN_eq]
  exact join2 (ℓ := (c : Thread nD τ).loc cc0_scoped4) I16 I16_disjoint I16_cover
theorem splitO (c : Dev nD) : iprop(∃ f : Buf (Elt F) ((c : Thread nD τ).loc cc0_scoped6), ((c : Thread nD τ).loc cc0_scoped6) ↦{fullShare} f) ⊢ (TwoO c : sProp 𝕄) := by
  rw [twoO_eq]
  exact split2 (ℓ := (c : Thread nD τ).loc cc0_scoped6) I512 I512_disjoint I512_cover
theorem joinO (c : Dev nD) : (TwoO c : sProp 𝕄) ⊢ iprop(∃ f : Buf (Elt F) ((c : Thread nD τ).loc cc0_scoped6), ((c : Thread nD τ).loc cc0_scoped6) ↦{fullShare} f) := by
  rw [twoO_eq]
  exact join2 (ℓ := (c : Thread nD τ).loc cc0_scoped6) I512 I512_disjoint I512_cover

/-- A scratch buffer, as the kernel holds it and as the launch does. -/
theorem scr_eq (c : Dev nD) {s : Shape} {e : EltTy} (st : Memref sig .tc .vmem s e) (h : st.view.set = Finset.univ) :
    (iprop(∃ f, ptw c st f) : sProp 𝕄) = iprop(∃ f : Buf (Elt F) (st.view.loc (c : Thread nD τ)), st.view.loc (c : Thread nD τ) ↦{fullShare} f) := by
  unfold ptw; rw [h]

/-! ## The input's shares -/

theorem toks (c : Dev nD) (fa : a0.view.ty.Contents (Elt F)) :
    (a0.view.loc (c : Thread nD τ) ↦[Finset.univ]{fullShare} fa : sProp 𝕄) ⊣⊢ iprop((a0.view.loc (c : Thread nD τ) ↦[Finset.univ]{Transfers.shareDrop fullShare 6} fa)
      ∗ (a0.view.loc (c : Thread nD τ) ↦[Finset.univ]{qq 0 0} fa) ∗ (a0.view.loc (c : Thread nD τ) ↦[Finset.univ]{qq 0 1} fa)
      ∗ (a0.view.loc (c : Thread nD τ) ↦[Finset.univ]{qq 1 0} fa) ∗ (a0.view.loc (c : Thread nD τ) ↦[Finset.univ]{qq 1 1} fa)
      ∗ (a0.view.loc (c : Thread nD τ) ↦[Finset.univ]{qq 2 0} fa) ∗ (a0.view.loc (c : Thread nD τ) ↦[Finset.univ]{qq 2 1} fa)) := by
  have h := Transfers.pointsTo_toks (Ix := Unit) (Name := ℕ) (U := UU nD τ) (Lvl := ℕ) (ℓ := a0.view.loc (c : Thread nD τ)) (S := Finset.univ) (f := fa) fullShare 6
  rw [bigSep_univ_eq_bigSepL [(0 : Fin 6), 1, 2, 3, 4, 5] (by decide) (by decide) _] at h
  exact h

/-! ## The region's invariant -/

section Launch
variable (m : (ℓ : Loc nD τ sig) → Buf (Elt F) ℓ) (ρ : Dev nD → PrngReg)

/-- What the kernel runs on. -/
@[reducible] def env (c : Dev nD) (t : Fin cfg0.N) : Env F where
  c := c
  a1 := st0_0 t
  h1 := hstage0_0 0
  a2 := st0_1 t
  h2 := hstage0_1 0
  a3 := st0_2 t
  h3 := hstage0_2 0
  a4 := st0_3 t
  h4 := hstage0_3 0
  a5 := st0_4 t
  h5 := hstage0_4 0
  a6 := st0_5 t
  h6 := hstage0_5 0
  f1 := (st0_0 t).view.rep (iblk m c 0 t)
  f2 := (st0_1 t).view.rep (iblk m c 1 t)
  f3 := (st0_2 t).view.rep (iblk m c 2 t)
  f4 := (st0_3 t).view.rep (iblk m c 3 t)
  f5 := (st0_4 t).view.rep (iblk m c 4 t)
  f6 := (st0_5 t).view.rep (iblk m c 5 t)
  fa := V m c main_arg0
  go := V m c main_v10

/-- The output array after the call. -/
def OUT (c : Dev nD) : a7.view.ty.Contents (Elt F) := (env m c t0_0).G 32

/-- What the region holds of its own between its first step and its last: the input whole, the output at `g`, every
    slot and scratch buffer at anything, every counter at zero. -/
def Φ (c : Dev nD) (g : a7.view.ty.Contents (Elt F)) : sProp 𝕄 :=
  iprop((a0.view.loc (c : Thread nD τ) ↦[Finset.univ]{fullShare} V m c main_arg0) ∗ (a7.view.loc (c : Thread nD τ) ↦[Finset.univ]{fullShare} g)
    ∗ Pipeline.ownSems0 osem c ∗ (TwoP c ∗ TwoC c ∗ TwoN c ∗ TwoO c)
    ∗ ((∃ f, ptw c s8 f) ∗ (∃ f, ptw c s9 f) ∗ (∃ f, ptw c s10 f) ∗ (∃ f, ptw c s11 f) ∗ (∃ f, ptw c s12 f)))

/-- The weights in their buffers. -/
def Wts (E : Env F) : sProp 𝕄 :=
  iprop(ptw E.c E.a1 E.f1 ∗ ptw E.c E.a2 E.f2 ∗ ptw E.c E.a3 E.f3 ∗ ptw E.c E.a4 E.f4 ∗ ptw E.c E.a5 E.f5 ∗ ptw E.c E.a6 E.f6)

theorem res_of (c : Dev nD) (t : Fin cfg0.N) (g : a7.view.ty.Contents (Elt F)) :
    iprop(Φ m c g ∗ Wts (env m c t) ∗ ∃ w, owes (c : Thread nD τ) 0 w)
      ⊢ iprop((a0.view.loc (c : Thread nD τ) ↦[Finset.univ]{Transfers.shareDrop fullShare 6} V m c main_arg0) ∗ (env m c t).Res g) := by
  unfold Φ Env.Res Env.Buf IdleP IdleC IdleN OIdle Idle TwoP TwoC TwoN TwoO Wts
  rw [ownSems0_eq]
  iintro ⟨⟨HA, HG, ⟨Q0, Q1, Q2, Q3, R0, R1, R2, R3⟩, ⟨⟨P0, P1⟩, ⟨C0, C1⟩, ⟨N0, N1⟩, ⟨O0, O1⟩⟩, ⟨B8, B9, B10, B11, B12⟩⟩, HW, Hw⟩
  ihave HA := ((toks c (V m c main_arg0)).1) $$ HA
  icases HA with ⟨HD, A0, A1, A2, A3, A4, A5⟩
  isplitl [HD]; · iexact HD
  isplitl [Q0 Q1 Q2 A0 A2 A4 P0 C0 N0]
  · isplitl [Q0 A0 P0]
    · isplitl [P0]; · iexact P0
      isplitl [Q0]; · iexact Q0
      iexact A0
    isplitl [Q1 A2 C0]
    · isplitl [C0]; · iexact C0
      isplitl [Q1]; · iexact Q1
      iexact A2
    isplitl [N0]; · iexact N0
    isplitl [Q2]; · iexact Q2
    iexact A4
  isplitl [R0 R1 R2 A1 A3 A5 P1 C1 N1]
  · isplitl [R0 A1 P1]
    · isplitl [P1]; · iexact P1
      isplitl [R0]; · iexact R0
      iexact A1
    isplitl [R1 A3 C1]
    · isplitl [C1]; · iexact C1
      isplitl [R1]; · iexact R1
      iexact A3
    isplitl [N1]; · iexact N1
    isplitl [R2]; · iexact R2
    iexact A5
  isplitl [Q3 R3 O0 O1 HG]
  · isplitl [Q3 O0]
    · isplitl [O0]; · iexact O0
      iexact Q3
    isplitl [R3 O1]
    · isplitl [O1]; · iexact O1
      iexact R3
    iexact HG
  isplitl [B8 B9 B10 B11 B12 HW]
  · isplitl [B8]; · iexact B8
    isplitl [B9]; · iexact B9
    isplitl [B10]; · iexact B10
    isplitl [B11]; · iexact B11
    isplitl [B12]; · iexact B12
    iexact HW
  iexact Hw

theorem of_res (c : Dev nD) (t : Fin cfg0.N) (g : a7.view.ty.Contents (Elt F)) :
    iprop((a0.view.loc (c : Thread nD τ) ↦[Finset.univ]{Transfers.shareDrop fullShare 6} V m c main_arg0) ∗ (env m c t).Res g)
      ⊢ iprop(Φ m c g ∗ Wts (env m c t) ∗ ∃ w, owes (c : Thread nD τ) 0 w) := by
  unfold Φ Env.Res Env.Buf IdleP IdleC IdleN OIdle Idle TwoP TwoC TwoN TwoO Wts
  rw [ownSems0_eq]
  iintro ⟨HD, ⟨⟨P0, Q0, A0⟩, ⟨C0, Q1, A2⟩, ⟨N0, Q2, A4⟩⟩, ⟨⟨P1, R0, A1⟩, ⟨C1, R1, A3⟩, ⟨N1, R2, A5⟩⟩, ⟨⟨O0, Q3⟩, ⟨O1, R3⟩, HG⟩, ⟨B8, B9, B10, B11, B12, HW⟩, Hw⟩
  isplitr [HW Hw]
  · isplitl [HD A0 A1 A2 A3 A4 A5]
    · iapply ((toks c (V m c main_arg0)).2)
      isplitl [HD]; · iexact HD
      isplitl [A0]; · iexact A0
      isplitl [A1]; · iexact A1
      isplitl [A2]; · iexact A2
      isplitl [A3]; · iexact A3
      isplitl [A4]; · iexact A4
      iexact A5
    isplitl [HG]; · iexact HG
    isplitl [Q0 Q1 Q2 Q3 R0 R1 R2 R3]
    · isplitl [Q0]; · iexact Q0
      isplitl [Q1]; · iexact Q1
      isplitl [Q2]; · iexact Q2
      isplitl [Q3]; · iexact Q3
      isplitl [R0]; · iexact R0
      isplitl [R1]; · iexact R1
      isplitl [R2]; · iexact R2
      iexact R3
    isplitl [P0 P1 C0 C1 N0 N1 O0 O1]
    · isplitl [P0 P1]
      · isplitl [P0]; · iexact P0
        iexact P1
      isplitl [C0 C1]
      · isplitl [C0]; · iexact C0
        iexact C1
      isplitl [N0 N1]
      · isplitl [N0]; · iexact N0
        iexact N1
      isplitl [O0]; · iexact O0
      iexact O1
    isplitl [B8]; · iexact B8
    isplitl [B9]; · iexact B9
    isplitl [B10]; · iexact B10
    isplitl [B11]; · iexact B11
    iexact B12
  isplitl [HW]; · iexact HW
  iexact Hw

/-! ## The pipeline's proof data -/

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ t := Φ m c (if t.val = 0 then V m c main_v10 else OUT m c)
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem after_w0 (c : Dev nD) (t : Fin cfg0.N) : (dats m 0 c).after 0 t = iblk m c 0 t := by dsimp only [dats]
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w1 (c : Dev nD) (t : Fin cfg0.N) : (dats m 0 c).after 1 t = iblk m c 1 t := by dsimp only [dats]
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem after_w2 (c : Dev nD) (t : Fin cfg0.N) : (dats m 0 c).after 2 t = iblk m c 2 t := by dsimp only [dats]
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem after_w3 (c : Dev nD) (t : Fin cfg0.N) : (dats m 0 c).after 3 t = iblk m c 3 t := by dsimp only [dats]
theorem before_w4 (c : Dev nD) (t : Fin cfg0.N) (d) : (dats m 0 c).before 4 t d = iblk m c 4 t := by
  unfold Dat.before; rw [if_pos (fetch0_4 t)]; unfold Dat.fetched Dat.blockOf iblk; dsimp only [dats]; rfl
theorem after_w4 (c : Dev nD) (t : Fin cfg0.N) : (dats m 0 c).after 4 t = iblk m c 4 t := by dsimp only [dats]
theorem before_w5 (c : Dev nD) (t : Fin cfg0.N) (d) : (dats m 0 c).before 5 t d = iblk m c 5 t := by
  unfold Dat.before; rw [if_pos (fetch0_5 t)]; unfold Dat.fetched Dat.blockOf iblk; dsimp only [dats]; rfl
theorem after_w5 (c : Dev nD) (t : Fin cfg0.N) : (dats m 0 c).after 5 t = iblk m c 5 t := by dsimp only [dats]

theorem defs_tc : (defs₀ (F := F)) .tc cfg0.body
    = fun a => cc0_ffn a0 (Memref.isWhole_whole _) (win0_0.stage (a.2 0)) (hstage0_0 0) (win0_1.stage (a.2 1)) (hstage0_1 0)
      (win0_2.stage (a.2 2)) (hstage0_2 0) (win0_3.stage (a.2 3)) (hstage0_3 0) (win0_4.stage (a.2 4)) (hstage0_4 0) (win0_5.stage (a.2 5)) (hstage0_5 0)
      a7 (Memref.isWhole_whole _) s8 (Memref.isWhole_whole _) s9 (Memref.isWhole_whole _) s10 (Memref.isWhole_whole _) s11 (Memref.isWhole_whole _) s12 (Memref.isWhole_whole _)
      bP (Memref.isWhole_whole _) cc0_scoped1 bC (Memref.isWhole_whole _) cc0_scoped3 bN (Memref.isWhole_whole _) cc0_scoped5 bO (Memref.isWhole_whole _) cc0_scoped7 := rfl
theorem prog_eq (t : Fin cfg0.N) : (defs₀ (F := F)) .tc cfg0.body (cfg0.bodyArgs t (cfg0.slots t)) = bodyAt0 t :=
  (congrFun defs_tc _).trans rfl

theorem out_eq (c : Dev nD) (t : Fin cfg0.N) : (env m c t).G 32 = OUT m c := by rw [fin_N0 t]; rfl

/-- The kernel at the region's one point. -/
theorem run_body (c : Dev nD) (t : Fin cfg0.N) :
    iprop(Φ m c (V m c main_v10) ∗ Wts (env m c t) ∗ ∃ w, owes (c : Thread nD τ) 0 w)
      ⊢ W c (bodyAt0 t) (fun _ => iprop(Φ m c (OUT m c) ∗ Wts (env m c t) ∗ ∃ w, owes (c : Thread nD τ) 0 w)) := by
  rw [← out_eq m c t]
  exact (res_of m c t (V m c main_v10)).trans ((sep_mono .rfl (body (env m c t))).trans
    ((wp_frame_l _ _ _).trans (wp_mono _ _ _ fun _ => of_res m c t ((env m c t).G 32))))

theorem run_wand (c : Dev nD) (t : Fin cfg0.N) {Q : PUnit → sProp 𝕄} :
    iprop(Φ m c (V m c main_v10) ∗ Wts (env m c t) ∗ ∃ w, owes (c : Thread nD τ) 0 w)
      ⊢ iprop((∀ r, iprop(Φ m c (OUT m c) ∗ Wts (env m c t) ∗ ∃ w, owes (c : Thread nD τ) 0 w) -∗ Q r) -∗ W c (bodyAt0 t) Q) :=
  (run_body m c t).trans (wp_wand _ _ _)

set_option maxHeartbeats 4000000 in
set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, before_w2, before_w3, before_w4, before_w5, after_w0, after_w1, after_w2, after_w3, after_w4, after_w5]
  have ht : t.val = 0 := by rw [fin_N0 t]; rfl
  rw [show (dats m 0 c).Φ t.castSucc = Φ m c (V m c main_v10) from by
      show Φ m c (if t.val = 0 then _ else _) = _; rw [if_pos ht],
    show (dats m 0 c).Φ t.succ = Φ m c (OUT m c) from by
      show Φ m c (if t.val + 1 = 0 then _ else _) = _; rw [if_neg (by omega)]]
  unfold Dat.owesAt Pipeline.owesWithin
  rw [show (dats m 0 c).owed t.castSucc = 0 from rfl, show (dats m 0 c).owed t.succ = 0 from rfl]
  unfold owns
  iintro ⟨HΦ, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  ihave H0 := (pointsTo_rep_entails (c : Thread nD τ) (st0_0 t) g0 fullShare) $$ H0
  ihave H1 := (pointsTo_rep_entails (c : Thread nD τ) (st0_1 t) g1 fullShare) $$ H1
  ihave H2 := (pointsTo_rep_entails (c : Thread nD τ) (st0_2 t) g2 fullShare) $$ H2
  ihave H3 := (pointsTo_rep_entails (c : Thread nD τ) (st0_3 t) g3 fullShare) $$ H3
  ihave H4 := (pointsTo_rep_entails (c : Thread nD τ) (st0_4 t) g4 fullShare) $$ H4
  ihave H5 := (pointsTo_rep_entails (c : Thread nD τ) (st0_5 t) g5 fullShare) $$ H5
  rw [hg0, hg1, hg2, hg3, hg4, hg5]
  sl_rw [prog_eq t]
  iapply (run_wand m c t) $$ [HΦ HW H0 H1 H2 H3 H4 H5]
  · unfold Wts
    isplitl [HΦ]; · iexact HΦ
    isplitr [HW]
    · isplitl [H0]; · iexact H0
      isplitl [H1]; · iexact H1
      isplitl [H2]; · iexact H2
      isplitl [H3]; · iexact H3
      isplitl [H4]; · iexact H4
      iexact H5
    iexists W; iexact HW
  · iintro %r ⟨HΦ, HWt, ⟨%W', HW⟩⟩
    unfold Wts
    icases HWt with ⟨H0, H1, H2, H3, H4, H5⟩
    isplitl [HΦ]; · iexact HΦ
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    isplitl [H4]
    · iexists _; isplitr; · ipureintro; exact View.read_rep _ _
      iexact H4
    iexists _; isplitr; · ipureintro; exact View.read_rep _ _
    iexact H5

/-! ## The run -/

def intoΦ (c : Dev nD) : sProp 𝕄 := iprop((a0.view.loc (c : Thread nD τ) ↦[Finset.univ]{fullShare} V m c main_arg0)
  ∗ (a7.view.loc (c : Thread nD τ) ↦[Finset.univ]{fullShare} V m c main_v10) ∗ Pipeline.ownSems0 osem c)
def outOfΦ (c : Dev nD) : sProp 𝕄 := iprop((a0.view.loc (c : Thread nD τ) ↦[Finset.univ]{fullShare} V m c main_arg0)
  ∗ (a7.view.loc (c : Thread nD τ) ↦[Finset.univ]{fullShare} OUT m c))
/-- The arguments the call does not read. -/
def aside (c : Dev nD) : sProp 𝕄 := iprop((((c : Thread nD τ).loc main_arg1) ↦{fullShare} V m c main_arg1) ∗ (((c : Thread nD τ).loc main_arg3) ↦{fullShare} V m c main_arg3)
  ∗ (((c : Thread nD τ).loc main_arg4) ↦{fullShare} V m c main_arg4) ∗ (((c : Thread nD τ).loc main_arg5) ↦{fullShare} V m c main_arg5)
  ∗ (((c : Thread nD τ).loc main_arg6) ↦{fullShare} V m c main_arg6))

def u₀ : UU nD τ := (initOf (Pipeline.cells cfgs Gen.cellOf_inj) (Pipeline.launchToks cfgs Gen.cellOf_inj), 1)

def QY (c : Dev nD) (s : MemSt nD τ sig (Elt F)) : Prop :=
  s.mem ((c : Thread nD τ).loc main_arg0) = V m c main_arg0 ∧ s.mem ((c : Thread nD τ).loc main_v10) = OUT m c
  ∧ s.mem ((c : Thread nD τ).loc main_arg1) = V m c main_arg1 ∧ s.mem ((c : Thread nD τ).loc main_arg3) = V m c main_arg3
  ∧ s.mem ((c : Thread nD τ).loc main_arg4) = V m c main_arg4 ∧ s.mem ((c : Thread nD τ).loc main_arg5) = V m c main_arg5
  ∧ s.mem ((c : Thread nD τ).loc main_arg6) = V m c main_arg6

theorem hin (c : Dev nD) : iprop(intoΦ m c ∗ Pipeline.scopedRest spec0 c) ⊢ Φ m c (V m c main_v10) := by
  rw [scopedRest0_eq]
  unfold intoΦ Φ
  rw [scr_eq c s8 (View.set_whole _), scr_eq c s9 (View.set_whole _), scr_eq c s10 (View.set_whole _), scr_eq c s11 (View.set_whole _), scr_eq c s12 (View.set_whole _)]
  iintro ⟨⟨HA, HG, HS⟩, B8, B9, B10, B11, B12, HP, HC, HN, HO⟩
  isplitl [HA]; · iexact HA
  isplitl [HG]; · iexact HG
  isplitl [HS]; · iexact HS
  isplitl [HP HC HN HO]
  · isplitl [HP]; · iapply (splitP c) $$ HP
    isplitl [HC]; · iapply (splitC c) $$ HC
    isplitl [HN]; · iapply (splitN c) $$ HN
    iapply (splitO c) $$ HO
  isplitl [B8]; · iexact B8
  isplitl [B9]; · iexact B9
  isplitl [B10]; · iexact B10
  isplitl [B11]; · iexact B11
  iexact B12

theorem hout (c : Dev nD) : Φ m c (OUT m c) ⊢ iprop(outOfΦ m c ∗ Pipeline.ownSems0 osem c ∗ Pipeline.scopedRest spec0 c) := by
  rw [scopedRest0_eq]
  unfold outOfΦ Φ
  rw [scr_eq c s8 (View.set_whole _), scr_eq c s9 (View.set_whole _), scr_eq c s10 (View.set_whole _), scr_eq c s11 (View.set_whole _), scr_eq c s12 (View.set_whole _)]
  iintro ⟨HA, HG, HS, ⟨HP, HC, HN, HO⟩, B8, B9, B10, B11, B12⟩
  isplitl [HA HG]
  · isplitl [HA]; · iexact HA
    iexact HG
  isplitl [HS]; · iexact HS
  isplitl [B8]; · iexact B8
  isplitl [B9]; · iexact B9
  isplitl [B10]; · iexact B10
  isplitl [B11]; · iexact B11
  isplitl [B12]; · iexact B12
  isplitl [HP]; · iapply (joinP c) $$ HP
  isplitl [HC]; · iapply (joinC c) $$ HC
  isplitl [HN]; · iapply (joinN c) $$ HN
  iapply (joinO c) $$ HO

set_option backward.isDefEq.respectTransparency.types false in
/-- From any memory with zero counters every weakly fair execution terminates, and every final state has the output
    array at `OUT`, the arguments unchanged and every semaphore counter at zero. -/
theorem run_main : θ_run defs (onTc (τ := τ) (main (F := F))) (s₀ m ρ) (fun r => (∀ c : Dev nD, (∀ w : Fin cfg0.W, r.2.mem ((cfg0.win w).arr.view.loc (c : Thread nD τ)) = (dats m 0 c).arrAt w cfg0.N) ∧ QY m c r.2) ∧ r.2.sem = fun _ => 0) :=
  Pipeline.θ_run_region_kit_quiescent cfgs (dats m) () (0 : Fin 1) launch0 ownSemFacts embL defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := aside m)
    (hX := fun c => by
      rw [unscopedRest0_eq]
      unfold intoΦ aside
      iintro ⟨⟨H0, H1, H3, H4, H5, H6, -, -, -, -, -, HG⟩, HS, -, -, -⟩; imodintro
      isplitl [H0 HG HS]
      · isplitl [H0]; · iexact H0
        isplitl [HG]; · iexact HG
        iexact HS
      isplitl [H1]; · iexact H1
      isplitl [H3]; · iexact H3
      isplitl [H4]; · iexact H4
      isplitl [H5]; · iexact H5
      iexact H6)
    (hin := fun c => hin m c)
    (hout := fun c => by
      rw [show (dats m 0 c).Φ (Fin.last cfg0.N) = Φ m c (OUT m c) from congrArg (Φ m c) (if_neg (by rw [Fin.val_last]; exact (by decide : ¬ grid0.N = 0)))]
      exact hout m c)
    (QY := QY m)
    (hY := fun c s' => by
      unfold outOfΦ aside QY
      iintro ⟨⟨H0, HG⟩, ⟨H1, H3, H4, H5, H6⟩, HSI⟩
      icombine HSI H0 gives %h0
      icombine HSI HG gives %hg
      icombine HSI H1 gives %h1
      icombine HSI H3 gives %h3
      icombine HSI H4 gives %h4
      icombine HSI H5 gives %h5
      icombine HSI H6 gives %h6
      imodintro
      isplitr
      · ipureintro
        exact ⟨Buf.eq_of_forall_mem_univ h0, Buf.eq_of_forall_mem_univ hg, Buf.eq_of_forall_mem_univ h1, Buf.eq_of_forall_mem_univ h3,
          Buf.eq_of_forall_mem_univ h4, Buf.eq_of_forall_mem_univ h5, Buf.eq_of_forall_mem_univ h6⟩
      iexact HSI)
    (hQ := fun _ hh hz => ⟨hh, hz⟩)

/-- The run with its output and its arguments read off. -/
theorem run : θ_run defs (onTc (τ := τ) (main (F := F))) ⟨m, fun _ => 0, ρ⟩ (fun r => (∀ c : Dev nD,
    r.2.mem ((c.tc : Thread nD τ).loc main_v10) = OUT m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6))
    ∧ r.2.sem = fun _ => 0) :=
  (θ_run defs _ _).mono (fun _ hh => ⟨fun c => by
    obtain ⟨hw, h0, hg, h1, h3, h4, h5, h6⟩ := hh.1 c
    exact ⟨hg, h0.trans (V_main_arg0 m c), h1.trans (V_main_arg1 m c), (hw 1).trans (((dats m 0 c).arrAt_in 1 rfl _).trans (V_main_arg2 m c)),
      h3.trans (V_main_arg3 m c), h4.trans (V_main_arg4 m c), h5.trans (V_main_arg5 m c), h6.trans (V_main_arg6 m c)⟩, hh.2⟩) (run_main m ρ)

end Launch

end Cert.Proof.Ffn
end
-- ==== Proof.Frames.lean ====
/-
  The frame claims of the kernel, as printed and idealized: the two programs have one text, so one run serves both.
-/
module

public import proofs.«01_k».proof.Proof.Launch
public import proofs.«01_k».proof.Proof.Gen.Kernel.Frame
public import proofs.«01_k».proof.Defs
public import Idealize.ShloMosaic.Lib.Tactic

@[expose] public section

noncomputable section

namespace Cert.Proof.Ffn

open Idealize.ShloMosaic Idealize.SL.Sem

theorem frame {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0) :=
  (θ_run _ _ _).mono (fun _ h => ⟨fun c => (h.1 c).2, h.2⟩) (run m ρ)

theorem frame_ideal : Cert.quiescent_KernelIdeal (hKernelIdeal := Cert.KernelIdeal.Gen.facts) := fun m ρ _ => frame (F := Ideal) m ρ

theorem frame_kernel : Cert.quiescent_Kernel (hKernel := Cert.Kernel.Gen.facts) := fun m ρ _ =>
  cast (by sl_kernel_rfl) (frame (F := Bits) m ρ)

end Cert.Proof.Ffn
end
-- ==== Proof.Spec.lean ====
/-
  The feed-forward block's mathematics over the extended reals, a row at a time: the projection of a row, the convolution
  of three neighbouring rows, the gate, the projection back, the scaled residual and the normalisation.
-/
module

public import Idealize.ShloMosaic.Lib.Pointwise

@[expose] public section

noncomputable section

namespace Cert.Proof.Ffn

open Idealize.ShloMosaic

/-- Row `n` of a sequence with a row of zeros before it and one behind it: row `n - 1` of sequence `b`. -/
def xrow (x : (⟨3, ![4, 4096, 1024]⟩ : Shape).Idx → EReal) (b : Fin 4) (n : ℕ) (k : Fin 1024) : EReal :=
  if h : 1 ≤ n ∧ n ≤ 4096 then x (ix3 b ⟨n - 1, by omega⟩ k) else 0

/-- Element `e` of the projection of row `n` of `X`. -/
def upS (X : ℕ → Fin 1024 → EReal) (W : Fin 1024 → Fin 5632 → EReal) (n : ℕ) (e : Fin 5632) : EReal :=
  ∑ k : Fin 1024, X n k * W k e

/-- The convolution of the projections of rows `n`, `n + 1`, `n + 2`. -/
def cvS (X : ℕ → Fin 1024 → EReal) (W : Fin 1024 → Fin 5632 → EReal) (cw : Fin 3 → Fin 5632 → EReal)
    (cb : Fin 5632 → EReal) (n : ℕ) (e : Fin 5632) : EReal :=
  upS X W n e * cw 0 e + upS X W (n + 1) e * cw 1 e + upS X W (n + 2) e * cw 2 e + cb e

/-- The gated activation: the first half of the convolution times its sigmoid, times the second half. -/
def actS (X : ℕ → Fin 1024 → EReal) (W : Fin 1024 → Fin 5632 → EReal) (cw : Fin 3 → Fin 5632 → EReal)
    (cb : Fin 5632 → EReal) (n : ℕ) (k : Fin 2816) : EReal :=
  cvS X W cw cb n ⟨k, by omega⟩ * Ideal.logistic (cvS X W cw cb n ⟨k, by omega⟩) * cvS X W cw cb n ⟨2816 + k, by omega⟩

/-- The projection back, beside the scaled row itself. -/
def yS (X : ℕ → Fin 1024 → EReal) (W : Fin 1024 → Fin 5632 → EReal) (cw : Fin 3 → Fin 5632 → EReal)
    (cb : Fin 5632 → EReal) (Wd : Fin 2816 → Fin 1024 → EReal) (n : ℕ) (d : Fin 1024) : EReal :=
  Ideal.ofBits .f32 0x3F9837F0#32 * X (n + 1) d + ∑ k : Fin 2816, actS X W cw cb n k * Wd k d

/-- The mean of a row. -/
def muS (y : Fin 1024 → EReal) : EReal := Ideal.div (∑ k, y k) (Ideal.ofBits .f32 0x44800000#32)

/-- The row's normalisation. -/
def lnS (y : Fin 1024 → EReal) (g b : Fin 1024 → EReal) (d : Fin 1024) : EReal :=
  (y d - muS y) * Ideal.rsqrt (muS (fun k => (y k - muS y) * (y k - muS y)) + Ideal.ofBits .f32 0x3727C5AC#32) * g d + b d

theorem upS_congr {X X' : ℕ → Fin 1024 → EReal} {W : Fin 1024 → Fin 5632 → EReal} {n n' : ℕ} (h : ∀ k, X n k = X' n' k)
    (e : Fin 5632) : upS X W n e = upS X' W n' e := by
  unfold upS
  exact Finset.sum_congr rfl fun k _ => by rw [h]

/-- The block's value at row `n` depends on the three rows it reads alone. -/
theorem yS_congr {X X' : ℕ → Fin 1024 → EReal} {W : Fin 1024 → Fin 5632 → EReal} {cw : Fin 3 → Fin 5632 → EReal}
    {cb : Fin 5632 → EReal} {Wd : Fin 2816 → Fin 1024 → EReal} {n n' : ℕ} (h0 : ∀ k, X n k = X' n' k)
    (h1 : ∀ k, X (n + 1) k = X' (n' + 1) k) (h2 : ∀ k, X (n + 2) k = X' (n' + 2) k) (d : Fin 1024) :
    yS X W cw cb Wd n d = yS X' W cw cb Wd n' d := by
  have hc : ∀ e, cvS X W cw cb n e = cvS X' W cw cb n' e := fun e => by
    unfold cvS
    rw [upS_congr h0, upS_congr h1, upS_congr h2]
  unfold yS actS
  simp only [hc, h1]

theorem ofBits_half : Ideal.ofBits .f32 0x3F000000#32 = ((1 / 2 : ℝ) : EReal) := by
  simp [Ideal.ofBits, Ideal.ieee, -EReal.coe_mul]
  norm_num

/-- Half of one more than the hyperbolic tangent of the half is the sigmoid, at the infinities too. -/
theorem sigmoid_eq (x : EReal) :
    Ideal.ofBits .f32 0x3F000000#32 * Ideal.tanh (Ideal.ofBits .f32 0x3F000000#32 * x) + Ideal.ofBits .f32 0x3F000000#32
      = Ideal.logistic x := by
  rw [ofBits_half]
  induction x using EReal.rec with
  | bot =>
    rw [EReal.coe_mul_bot_of_pos (by norm_num), Ideal.tanh_bot, Ideal.logistic_bot]
    norm_num
    rw [← EReal.coe_neg, ← EReal.coe_add]
    norm_num
  | top =>
    rw [EReal.coe_mul_top_of_pos (by norm_num), Ideal.tanh_top, Ideal.logistic_top]
    norm_cast
    norm_num
  | coe r =>
    rw [← EReal.coe_mul, Ideal.tanh_coe, ← EReal.coe_mul, ← EReal.coe_add, Ideal.logistic_coe, EReal.coe_eq_coe_iff,
      Real.tanh_eq_sinh_div_cosh, Real.sinh_eq, Real.cosh_eq]
    have e1 : Real.exp (-r) = Real.exp (-(1 / 2 * r)) * Real.exp (-(1 / 2 * r)) := by rw [← Real.exp_add]; ring_nf
    have e2 : Real.exp (1 / 2 * r) * Real.exp (-(1 / 2 * r)) = 1 := by rw [← Real.exp_add]; simp
    have p1 := Real.exp_pos (1 / 2 * r)
    have p2 := Real.exp_pos (-(1 / 2 * r))
    rw [e1]
    generalize Real.exp (1 / 2 * r) = a at *
    generalize Real.exp (-(1 / 2 * r)) = b at *
    have : (1 : ℝ) + b * b ≠ 0 := by positivity
    field_simp
    nlinarith

end Cert.Proof.Ffn

end
-- ==== Proof.RefRead.lean ====
/-
  What the reference computes, read at an index.
-/
module

public import proofs.«01_k».proof.Defs
public import proofs.«01_k».proof.Proof.Gen.ReferenceIdeal
public import proofs.«01_k».proof.Proof.Gen.ReferenceIdeal.Read
public import proofs.«01_k».proof.Proof.Spec

@[expose] public section

set_option maxRecDepth 16384

noncomputable section

namespace Cert.Proof.Ffn.Ref

open Idealize.ShloMosaic Cert.ReferenceIdeal Cert.ReferenceIdeal.Gen Cert.ReferenceIdeal.Read

variable (x0 : FVec Ideal S4x4096x1024 .f32) (x1 : FVec Ideal S1x1024x5632 .f32) (x2 : FVec Ideal S1x3x5632 .f32)
  (x3 : FVec Ideal S1x5632 .f32) (x4 : FVec Ideal S1x2816x1024 .f32) (x5 x6 : FVec Ideal S1x1024 .f32)

theorem v1_apply (b : Fin 4) (s : Fin 4096) (e : Fin 5632) :
    val_main_v1 (F := Ideal) x0 x1 (ix3 b s e) = ∑ k : Fin 1024, x0 (ix3 b s k) * x1 (ix3 0 k e) := by
  pointwise [val_main_v1, val_main_v0]

theorem sitofp_zero : FloatOps.sitofp (F := Ideal) .f32 0#32 = (0 : EReal) := by
  show ((((0#32 : BitVec 32).toInt : ℤ) : ℝ) : EReal) = 0
  simp

theorem v4_apply (b : Fin 4) (n : Fin 4098) (e : Fin 5632) :
    val_main_v4 (F := Ideal) x0 x1 (ix3 b n e) = upS (xrow x0 b) (fun k e => x1 (ix3 0 k e)) n e := by
  pointwise [val_main_v4, val_main_call0_v0, val_main_c, v1_apply]
  unfold upS xrow
  by_cases h : 1 ≤ (n : ℕ) ∧ (n : ℕ) - 1 < 4096
  · rw [dif_pos h]
    exact Finset.sum_congr rfl fun k _ => by rw [dif_pos ⟨h.1, by omega⟩]
  · rw [dif_neg h, sitofp_zero]
    refine (Finset.sum_eq_zero fun k _ => ?_).symm
    rw [dif_neg (fun h' => h ⟨h'.1, by omega⟩), zero_mul]

theorem v27_apply (b : Fin 4) (s : Fin 4096) (e : Fin 5632) :
    val_main_v27 (F := Ideal) x0 x1 x2 x3 (ix3 b s e)
      = cvS (xrow x0 b) (fun k e => x1 (ix3 0 k e)) (fun t e => x2 (ix3 0 t e)) (fun e => x3 (ix2 0 e)) s e := by
  pointwise [val_main_v27, val_main_v26, val_main_v25, val_main_v24, val_main_v23, val_main_v22, val_main_v21, val_main_v20,
    val_main_v19, val_main_v18, val_main_v17, val_main_v16, val_main_v15, val_main_v14, val_main_v13, val_main_v12, val_main_v11,
    val_main_v10, val_main_v9, val_main_v8, val_main_v7, val_main_v6, val_main_v5, val_main_v3, val_main_v2, v4_apply]
  unfold cvS
  rw [Nat.add_comm 1 (s : ℕ), Nat.add_comm 2 (s : ℕ)]

theorem v31_apply (b : Fin 4) (s : Fin 4096) (k : Fin 2816) :
    val_main_v31 (F := Ideal) x0 x1 x2 x3 (ix3 b s k)
      = actS (xrow x0 b) (fun k e => x1 (ix3 0 k e)) (fun t e => x2 (ix3 0 t e)) (fun e => x3 (ix2 0 e)) s k := by
  pointwise [val_main_v31, val_main_v30, val_main_v29, val_main_v28, val_main_call1_v0, val_main_call1_v1, val_main_call1_v2, val_main_call1_v3,
    val_main_call1_v4, val_main_call1_v5, val_main_call1_cst, val_main_call1_cst_0, v27_apply]
  unfold actS Ideal.logistic
  rfl

theorem v36_apply (b : Fin 4) (s : Fin 4096) (d : Fin 1024) :
    val_main_v36 (F := Ideal) x0 x1 x2 x3 x4 (ix3 b s d)
      = yS (xrow x0 b) (fun k e => x1 (ix3 0 k e)) (fun t e => x2 (ix3 0 t e)) (fun e => x3 (ix2 0 e))
          (fun k d => x4 (ix3 0 k d)) s d := by
  pointwise [val_main_v36, val_main_v35, val_main_v34, val_main_cst, val_main_v33, val_main_v32, v31_apply]
  unfold yS xrow
  rw [dif_pos (show 1 ≤ (s : ℕ) + 1 ∧ (s : ℕ) + 1 ≤ 4096 from ⟨by omega, by omega⟩)]
  rfl

theorem v62_apply (b : Fin 4) (s : Fin 4096) (d : Fin 1024) :
    val_main_v62 (F := Ideal) x0 x1 x2 x3 x4 x5 x6 (ix3 b s d)
      = lnS (yS (xrow x0 b) (fun k e => x1 (ix3 0 k e)) (fun t e => x2 (ix3 0 t e)) (fun e => x3 (ix2 0 e))
          (fun k d => x4 (ix3 0 k d)) s) (fun d => x5 (ix2 0 d)) (fun d => x6 (ix2 0 d)) d := by
  pointwise [val_main_v62, val_main_v61, val_main_v60, val_main_v59, val_main_v58, val_main_v57, val_main_v56, val_main_v55, val_main_v54, val_main_v53,
    val_main_v52, val_main_v51, val_main_v50, val_main_v49, val_main_v48, val_main_v47, val_main_v46, val_main_v45, val_main_v44, val_main_v43,
    val_main_v42, val_main_v41, val_main_v40, val_main_v39, val_main_v38, val_main_v37, val_main_cst_0, val_main_cst_1, val_main_cst_2, val_main_cst_3, val_main_cst_4,
    v36_apply, muS, lnS]

end Cert.Proof.Ffn.Ref

end
-- ==== Proof.PayRead.lean ====
/-
  What the tile's stored values are over the extended reals, read at an index.
-/
module

public import proofs.«01_k».proof.Proof.Tile
public import proofs.«01_k».proof.Proof.Spec

@[expose] public section

set_option maxRecDepth 16384

noncomputable section

namespace Cert.Proof.Ffn

open Cert.KernelIdeal Cert.KernelIdeal.Gen
open Idealize.ShloMosaic

/-! ## The stored values, for any operands -/

theorem pay7_apply (A : Vec Ideal S288x1024 .bf16) (B : Vec Ideal S1024x256 .bf16) (r : Fin 288) (l : Fin 128) :
    k0_pay7 (k0_pay6 A B) (ix4 0 0 r l) = ∑ k : Fin 1024, A (ix2 r k) * B (ix2 k ⟨l, by omega⟩) := by
  pointwise [k0_pay7, k0_pay6, k0_pay5]

theorem pay8_apply (A : Vec Ideal S288x1024 .bf16) (B : Vec Ideal S1024x256 .bf16) (r : Fin 288) (l : Fin 128) :
    k0_pay8 (k0_pay5 A B) (ix4 0 0 r l) = ∑ k : Fin 1024, A (ix2 r k) * B (ix2 k ⟨128 + l, by omega⟩) := by
  pointwise [k0_pay8, k0_pay5]

theorem pay33_apply (A : Vec Ideal S256x1024 .bf16) (B : Vec Ideal S1024x256 .bf16) (r : Fin 256) (l : Fin 128) :
    k0_pay33 A B (ix4 0 0 r l) = ∑ k : Fin 1024, A (ix2 r k) * B (ix2 k ⟨l, by omega⟩) := by
  pointwise [k0_pay33, k0_pay32]

theorem pay34_apply (A : Vec Ideal S256x1024 .bf16) (B : Vec Ideal S1024x256 .bf16) (r : Fin 256) (l : Fin 128) :
    k0_pay34 A B (ix4 0 0 r l) = ∑ k : Fin 1024, A (ix2 r k) * B (ix2 k ⟨128 + l, by omega⟩) := by
  pointwise [k0_pay34, k0_pay32]

theorem pay13_apply (w : Vec Ideal S1x3x128 .f32) (r : Fin 32) (l : Fin 128) : k0_pay13 w (ix2 r l) = w (ix3 0 0 l) := by
  pointwise [k0_pay13, k0_pay12]
theorem pay14_apply (w : Vec Ideal S1x3x128 .f32) (r : Fin 32) (l : Fin 128) : k0_pay14 w (ix2 r l) = w (ix3 0 1 l) := by
  pointwise [k0_pay14, k0_pay12]
theorem pay15_apply (w : Vec Ideal S1x3x128 .f32) (r : Fin 32) (l : Fin 128) : k0_pay15 w (ix2 r l) = w (ix3 0 2 l) := by
  pointwise [k0_pay15, k0_pay12]
theorem pay16_apply (w : Vec Ideal S1x128 .f32) (r : Fin 32) (l : Fin 128) : k0_pay16 w (ix2 r l) = w (ix2 0 l) := by
  pointwise [k0_pay16]

/-- The gate of one slab: the convolution of three rows, its sigmoid, and the second branch's convolution. -/
def gateS (ta0 ta1 ta2 tb tu0 tu1 tu2 tv a0 a1 a2 u0 u1 u2 : EReal) : EReal :=
  (a0 * ta0 + a1 * ta1 + a2 * ta2 + tb) * Ideal.logistic (a0 * ta0 + a1 * ta1 + a2 * ta2 + tb)
    * (u0 * tu0 + u1 * tu1 + u2 * tu2 + tv)

theorem pay39_apply (t0 t1 t2 tb s0 s1 s2 sb : FVec Ideal S32x128 .f32) (a0 a1 a2 u0 u1 u2 : Vec Ideal S1x1x32x128 .f32)
    (r : Fin 32) (l : Fin 128) :
    k0_pay39 t1 t2 tb s0 s1 s2 sb (k0_pay38 t0 a0) a1 a2 u0 u1 u2 (ix2 r l)
      = gateS (t0 (ix2 r l)) (t1 (ix2 r l)) (t2 (ix2 r l)) (tb (ix2 r l)) (s0 (ix2 r l)) (s1 (ix2 r l)) (s2 (ix2 r l)) (sb (ix2 r l))
          (a0 (ix4 0 0 r l)) (a1 (ix4 0 0 r l)) (a2 (ix4 0 0 r l)) (u0 (ix4 0 0 r l)) (u1 (ix4 0 0 r l)) (u2 (ix4 0 0 r l)) := by
  unfold gateS
  pointwise [k0_pay39, k0_pay38]
  rw [← sigmoid_eq]

theorem pay42_lo (Y : FVec Ideal S32x128 .f32) (t0 t1 t2 tb s0 s1 s2 sb : FVec Ideal S32x128 .f32)
    (a0 a1 a2 u0 u1 u2 : Vec Ideal S1x1x32x128 .f32) (r : Fin 32) (l : Fin 256) (h : (l : ℕ) < 128) :
    k0_pay42 (k0_pay41 t1 t2 tb s0 s1 s2 sb Y (k0_pay40 t0 a0) a1 a2 u0 u1 u2) (ix3 0 r l) = Y (ix2 r ⟨l, h⟩) := by
  pointwise [k0_pay42, k0_pay41, k0_pay40]
  rw [dif_pos h]

theorem pay42_hi (Y : FVec Ideal S32x128 .f32) (t0 t1 t2 tb s0 s1 s2 sb : FVec Ideal S32x128 .f32)
    (a0 a1 a2 u0 u1 u2 : Vec Ideal S1x1x32x128 .f32) (r : Fin 32) (l : Fin 128) :
    k0_pay42 (k0_pay41 t1 t2 tb s0 s1 s2 sb Y (k0_pay40 t0 a0) a1 a2 u0 u1 u2) (ix3 0 r ⟨128 + l, by omega⟩)
      = gateS (t0 (ix2 r l)) (t1 (ix2 r l)) (t2 (ix2 r l)) (tb (ix2 r l)) (s0 (ix2 r l)) (s1 (ix2 r l)) (s2 (ix2 r l)) (sb (ix2 r l))
          (a0 (ix4 0 0 r l)) (a1 (ix4 0 0 r l)) (a2 (ix4 0 0 r l)) (u0 (ix4 0 0 r l)) (u1 (ix4 0 0 r l)) (u2 (ix4 0 0 r l)) := by
  unfold gateS
  pointwise [k0_pay42, k0_pay41, k0_pay40]
  rw [← sigmoid_eq]

theorem pay113_apply (A : Vec Ideal S1x256x256 .bf16) (B : Vec Ideal S256x1024 .bf16) (r : Fin 256) (d : Fin 1024) :
    k0_pay113 A B (ix2 r d) = ∑ k : Fin 256, A (ix3 0 r k) * B (ix2 k d) := by
  pointwise [k0_pay113]

theorem pay1396_apply (A : Vec Ideal S1x256x256 .bf16) (B : Vec Ideal S256x1024 .bf16) (C : Vec Ideal S256x1024 .f32) (r : Fin 256)
    (d : Fin 1024) :
    k0_pay1396 (k0_pay1395 A) B C (ix2 r d) = C (ix2 r d) + ∑ k : Fin 256, A (ix3 0 r k) * B (ix2 k d) := by
  pointwise [k0_pay1396, k0_pay1395]

theorem pay1394_apply (V : Vec Ideal S1x256x1024 .f32) (C : Vec Ideal S256x1024 .f32) (g b : Vec Ideal S1x1024 .f32) (r : Fin 256)
    (d : Fin 1024) :
    k0_pay1394 (k0_pay1393 V) C g b (ix3 0 r d)
      = lnS (fun d => Ideal.ofBits .f32 0x3F9837F0#32 * V (ix3 0 r d) + C (ix2 r d)) (fun d => g (ix2 0 d)) (fun d => b (ix2 0 d)) d := by
  pointwise [k0_pay1394, k0_pay1393, lnS, muS]

theorem pay2_apply (ix : BitVec 32) (w : Vec Ideal S1x16x1024 .f32) (r : Fin 16) (k : Fin 1024) :
    k0_pay2 (k0_pay1 ix w) (ix2 r k) = if Scalar.cmpi .sgt ix 0#32 = 1#1 then w (ix3 0 r k) else 0 := by
  pointwise [k0_pay2, k0_pay1]
  rfl

theorem pay3_apply (w : Vec Ideal S1x512x1024 .f32) (r : Fin 512) (k : Fin 1024) : k0_pay3 w (ix2 r k) = w (ix3 0 r k) := by
  pointwise [k0_pay3]

theorem pay4_apply (ix : BitVec 32) (w : Vec Ideal S1x16x1024 .f32) (r : Fin 16) (k : Fin 1024) :
    k0_pay4 ix w (ix2 r k) = if Scalar.cmpi .slt ix 7#32 = 1#1 then w (ix3 0 r k) else 0 := by
  pointwise [k0_pay4]
  rfl

end Cert.Proof.Ffn

end
-- ==== Proof.KerRead.lean ====
/-
  The kernel's output tile over the extended reals: row `r` of it is the feed-forward block's value at row `r` of the
  tile with its halo rows.
-/
module

public import proofs.«01_k».proof.Proof.PayRead

@[expose] public section

set_option maxRecDepth 16384

noncomputable section

namespace Cert.Proof.Ffn

open Cert.KernelIdeal Cert.KernelIdeal.Gen
open Idealize.ShloMosaic

theorem mk2_eq {a b : ℕ} [NeZero a] [NeZero b] {i j : ℕ} (hi : i < a) (hj : j < b) : mk2 a b i j = ix2 ⟨i, hi⟩ ⟨j, hj⟩ :=
  idx2_ext (Nat.mod_eq_of_lt hi) (Nat.mod_eq_of_lt hj)

theorem mk3_eq {a b d : ℕ} [NeZero a] [NeZero b] [NeZero d] {i j l : ℕ} (hi : i < a) (hj : j < b) (hl : l < d) :
    mk3 a b d i j l = ix3 ⟨i, hi⟩ ⟨j, hj⟩ ⟨l, hl⟩ :=
  idx3_ext (Nat.mod_eq_of_lt hi) (Nat.mod_eq_of_lt hj) (Nat.mod_eq_of_lt hl)

theorem mk4_eq {a b d e : ℕ} [NeZero a] [NeZero b] [NeZero d] [NeZero e] {i j l n : ℕ} (hi : i < a) (hj : j < b) (hl : l < d)
    (hn : n < e) : mk4 a b d e i j l n = ix4 ⟨i, hi⟩ ⟨j, hj⟩ ⟨l, hl⟩ ⟨n, hn⟩ :=
  idx4_ext (Nat.mod_eq_of_lt hi) (Nat.mod_eq_of_lt hj) (Nat.mod_eq_of_lt hl) (Nat.mod_eq_of_lt hn)

variable (I : In Ideal)

/-- The rows of the tile, from the last halo row before it to the first behind it. -/
def hT (n : ℕ) (k : Fin 1024) : EReal := hext I (mk2 544 1024 (15 + n) k)
def wT (k : Fin 1024) (e : Fin 5632) : EReal := I.w1 (mk2 1024 5632 k e)
def cwT (t : Fin 3) (e : Fin 5632) : EReal := I.w2 (mk3 1 3 5632 0 t e)
def cbT (e : Fin 5632) : EReal := I.w3 (mk2 1 5632 0 e)
def wdT (k : Fin 2816) (d : Fin 1024) : EReal := I.w4 (mk2 2816 1024 k d)
def gT (d : Fin 1024) : EReal := I.w5 (mk2 1 1024 0 d)
def bT (d : Fin 1024) : EReal := I.w6 (mk2 1 1024 0 d)

theorem upAt_eq {p c l n lane : ℕ} (hl : l < 2) (hn : 15 + n < 544) (ha : lane < 128) (e : Fin 5632)
    (he : (e : ℕ) = 2816 * p + 256 * c + 128 * l + lane) : upAt I p c l (15 + n) lane = upS (hT I) (wT I) n e := by
  unfold upAt
  by_cases hr : 15 + n < 288
  · rw [if_pos hr, mk4_eq (by omega) (by omega) hr ha]
    obtain rfl | rfl : l = 0 ∨ l = 1 := by omega
    · refine (pay7_apply _ _ _ _).trans (Finset.sum_congr rfl fun k _ => ?_)
      refine congrArg₂ (· * ·) (congrArg (hext I) ?_) (congrArg I.w1 ?_)
      · show mk2 544 1024 (0 + (15 + n)) (0 + (k : ℕ)) = _
        rw [Nat.zero_add, Nat.zero_add]
      · show mk2 1024 5632 (0 + (k : ℕ)) (256 * c + 2816 * p + lane) = mk2 1024 5632 k e
        rw [Nat.zero_add, he]; congr 1; omega
    · refine (pay8_apply _ _ _ _).trans (Finset.sum_congr rfl fun k _ => ?_)
      refine congrArg₂ (· * ·) (congrArg (hext I) ?_) (congrArg I.w1 ?_)
      · show mk2 544 1024 (0 + (15 + n)) (0 + (k : ℕ)) = _
        rw [Nat.zero_add, Nat.zero_add]
      · show mk2 1024 5632 (0 + (k : ℕ)) (256 * c + 2816 * p + (128 + lane)) = mk2 1024 5632 k e
        rw [Nat.zero_add, he]; congr 1; omega
  · rw [if_neg hr, mk4_eq (by omega) (by omega) (show 15 + n - 288 < 256 by omega) ha]
    obtain rfl | rfl : l = 0 ∨ l = 1 := by omega
    · refine (pay33_apply _ _ _ _).trans (Finset.sum_congr rfl fun k _ => ?_)
      refine congrArg₂ (· * ·) (congrArg (hext I) ?_) (congrArg I.w1 ?_)
      · show mk2 544 1024 (288 + (15 + n - 288)) (0 + (k : ℕ)) = _
        rw [Nat.zero_add]; congr 1; omega
      · show mk2 1024 5632 (0 + (k : ℕ)) (256 * c + 2816 * p + lane) = mk2 1024 5632 k e
        rw [Nat.zero_add, he]; congr 1; omega
    · refine (pay34_apply _ _ _ _).trans (Finset.sum_congr rfl fun k _ => ?_)
      refine congrArg₂ (· * ·) (congrArg (hext I) ?_) (congrArg I.w1 ?_)
      · show mk2 544 1024 (288 + (15 + n - 288)) (0 + (k : ℕ)) = _
        rw [Nat.zero_add]; congr 1; omega
      · show mk2 1024 5632 (0 + (k : ℕ)) (256 * c + 2816 * p + (128 + lane)) = mk2 1024 5632 k e
        rw [Nat.zero_add, he]; congr 1; omega

section
variable {p c l : ℕ} (r : Fin 32) (lane : Fin 128) (e : Fin 5632) (he : (e : ℕ) = 2816 * p + 256 * c + 128 * l + lane)
include he

theorem upBlk_eq {o n : ℕ} (hl : l < 2) (ho : o / 2 + r = 15 + n) (hn : 15 + n < 544) :
    upBlk I p c l o (ix4 0 0 r lane) = upS (hT I) (wT I) n e := by
  show upAt I p c l (o / 2 + (r : ℕ)) (lane : ℕ) = _
  rw [ho]
  exact upAt_eq I hl hn lane.isLt e he

theorem tap0_eq : tap0 I p c l (ix2 r lane) = cwT I 0 e := by
  refine (pay13_apply _ r lane).trans ?_
  show I.w2 (mk3 1 3 5632 (0 + 0) (0 + 0) (2816 * p + 256 * c + 128 * l + lane)) = I.w2 (mk3 1 3 5632 0 0 e)
  rw [← he]
theorem tap1_eq : tap1 I p c l (ix2 r lane) = cwT I 1 e := by
  refine (pay14_apply _ r lane).trans ?_
  show I.w2 (mk3 1 3 5632 (0 + 0) (0 + 1) (2816 * p + 256 * c + 128 * l + lane)) = I.w2 (mk3 1 3 5632 0 1 e)
  rw [← he]
theorem tap2_eq : tap2 I p c l (ix2 r lane) = cwT I 2 e := by
  refine (pay15_apply _ r lane).trans ?_
  show I.w2 (mk3 1 3 5632 (0 + 0) (0 + 2) (2816 * p + 256 * c + 128 * l + lane)) = I.w2 (mk3 1 3 5632 0 2 e)
  rw [← he]
theorem tapb_eq : tapb I p c l (ix2 r lane) = cbT I e := by
  refine (pay16_apply _ r lane).trans ?_
  show I.w3 (mk2 1 5632 (0 + 0) (2816 * p + 256 * c + 128 * l + lane)) = I.w3 (mk2 1 5632 0 e)
  rw [← he]
end

/-- One slab of a block of activations. -/
theorem gateS_eq {c l q : ℕ} (hl : l < 2) (hq : q < 16) (r : Fin 32) (lane : Fin 128) (k : Fin 2816)
    (hk : (k : ℕ) = 256 * c + 128 * l + lane) :
    gateS (tap0 I 0 c l (ix2 r lane)) (tap1 I 0 c l (ix2 r lane)) (tap2 I 0 c l (ix2 r lane)) (tapb I 0 c l (ix2 r lane))
        (tap0 I 1 c l (ix2 r lane)) (tap1 I 1 c l (ix2 r lane)) (tap2 I 1 c l (ix2 r lane)) (tapb I 1 c l (ix2 r lane))
        (upBlk I 0 c l (30 + 64 * q) (ix4 0 0 r lane)) (upBlk I 0 c l (32 + 64 * q) (ix4 0 0 r lane))
        (upBlk I 0 c l (34 + 64 * q) (ix4 0 0 r lane)) (upBlk I 1 c l (30 + 64 * q) (ix4 0 0 r lane))
        (upBlk I 1 c l (32 + 64 * q) (ix4 0 0 r lane)) (upBlk I 1 c l (34 + 64 * q) (ix4 0 0 r lane))
      = actS (hT I) (wT I) (cwT I) (cbT I) (32 * q + r) k := by
  have ha : ((⟨k, by omega⟩ : Fin 5632) : ℕ) = 2816 * 0 + 256 * c + 128 * l + lane := by show (k : ℕ) = _; omega
  have hu : ((⟨2816 + k, by omega⟩ : Fin 5632) : ℕ) = 2816 * 1 + 256 * c + 128 * l + lane := by show 2816 + (k : ℕ) = _; omega
  rw [tap0_eq I r lane _ ha, tap1_eq I r lane _ ha, tap2_eq I r lane _ ha, tapb_eq I r lane _ ha,
    tap0_eq I r lane _ hu, tap1_eq I r lane _ hu, tap2_eq I r lane _ hu, tapb_eq I r lane _ hu,
    upBlk_eq I r lane _ ha (n := 32 * q + r) hl (by omega) (by omega),
    upBlk_eq I r lane _ ha (n := 32 * q + r + 1) hl (by omega) (by omega),
    upBlk_eq I r lane _ ha (n := 32 * q + r + 2) hl (by omega) (by omega),
    upBlk_eq I r lane _ hu (n := 32 * q + r) hl (by omega) (by omega),
    upBlk_eq I r lane _ hu (n := 32 * q + r + 1) hl (by omega) (by omega),
    upBlk_eq I r lane _ hu (n := 32 * q + r + 2) hl (by omega) (by omega)]
  rfl

theorem gateVal_eq {g c q : ℕ} (hc : g / 16 = c) (hq : g % 16 = q) (r : Fin 32) (l : Fin 256) (k : Fin 2816)
    (hk : (k : ℕ) = 256 * c + l) :
    gateVal I g (ix3 0 r l) = actS (hT I) (wT I) (cwT I) (cbT I) (32 * q + r) k := by
  have q16 : q < 16 := by omega
  unfold gateVal
  rw [hc, hq]
  by_cases h : (l : ℕ) < 128
  · rw [pay42_lo _ _ _ _ _ _ _ _ _ _ _ _ _ _ _ r l h, pay39_apply]
    exact gateS_eq I (by omega) q16 r ⟨l, h⟩ k (by show (k : ℕ) = 256 * c + 128 * 0 + (l : ℕ); omega)
  · obtain ⟨l, hl⟩ := l
    obtain ⟨l', rfl⟩ : ∃ l', l = 128 + l' := ⟨l - 128, by have : ¬ l < 128 := h; omega⟩
    have hk' : (k : ℕ) = 256 * c + (128 + l') := hk
    exact (pay42_hi _ _ _ _ _ _ _ _ _ _ _ _ _ _ _ r ⟨l', by omega⟩).trans
      (gateS_eq I (by omega) q16 r ⟨l', by omega⟩ k (by show (k : ℕ) = 256 * c + 128 * 1 + l'; omega))

theorem actBlk_eq {c h : ℕ} (hh : h < 2) (r : Fin 256) (l : Fin 256) (k : Fin 2816) (hk : (k : ℕ) = 256 * c + l) :
    actBlk I c h (ix3 0 r l) = actS (hT I) (wT I) (cwT I) (cbT I) (256 * h + r) k := by
  show gateVal I (16 * c + 8 * h + (r : ℕ) / 32) (mk3 1 32 256 0 ((r : ℕ) % 32) (l : ℕ)) = _
  rw [mk3_eq (by omega) (by omega) l.isLt]
  refine (gateVal_eq I (c := c) (q := 8 * h + (r : ℕ) / 32) (by omega) (by omega) ⟨(r : ℕ) % 32, by omega⟩ l k hk).trans ?_
  congr 1
  show 32 * (8 * h + (r : ℕ) / 32) + (r : ℕ) % 32 = _
  omega

/-- The terms of the projection back, by number. -/
def dnT (n : ℕ) (d : Fin 1024) (k : ℕ) : EReal :=
  if h : k < 2816 then actS (hT I) (wT I) (cwT I) (cbT I) n ⟨k, h⟩ * wdT I ⟨k, h⟩ d else 0

theorem dn_chunk {m h : ℕ} (hm : m < 11) (hh : h < 2) (r : Fin 256) (d : Fin 1024) :
    ∑ k : Fin 256, actBlk I m h (ix3 0 r k) * blk2 I.w4 256 1024 (256 * m) 0 (ix2 k d)
      = ∑ k ∈ Finset.range 256, dnT I (256 * h + r) d (256 * m + k) := by
  rw [Finset.sum_range]
  refine Finset.sum_congr rfl fun k _ => ?_
  unfold dnT
  rw [dif_pos (show 256 * m + (k : ℕ) < 2816 by omega), actBlk_eq I hh r k ⟨256 * m + k, by omega⟩ rfl]
  refine congrArg₂ (· * ·) rfl ?_
  show I.w4 (mk2 2816 1024 (256 * m + (k : ℕ)) (0 + (d : ℕ))) = I.w4 (mk2 2816 1024 (256 * m + (k : ℕ)) d)
  rw [Nat.zero_add]

theorem accUp_eq {h : ℕ} (hh : h < 2) (r : Fin 256) (d : Fin 1024) : ∀ m, m < 11 →
    accUp I h m (ix2 r d) = ∑ k ∈ Finset.range (256 * m + 256), dnT I (256 * h + r) d k
  | 0, hm => by
    refine (pay113_apply _ _ r d).trans ((dn_chunk I hm hh r d).trans ?_)
    simp only [Nat.mul_zero, Nat.zero_add]
  | m + 1, hm => by
    refine (pay1396_apply _ _ _ r d).trans ?_
    rw [accUp_eq hh r d m (by omega), dn_chunk I hm hh r d, Finset.sum_range_add _ (256 * (m + 1)) 256]
    rfl

theorem hext_mid {n : ℕ} (hn : n < 512) (d : Fin 1024) : hT I (n + 1) d = I.vc (ix3 0 ⟨n, hn⟩ d) := by
  unfold hT hext
  have h0 : ((mk2 544 1024 (15 + (n + 1)) d 0 : Fin _) : ℕ) = 16 + n := by rw [mk2_0, Nat.mod_eq_of_lt (by omega)]; omega
  have h1 : ((mk2 544 1024 (15 + (n + 1)) d 1 : Fin _) : ℕ) = d := by rw [mk2_1, Nat.mod_eq_of_lt d.isLt]
  rw [h0, h1, if_neg (by omega), if_pos (by omega), mk2_eq (by omega) d.isLt, pay3_apply]
  congr 2
  exact Fin.ext (by show 16 + n - 16 = n; omega)

theorem hext_first (d : Fin 1024) : hT I 0 d = if Scalar.cmpi .sgt I.ix 0#32 = 1#1 then I.vp (ix3 0 15 d) else 0 := by
  unfold hT hext
  have h0 : ((mk2 544 1024 (15 + 0) d 0 : Fin _) : ℕ) = 15 := rfl
  have h1 : ((mk2 544 1024 (15 + 0) d 1 : Fin _) : ℕ) = d := by rw [mk2_1, Nat.mod_eq_of_lt d.isLt]
  rw [h0, h1, if_pos (by omega), mk2_eq (by omega) d.isLt, pay2_apply]
  rfl

theorem hext_last (d : Fin 1024) : hT I 513 d = if Scalar.cmpi .slt I.ix 7#32 = 1#1 then I.vn (ix3 0 0 d) else 0 := by
  unfold hT hext
  have h0 : ((mk2 544 1024 (15 + 513) d 0 : Fin _) : ℕ) = 528 := rfl
  have h1 : ((mk2 544 1024 (15 + 513) d 1 : Fin _) : ℕ) = d := by rw [mk2_1, Nat.mod_eq_of_lt d.isLt]
  rw [h0, h1, if_neg (by omega), if_neg (by omega), mk2_eq (by omega) d.isLt, pay4_apply]
  rfl

/-- Row `r` of the output tile. -/
theorem outTile_eq (r : Fin 512) (d : Fin 1024) :
    outTile I (ix3 0 r d) = lnS (yS (hT I) (wT I) (cwT I) (cbT I) (wdT I) r) (gT I) (bT I) d := by
  show outVal I ((r : ℕ) / 256) (mk3 1 256 1024 0 ((r : ℕ) % 256) (d : ℕ)) = _
  rw [mk3_eq (by omega) (by omega) d.isLt]
  refine (pay1394_apply _ _ _ _ ⟨(r : ℕ) % 256, by omega⟩ d).trans ?_
  have hr : 256 * ((r : ℕ) / 256) + (r : ℕ) % 256 = r := by omega
  have hy : (fun d : Fin 1024 => Ideal.ofBits .f32 0x3F9837F0#32 * blk3 I.vc 1 256 1024 0 (256 * ((r : ℕ) / 256)) 0 (ix3 0 ⟨(r : ℕ) % 256, by omega⟩ d)
      + accUp I ((r : ℕ) / 256) 10 (ix2 ⟨(r : ℕ) % 256, by omega⟩ d)) = yS (hT I) (wT I) (cwT I) (cbT I) (wdT I) r := by
    funext d
    unfold yS
    rw [accUp_eq I (by omega) _ d 10 (by omega), hext_mid I r.isLt d]
    refine congrArg₂ (· + ·) (congrArg (_ * ·) ?_) ?_
    · show I.vc (mk3 1 512 1024 (0 + 0) (256 * ((r : ℕ) / 256) + (r : ℕ) % 256) (0 + (d : ℕ))) = _
      rw [hr, Nat.zero_add, Nat.zero_add, mk3_eq (by omega) r.isLt d.isLt]
      rfl
    · show ∑ k ∈ Finset.range 2816, dnT I (256 * ((r : ℕ) / 256) + (r : ℕ) % 256) d k = _
      rw [hr, Finset.sum_range]
      refine Finset.sum_congr rfl fun k _ => ?_
      unfold dnT
      rw [dif_pos k.isLt]
  have hg : (fun d : Fin 1024 => blk2 I.w5 1 1024 0 0 (ix2 0 d)) = gT I := by
    funext d
    show I.w5 (mk2 1 1024 (0 + 0) (0 + (d : ℕ))) = _
    rw [Nat.zero_add, Nat.zero_add]; rfl
  have hb : (fun d : Fin 1024 => blk2 I.w6 1 1024 0 0 (ix2 0 d)) = bT I := by
    funext d
    show I.w6 (mk2 1 1024 (0 + 0) (0 + (d : ℕ))) = _
    rw [Nat.zero_add, Nat.zero_add]; rfl
  rw [hy, hg, hb]

end Cert.Proof.Ffn

end
-- ==== Proof.ValOut.lean ====
/-
  The output array of the kernel's call over the extended reals: the feed-forward block's value at every element.
-/
module

public import proofs.«01_k».proof.Proof.Launch
public import proofs.«01_k».proof.Proof.KerRead
public import Idealize.ShloMosaic.Lib.Claim

@[expose] public section

set_option maxRecDepth 16384

noncomputable section

namespace Cert.Proof.Ffn

open Cert.KernelIdeal Cert.KernelIdeal.Gen
open Idealize.ShloMosaic
open Idealize.ShloMosaic.TcCoe

/-! ## What the region finds -/

section Entry
variable (m : (ℓ : Loc nD τ sig) → Buf (Elt Ideal) ℓ) (c : Dev nD)

theorem entry1 (k : Fin 1024) (e : Fin 5632) :
    (V m c main_v1 : S1024x5632.Idx → EReal) (ix2 k e) = (m ((c : Thread nD τ).loc main_arg1) : S1x1024x5632.Idx → EReal) (ix3 0 k e) := by
  entry_read
  pointwise
theorem entry3 (e : Fin 5632) :
    (V m c main_v3 : S1x5632.Idx → EReal) (ix2 0 e) = (m ((c : Thread nD τ).loc main_arg3) : S1x5632.Idx → EReal) (ix2 0 e) := by
  entry_read
  pointwise
theorem entry5 (k : Fin 2816) (d : Fin 1024) :
    (V m c main_v5 : S2816x1024.Idx → EReal) (ix2 k d) = (m ((c : Thread nD τ).loc main_arg4) : S1x2816x1024.Idx → EReal) (ix3 0 k d) := by
  entry_read
  pointwise
theorem entry7 (d : Fin 1024) :
    (V m c main_v7 : S1x1024.Idx → EReal) (ix2 0 d) = (m ((c : Thread nD τ).loc main_arg5) : S1x1024.Idx → EReal) (ix2 0 d) := by
  entry_read
  pointwise
theorem entry9 (d : Fin 1024) :
    (V m c main_v9 : S1x1024.Idx → EReal) (ix2 0 d) = (m ((c : Thread nD τ).loc main_arg6) : S1x1024.Idx → EReal) (ix2 0 d) := by
  entry_read
  pointwise

theorem iblk0 (t : Fin cfg0.N) (k : Fin 1024) (e : Fin 5632) :
    (iblk m c 0 t : S1024x5632.Idx → EReal) (ix2 k e) = (V m c main_v1 : S1024x5632.Idx → EReal) (ix2 k e) :=
  congrArg (V m c main_v1 : S1024x5632.Idx → EReal) (idx2_ext
    (by show 0 * 1024 + 1 * (k : ℕ) = k; omega) (by show 0 * 5632 + 1 * (e : ℕ) = e; omega))
theorem iblk1 (t : Fin cfg0.N) (k : Fin 3) (e : Fin 5632) :
    (iblk m c 1 t : S1x3x5632.Idx → EReal) (ix3 0 k e) = (V m c main_arg2 : S1x3x5632.Idx → EReal) (ix3 0 k e) :=
  congrArg (V m c main_arg2 : S1x3x5632.Idx → EReal) (idx3_ext rfl
    (by show 0 * 3 + 1 * (k : ℕ) = k; omega) (by show 0 * 5632 + 1 * (e : ℕ) = e; omega))
theorem iblk2 (t : Fin cfg0.N) (e : Fin 5632) :
    (iblk m c 2 t : S1x5632.Idx → EReal) (ix2 0 e) = (V m c main_v3 : S1x5632.Idx → EReal) (ix2 0 e) :=
  congrArg (V m c main_v3 : S1x5632.Idx → EReal) (idx2_ext rfl (by show 0 * 5632 + 1 * (e : ℕ) = e; omega))
theorem iblk3 (t : Fin cfg0.N) (k : Fin 2816) (e : Fin 1024) :
    (iblk m c 3 t : S2816x1024.Idx → EReal) (ix2 k e) = (V m c main_v5 : S2816x1024.Idx → EReal) (ix2 k e) :=
  congrArg (V m c main_v5 : S2816x1024.Idx → EReal) (idx2_ext
    (by show 0 * 2816 + 1 * (k : ℕ) = k; omega) (by show 0 * 1024 + 1 * (e : ℕ) = e; omega))
theorem iblk4 (t : Fin cfg0.N) (e : Fin 1024) :
    (iblk m c 4 t : S1x1024.Idx → EReal) (ix2 0 e) = (V m c main_v7 : S1x1024.Idx → EReal) (ix2 0 e) :=
  congrArg (V m c main_v7 : S1x1024.Idx → EReal) (idx2_ext rfl (by show 0 * 1024 + 1 * (e : ℕ) = e; omega))
theorem iblk5 (t : Fin cfg0.N) (e : Fin 1024) :
    (iblk m c 5 t : S1x1024.Idx → EReal) (ix2 0 e) = (V m c main_v9 : S1x1024.Idx → EReal) (ix2 0 e) :=
  congrArg (V m c main_v9 : S1x1024.Idx → EReal) (idx2_ext rfl (by show 0 * 1024 + 1 * (e : ℕ) = e; omega))

end Entry

/-! ## The output array, tile by tile -/

section Tiles
variable (E : Env Ideal)

theorem blO_emb {t : ℕ} (ht : t < 32) (r : Fin 512) (d : Fin 1024) :
    (blO t).view.emb (ix3 0 r d) = (ix3 ⟨t / 8, by omega⟩ ⟨512 * (t % 8) + r, by omega⟩ d : S4x4096x1024.Idx) := by
  refine idx3_ext ?_ ?_ ?_
  · show oC t 0 + 1 * 0 = t / 8
    show t / 8 % 4 + 1 * 0 = t / 8
    omega
  · show 512 * (t % 8) + 1 * (r : ℕ) = 512 * (t % 8) + r
    omega
  · show 0 + 1 * (d : ℕ) = d
    omega

theorem G_last {t : ℕ} (y : S1x512x1024.Idx) : E.G (t + 1) ((blO t).view.emb y) = outTile (E.it t) y := by
  rw [Env.G]
  exact View.write_emb_of_mem (v := (blO t).view) _ _ (Finset.mem_univ y)

theorem G_next {t u : ℕ} (ht : t < 32) (hu : u < 32) (h : t ≠ u) (y : S1x512x1024.Idx) :
    E.G (u + 1) ((blO t).view.emb y) = E.G u ((blO t).view.emb y) := by
  have hd := blO_disjoint (t := t) (u := u) ht hu h
  rw [Env.G]
  exact View.write_of_not_mem (v := (blO u).view) _ _ _ (Finset.disjoint_left.mp hd ((blO t).view.emb_mem_set y))

theorem G_block {t : ℕ} (ht : t < 32) (y : S1x512x1024.Idx) (n : ℕ) (hn : t + 1 + n ≤ 32) :
    E.G (t + 1 + n) ((blO t).view.emb y) = outTile (E.it t) y := by
  induction n with
  | zero => exact G_last E y
  | succ n ih => exact (G_next E (u := t + 1 + n) ht (by omega) (by omega) y).trans (ih (by omega))

theorem G_apply (b : Fin 4) (s : Fin 4096) (d : Fin 1024) :
    (E.G 32 : S4x4096x1024.Idx → EReal) (ix3 b s d)
      = outTile (E.it (8 * b + s / 512)) (ix3 0 ⟨s % 512, by omega⟩ d) := by
  have h := G_block E (t := 8 * b + s / 512) (by omega) (ix3 0 ⟨s % 512, by omega⟩ d) (31 - (8 * b + s / 512)) (by omega)
  rw [show 8 * (b : ℕ) + s / 512 + 1 + (31 - (8 * b + s / 512)) = 32 by omega, blO_emb (by omega)] at h
  have e : (ix3 b s d : S4x4096x1024.Idx) = ix3 ⟨(8 * (b : ℕ) + s / 512) / 8, by omega⟩
      ⟨512 * ((8 * (b : ℕ) + s / 512) % 8) + s % 512, by omega⟩ d := by
    refine idx3_ext ?_ ?_ rfl
    · show (b : ℕ) = (8 * b + s / 512) / 8
      omega
    · show (s : ℕ) = 512 * ((8 * b + s / 512) % 8) + s % 512
      omega
  rw [e]
  exact h

/-- The rows of tile `t` of the input with their neighbours: rows of the sequence, and zeros beyond its ends. -/
theorem hT_eq {t : ℕ} (ht : t < 32) {n : ℕ} (hn : n < 514) (k : Fin 1024) :
    hT (E.it t) n k = xrow E.fa ⟨t / 8, by omega⟩ (512 * (t % 8) + n) k := by
  unfold xrow
  by_cases h0 : n = 0
  · subst h0
    rw [hext_first]
    have hix : (Scalar.cmpi .sgt (E.it t).ix 0#32 = 1#1) ↔ t % 8 ≠ 0 := by
      show (Scalar.cmpi .sgt (Scalar.addi (cJ t) 0#32) 0#32 = 1#1) ↔ t % 8 ≠ 0
      unfold cJ
      have : t % 8 < 8 := by omega
      generalize t % 8 = j at *
      interval_cases j <;> decide
    by_cases hj : t % 8 = 0
    · rw [if_neg (fun h => hix.mp h hj), dif_neg (by omega)]
    · rw [if_pos (hix.mpr hj), dif_pos (show 1 ≤ 512 * (t % 8) + 0 ∧ 512 * (t % 8) + 0 ≤ 4096 from ⟨by omega, by omega⟩)]
      refine congrArg (E.fa : S4x4096x1024.Idx → EReal) (idx3_ext ?_ ?_ ?_)
      · show t / 8 % 4 + 1 * 0 = t / 8
        omega
      · show 16 * (32 * (t % 8) - 1) + 1 * 15 = 512 * (t % 8) + 0 - 1
        omega
      · show 0 + 1 * (k : ℕ) = k
        omega
  by_cases h1 : n = 513
  · subst h1
    rw [hext_last]
    have hix : (Scalar.cmpi .slt (E.it t).ix 7#32 = 1#1) ↔ t % 8 ≠ 7 := by
      show (Scalar.cmpi .slt (Scalar.addi (cJ t) 0#32) 7#32 = 1#1) ↔ t % 8 ≠ 7
      unfold cJ
      have : t % 8 < 8 := by omega
      generalize t % 8 = j at *
      interval_cases j <;> decide
    by_cases hj : t % 8 = 7
    · rw [if_neg (fun h => hix.mp h hj), dif_neg (by omega)]
    · rw [if_pos (hix.mpr hj), dif_pos (show 1 ≤ 512 * (t % 8) + 513 ∧ 512 * (t % 8) + 513 ≤ 4096 from ⟨by omega, by omega⟩)]
      refine congrArg (E.fa : S4x4096x1024.Idx → EReal) (idx3_ext ?_ ?_ ?_)
      · show t / 8 % 4 + 1 * 0 = t / 8
        omega
      · show 16 * min (32 * (t % 8) + 32) 255 + 1 * 0 = 512 * (t % 8) + 513 - 1
        omega
      · show 0 + 1 * (k : ℕ) = k
        omega
  obtain ⟨n, rfl⟩ : ∃ n', n = n' + 1 := ⟨n - 1, by omega⟩
  rw [hext_mid (E.it t) (show n < 512 by omega), dif_pos (show 1 ≤ 512 * (t % 8) + (n + 1) ∧ 512 * (t % 8) + (n + 1) ≤ 4096 from ⟨by omega, by omega⟩)]
  refine congrArg (E.fa : S4x4096x1024.Idx → EReal) (idx3_ext ?_ ?_ ?_)
  · show t / 8 % 4 + 1 * 0 = t / 8
    omega
  · show 512 * (t % 8) + 1 * n = 512 * (t % 8) + (n + 1) - 1
    omega
  · show 0 + 1 * (k : ℕ) = k
    omega

end Tiles

/-! ## The weights, and the whole -/

section Weights
variable {F : FTy → Type} [FloatOps F] (m : (ℓ : Loc nD τ sig) → Buf (Elt F) ℓ) (c : Dev nD)
theorem it_w1 (u : Fin cfg0.N) (t : ℕ) : ((env m c u).it t).w1 = iblk m c 0 u := by
  have h : (st0_0 u).view.read (Elt F) ((st0_0 u).view.rep (iblk m c 0 u)) = iblk m c 0 u := View.read_rep _ _
  dsimp only [Env.it, env]
  exact h
theorem it_w2 (u : Fin cfg0.N) (t : ℕ) : ((env m c u).it t).w2 = iblk m c 1 u := by
  have h : (st0_1 u).view.read (Elt F) ((st0_1 u).view.rep (iblk m c 1 u)) = iblk m c 1 u := View.read_rep _ _
  dsimp only [Env.it, env]
  exact h
theorem it_w3 (u : Fin cfg0.N) (t : ℕ) : ((env m c u).it t).w3 = iblk m c 2 u := by
  have h : (st0_2 u).view.read (Elt F) ((st0_2 u).view.rep (iblk m c 2 u)) = iblk m c 2 u := View.read_rep _ _
  dsimp only [Env.it, env]
  exact h
theorem it_w4 (u : Fin cfg0.N) (t : ℕ) : ((env m c u).it t).w4 = iblk m c 3 u := by
  have h : (st0_3 u).view.read (Elt F) ((st0_3 u).view.rep (iblk m c 3 u)) = iblk m c 3 u := View.read_rep _ _
  dsimp only [Env.it, env]
  exact h
theorem it_w5 (u : Fin cfg0.N) (t : ℕ) : ((env m c u).it t).w5 = iblk m c 4 u := by
  have h : (st0_4 u).view.read (Elt F) ((st0_4 u).view.rep (iblk m c 4 u)) = iblk m c 4 u := View.read_rep _ _
  dsimp only [Env.it, env]
  exact h
theorem it_w6 (u : Fin cfg0.N) (t : ℕ) : ((env m c u).it t).w6 = iblk m c 5 u := by
  have h : (st0_5 u).view.read (Elt F) ((st0_5 u).view.rep (iblk m c 5 u)) = iblk m c 5 u := View.read_rep _ _
  dsimp only [Env.it, env]
  exact h
end Weights

section Out
variable (m : (ℓ : Loc nD τ sig) → Buf (Elt Ideal) ℓ) (c : Dev nD)

theorem wT_eq (t : ℕ) : wT ((env m c t0_0).it t) = fun k e => (m ((c : Thread nD τ).loc main_arg1) : S1x1024x5632.Idx → EReal) (ix3 0 k e) := by
  funext k e
  unfold wT
  rw [it_w1, mk2_eq k.isLt e.isLt]
  exact (iblk0 m c t0_0 k e).trans (entry1 m c k e)

theorem cwT_eq (t : ℕ) : cwT ((env m c t0_0).it t) = fun k e => (m ((c : Thread nD τ).loc main_arg2) : S1x3x5632.Idx → EReal) (ix3 0 k e) := by
  funext k e
  unfold cwT
  rw [it_w2, mk3_eq (by omega) k.isLt e.isLt]
  exact (iblk1 m c t0_0 k e).trans (congrFun (V_main_arg2 m c) _)

theorem cbT_eq (t : ℕ) : cbT ((env m c t0_0).it t) = fun e => (m ((c : Thread nD τ).loc main_arg3) : S1x5632.Idx → EReal) (ix2 0 e) := by
  funext e
  unfold cbT
  rw [it_w3, mk2_eq (by omega) e.isLt]
  exact (iblk2 m c t0_0 e).trans (entry3 m c e)

theorem wdT_eq (t : ℕ) : wdT ((env m c t0_0).it t) = fun k d => (m ((c : Thread nD τ).loc main_arg4) : S1x2816x1024.Idx → EReal) (ix3 0 k d) := by
  funext k d
  unfold wdT
  rw [it_w4, mk2_eq k.isLt d.isLt]
  exact (iblk3 m c t0_0 k d).trans (entry5 m c k d)

theorem gT_eq (t : ℕ) : gT ((env m c t0_0).it t) = fun d => (m ((c : Thread nD τ).loc main_arg5) : S1x1024.Idx → EReal) (ix2 0 d) := by
  funext d
  unfold gT
  rw [it_w5, mk2_eq (by omega) d.isLt]
  exact (iblk4 m c t0_0 d).trans (entry7 m c d)

theorem bT_eq (t : ℕ) : bT ((env m c t0_0).it t) = fun d => (m ((c : Thread nD τ).loc main_arg6) : S1x1024.Idx → EReal) (ix2 0 d) := by
  funext d
  unfold bT
  rw [it_w6, mk2_eq (by omega) d.isLt]
  exact (iblk5 m c t0_0 d).trans (entry9 m c d)

/-- Every element of the output. -/
theorem OUT_apply (b : Fin 4) (s : Fin 4096) (d : Fin 1024) :
    (OUT m c : S4x4096x1024.Idx → EReal) (ix3 b s d)
      = lnS (yS (xrow (m ((c : Thread nD τ).loc main_arg0)) b)
          (fun k e => (m ((c : Thread nD τ).loc main_arg1) : S1x1024x5632.Idx → EReal) (ix3 0 k e))
          (fun k e => (m ((c : Thread nD τ).loc main_arg2) : S1x3x5632.Idx → EReal) (ix3 0 k e))
          (fun e => (m ((c : Thread nD τ).loc main_arg3) : S1x5632.Idx → EReal) (ix2 0 e))
          (fun k d => (m ((c : Thread nD τ).loc main_arg4) : S1x2816x1024.Idx → EReal) (ix3 0 k d)) s)
          (fun d => (m ((c : Thread nD τ).loc main_arg5) : S1x1024.Idx → EReal) (ix2 0 d))
          (fun d => (m ((c : Thread nD τ).loc main_arg6) : S1x1024.Idx → EReal) (ix2 0 d)) d := by
  have ht : 8 * (b : ℕ) + s / 512 < 32 := by omega
  have hb : (⟨(8 * (b : ℕ) + s / 512) / 8, by omega⟩ : Fin 4) = b := Fin.ext (by show (8 * (b : ℕ) + s / 512) / 8 = b; omega)
  have hX : ∀ n k, n < 514 → hT ((env m c t0_0).it (8 * b + s / 512)) n k
      = xrow (m ((c : Thread nD τ).loc main_arg0)) b (512 * (s / 512) + n) k := fun n k hn => by
    rw [hT_eq _ ht hn k, hb, show (8 * (b : ℕ) + s / 512) % 8 = s / 512 by omega]
    show xrow (V m c main_arg0) b _ k = _
    rw [V_main_arg0]
  refine (G_apply (env m c t0_0) b s d).trans ?_
  rw [outTile_eq, wT_eq, cwT_eq, cbT_eq, wdT_eq, gT_eq, bT_eq]
  refine congrArg (fun y => lnS y _ _ d) (funext fun d => yS_congr (fun k => ?_) (fun k => ?_) (fun k => ?_) d)
  · refine (hX (s % 512) k (by omega)).trans (congrArg (fun n => xrow _ b n k) ?_)
    omega
  · refine (hX (s % 512 + 1) k (by omega)).trans (congrArg (fun n => xrow _ b n k) ?_)
    omega
  · refine (hX (s % 512 + 2) k (by omega)).trans (congrArg (fun n => xrow _ b n k) ?_)
    omega

end Out

end Cert.Proof.Ffn

end
-- ==== Proof.lean ====
/-
  The claims of this certificate, assembled.
-/
module

public import proofs.«01_k».proof.Defs
public import proofs.«01_k».proof.Proof.Frames
public import proofs.«01_k».proof.Proof.RefRead
public import proofs.«01_k».proof.Proof.ValOut
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem Cert.Kernel

/-- The reference runs without fault, leaves its arguments as they were, and has no semaphore that could be left
    raised. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.ReferenceIdeal.Value.run (F := Ideal) m ρ)

/-- From the same arguments, element for element, the reference's result is the kernel's. -/
theorem out_eq (m : (ℓ : Loc Cert.KernelIdeal.nD Cert.KernelIdeal.τ Cert.KernelIdeal.sig) → Buf (Elt Ideal) ℓ)
    (c : Dev Cert.KernelIdeal.nD) :
    Cert.ReferenceIdeal.Read.val_main_v62 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
      = (Ffn.OUT m c : Cert.KernelIdeal.S4x4096x1024.Idx → EReal) := by
  funext y
  have hy : y = (ix3 (y 0) (y 1) (y 2) : Cert.KernelIdeal.S4x4096x1024.Idx) := Ffn.idx3_ext rfl rfl rfl
  rw [hy]
  exact (Ffn.Ref.v62_apply _ _ _ _ _ _ _ _ _ _).trans (Ffn.OUT_apply m c _ _ _).symm

/-- The kernel's call and the reference compute the same array over the extended reals. -/
theorem value : Cert.algebraic_KernelIdeal_ReferenceIdeal (hKernelIdeal := Cert.KernelIdeal.Gen.facts)
    (hReferenceIdeal := Cert.ReferenceIdeal.Gen.facts) := by
  intro m g m' g' _ hagree
  refine ⟨fun c => Ffn.OUT m c, (θ_run _ _ _).mono (fun _ h => h.1) (Ffn.run m g),
    (θ_run Cert.ReferenceIdeal.defs _ _).mono (fun r h c => ⟨(h c).1.trans ?_, (h c).2⟩) (Cert.ReferenceIdeal.Value.run (F := Ideal) m' g')⟩
  obtain ⟨h0, h1, h2, h3, h4, h5, h6⟩ := hagree c
  rw [Cert.ReferenceIdeal.Read.val_main_v62_eq, h0, h1, h2, h3, h4, h5, h6]
  exact out_eq m c

theorem claim : Cert.Claim := ⟨Cert.Kernel.Gen.facts, Cert.KernelIdeal.Gen.facts, Cert.ReferenceIdeal.Gen.facts,
  Ffn.frame_kernel, Ffn.frame_ideal, frame_reference, trivial, value⟩

end Cert.Proof

end
